-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pack.Statement Cert.KernelIdeal.S256x8
  ∧ IdealRules.bf16_pack.Statement Cert.KernelIdeal.S128x128

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25_0) = v0 c
          ∧ r.2.mem ((c.tc : Thread Cert.ReferenceIdeal.nD Cert.ReferenceIdeal.τ).loc Cert.ReferenceIdeal.main_v25_1) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S256x5120 : Shape := ⟨2, ![256, 5120]⟩
abbrev S256 : Shape := ⟨1, ![256]⟩
abbrev S2048x5120 : Shape := ⟨2, ![2048, 5120]⟩
abbrev S2048x40 : Shape := ⟨2, ![2048, 40]⟩
abbrev S256x8 : Shape := ⟨2, ![256, 8]⟩
abbrev S2048 : Shape := ⟨1, ![2048]⟩
abbrev S2048x2048 : Shape := ⟨2, ![2048, 2048]⟩
abbrev S_ : Shape := ⟨0, ![]⟩
abbrev S256x1 : Shape := ⟨2, ![256, 1]⟩

class Facts : Prop where
  bcast_S2048_S2048x2048_0 : S2048.BroadcastsInDim S2048x2048 (![0] : Fin 1 → Fin S2048x2048.rank)
  bcast_S2048_S2048x2048_1 : S2048.BroadcastsInDim S2048x2048 (![1] : Fin 1 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S256_S256x1_0 : S256.BroadcastsInDim S256x1 (![0] : Fin 1 → Fin S256x1.rank)
  bcast_S256x1_S256x8_0_1 : S256x1.BroadcastsInDim S256x8 (![0, 1] : Fin 2 → Fin S256x8.rank)
  bcast_S_S256x8 : S_.BroadcastsInDim S256x8 (![] : Fin 0 → Fin S256x8.rank)
  reducesTo_S256x8_S_d0_1 : S256x8.ReducesTo [0, 1] S_

variable [Facts]

def fn_part1 {F : FTy → Type} [FloatOps F] (main_v7 : IVec S_ 1) (main_v13 : IVec S_ 1) (main_v17 : FVec F S256x8 .f32) (main_v18 : FVec F S256x8 .f32) : IVec S_ 1 :=
  let main_v19 : IVec S256x8 1 := cmpf .olt main_v17 main_v18
  let main_c_3 : IVec S_ 1 := constantI S_ 1 1#1
  let main_v20 : IVec S_ 1 := (fun x v => Host.reduce IntOp.andi x v reducesTo_S256x8_S_d0_1 h_S_) main_v19 main_c_3
  let main_v21 : IVec S_ 1 := andi main_v7 main_v13
  let main_v22 : IVec S_ 1 := andi main_v21 main_v20
  main_v22

def fn {F : FTy → Type} [FloatOps F] (main_arg0 : FVec F S256x5120 .fp8e5m2) (main_arg1 : FVec F S256 .f32) (main_arg2 : FVec F S2048x5120 .fp8e4m3) (main_arg3 : FVec F S2048x40 .f32) (main_arg4 : FVec F S256x8 .f32) (main_arg5 : IVec S2048 32) : IVec S_ 1 :=
  let main_v0 : IVec S2048x2048 32 := broadcastInDim S2048x2048 ![0] bcast_S2048_S2048x2048_0 main_arg5
  let main_v1 : IVec S2048x2048 32 := broadcastInDim S2048x2048 ![1] bcast_S2048_S2048x2048_1 main_arg5
  let main_v2 : IVec S2048x2048 32 := iotaInDim S2048x2048 32 0
  let main_v3 : IVec S2048x2048 32 := iotaInDim S2048x2048 32 1
  let main_v4 : IVec S2048x2048 1 := cmpi .ne main_v0 main_v1
  let main_v5 : IVec S2048x2048 1 := cmpi .eq main_v2 main_v3
  let main_v6 : IVec S2048x2048 1 := ori main_v4 main_v5
  let main_c : IVec S_ 1 := constantI S_ 1 1#1
  let main_v7 : IVec S_ 1 := (fun x v => Host.reduce IntOp.andi x v reducesTo_S2048x2048_S_d0_1 h_S_) main_v6 main_c
  let main_c_0 : IVec S_ 32 := constantI S_ 32 0#32
  let main_v8 : IVec S2048 32 := broadcastInDim S2048 ![] bcast_S_S2048 main_c_0
  let main_v9 : IVec S2048 1 := cmpi .sge main_arg5 main_v8
  let main_c_1 : IVec S_ 32 := constantI S_ 32 2048#32
  let main_v10 : IVec S2048 32 := broadcastInDim S2048 ![] bcast_S_S2048 main_c_1
  let main_v11 : IVec S2048 1 := cmpi .slt main_arg5 main_v10
  let main_v12 : IVec S2048 1 := andi main_v9 main_v11
  let main_c_2 : IVec S_ 1 := constantI S_ 1 1#1
  let main_v13 : IVec S_ 1 := (fun x v => Host.reduce IntOp.andi x v reducesTo_S2048_S_d0 h_S_) main_v12 main_c_2
  let main_v14 : FVec F S256x1 .f32 := broadcastInDim S256x1 ![0] bcast_S256_S256x1_0 main_arg1
  let main_v15 : FVec F S256x8 .f32 := broadcastInDim S256x8 ![0, 1] bcast_S256x1_S256x8_0_1 main_v14
  let main_v16 : FVec F S256x8 .f32 := mulf main_arg4 main_v15
  let main_v17 : FVec F S256x8 .f32 := Host.absf main_v16
  let main_cst : FVec F S_ .f32 := constant S_ .f32 0x7F800000#32
  let main_v18 : FVec F S256x8 .f32 := broadcastInDim S256x8 ![] bcast_S_S256x8 main_cst
  fn_part1 (F := F) main_v7 main_v13 main_v17 main_v18
-- ==== Kernel.lean ====
abbrev S256x5120 : Shape := ⟨2, ![256, 5120]⟩
abbrev S256 : Shape := ⟨1, ![256]⟩
abbrev S2048x5120 : Shape := ⟨2, ![2048, 5120]⟩
abbrev S2048x40 : Shape := ⟨2, ![2048, 40]⟩
abbrev S256x8 : Shape := ⟨2, ![256, 8]⟩
abbrev S2048 : Shape := ⟨1, ![2048]⟩
abbrev S16x128 : Shape := ⟨2, ![16, 128]⟩
abbrev S256x1 : Shape := ⟨2, ![256, 1]⟩
abbrev S256x512 : Shape := ⟨2, ![256, 512]⟩
abbrev S2048x512 : Shape := ⟨2, ![2048, 512]⟩
abbrev S2048x256 : Shape := ⟨2, ![2048, 256]⟩
abbrev S2048x128 : Shape := ⟨2, ![2048, 128]⟩
abbrev S128x128 : Shape := ⟨2, ![128, 128]⟩
abbrev S128x16 : Shape := ⟨2, ![128, 16]⟩
abbrev S128x256 : Shape := ⟨2, ![128, 256]⟩
abbrev S256x128 : Shape := ⟨2, ![256, 128]⟩
abbrev S256x40 : Shape := ⟨2, ![256, 40]⟩
abbrev S256x64 : Shape := ⟨2, ![256, 64]⟩
abbrev S128x1 : Shape := ⟨2, ![128, 1]⟩
abbrev S128 : Shape := ⟨1, ![128]⟩
abbrev S128x40 : Shape := ⟨2, ![128, 40]⟩
abbrev S128x88 : Shape := ⟨2, ![128, 88]⟩
abbrev S128x512 : Shape := ⟨2, ![128, 512]⟩
abbrev S8x256 : Shape := ⟨2, ![8, 256]⟩

abbrev nBuf : Space → Nat
  | .hbm => 11
  | .vmem => 17
  | .smem => 0
  | _ => 0

abbrev bufTy : (tb : Table) → Fin (tcTables nBuf tb) → BufTy
  | .hbm, ⟨0, _⟩ => ⟨S256x5120, .fp8e5m2⟩
  | .hbm, ⟨1, _⟩ => ⟨S256, .f32⟩
  | .hbm, ⟨2, _⟩ => ⟨S2048x5120, .fp8e4m3⟩
  | .hbm, ⟨3, _⟩ => ⟨S2048x40, .f32⟩
  | .hbm, ⟨4, _⟩ => ⟨S256x8, .f32⟩
  | .hbm, ⟨5, _⟩ => ⟨S2048, .i32⟩
  | .hbm, ⟨6, _⟩ => ⟨S16x128, .i32⟩
  | .hbm, ⟨7, _⟩ => ⟨S256x1, .f32⟩
  | .hbm, ⟨8, _⟩ => ⟨S2048x5120, .fp8e5m2⟩
  | .hbm, ⟨9, _⟩ => ⟨S2048x40, .f32⟩
  | .hbm, ⟨10, _⟩ => ⟨S256x8, .f32⟩
  | .local _ .vmem, ⟨0, _⟩ => ⟨S16x128, .i32⟩
  | .local _ .vmem, ⟨1, _⟩ => ⟨S256x8, .f32⟩
  | .local _ .vmem, ⟨2, _⟩ => ⟨S256x1, .f32⟩
  | .local _ .vmem, ⟨3, _⟩ => ⟨S256x5120, .fp8e5m2⟩
  | .local _ .vmem, ⟨4, _⟩ => ⟨S256x512, .fp8e5m2⟩
  | .local _ .vmem, ⟨5, _⟩ => ⟨S256x512, .fp8e5m2⟩
  | .local _ .vmem, ⟨6, _⟩ => ⟨S2048x40, .f32⟩
  | .local _ .vmem, ⟨7, _⟩ => ⟨S2048x512, .fp8e4m3⟩
  | .local _ .vmem, ⟨8, _⟩ => ⟨S2048x512, .fp8e4m3⟩
  | .local _ .vmem, ⟨9, _⟩ => ⟨S2048x512, .fp8e5m2⟩
  | .local _ .vmem, ⟨10, _⟩ => ⟨S2048x512, .fp8e5m2⟩
  | .local _ .vmem, ⟨11, _⟩ => ⟨S2048x40, .f32⟩
  | .local _ .vmem, ⟨12, _⟩ => ⟨S256x8, .f32⟩
  | .local _ .vmem, ⟨13, _⟩ => ⟨S2048x256, .fp8e5m2⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S256x5120, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [BitOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c9_i32 : BitVec 32 := 9#32
  let v1536 : BitVec 1 := Scalar.cmpi .eq arg0 c9_i32
  let v1537 : BitVec 32 := Scalar.extui v1536
  let c0_i32_581 : BitVec 32 := 0#32
  let v1538 : BitVec 1 := Scalar.cmpi .ne v1537 c0_i32_581
  v1538

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x5120 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F]
-- ==== ReferenceIdeal.lean ====
abbrev S256x5120 : Shape := ⟨2, ![256, 5120]⟩
abbrev S256 : Shape := ⟨1, ![256]⟩
abbrev S2048x5120 : Shape := ⟨2, ![2048, 5120]⟩
abbrev S2048x40 : Shape := ⟨2, ![2048, 40]⟩
abbrev S256x8 : Shape := ⟨2, ![256, 8]⟩
abbrev S2048 : Shape := ⟨1, ![2048]⟩
abbrev S_ : Shape := ⟨0, ![]⟩
abbrev S2048x1 : Shape := ⟨2, ![2048, 1]⟩
abbrev S2048x40x128 : Shape := ⟨3, ![2048, 40, 128]⟩
abbrev S2048x40x1 : Shape := ⟨3, ![2048, 40, 1]⟩

abbrev nBuf : Space → Nat
  | .hbm => 70
  | .vmem => 8
  | .smem => 0
  | _ => 0

abbrev bufTy : (tb : Table) → Fin (tcTables nBuf tb) → BufTy
  | .hbm, ⟨0, _⟩ => ⟨S256x5120, .fp8e5m2⟩
  | .hbm, ⟨1, _⟩ => ⟨S256, .f32⟩
  | .hbm, ⟨2, _⟩ => ⟨S2048x5120, .fp8e4m3⟩
  | .hbm, ⟨3, _⟩ => ⟨S2048x40, .f32⟩
  | .hbm, ⟨4, _⟩ => ⟨S256x8, .f32⟩
  | .hbm, ⟨5, _⟩ => ⟨S2048, .i32⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048, .f32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048, .f32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S2048x1, .i32⟩
  | .hbm, ⟨42, _⟩ => ⟨S2048x5120, .fp8e5m2⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S2048, .i32⟩
  | .hbm, ⟨48, _⟩ => ⟨S2048, .i32⟩
  | .hbm, ⟨49, _⟩ => ⟨S2048, .i32⟩
  | .hbm, ⟨50, _⟩ => ⟨S2048x1, .i32⟩
  | .hbm, ⟨51, _⟩ => ⟨S2048, .f32⟩
  | .hbm, ⟨52, _⟩ => ⟨S2048x1, .f32⟩
  | .hbm, ⟨53, _⟩ => ⟨S2048x1, .f32⟩
  | .hbm, ⟨54, _⟩ => ⟨S2048x5120, .fp8e5m2⟩
  | .hbm, ⟨55, _⟩ => ⟨S2048x40, .f32⟩
  | .hbm, ⟨56, _⟩ => ⟨S2048x1, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .i32⟩
  | .hbm, ⟨67, _⟩ => ⟨S2048x1, .i32⟩
  | .hbm, ⟨68, _⟩ => ⟨S2048, .f32⟩
  | .hbm, ⟨69, _⟩ => ⟨S256x8, .f32⟩
  | .local _ .vmem, ⟨0, _⟩ => ⟨S2048x5120, .fp8e5m2⟩
  | .local _ .vmem, ⟨1, _⟩ => ⟨S2048x1, .f32⟩
  | .local _ .vmem, ⟨2, _⟩ => ⟨S2048x1, .f32⟩
  | .local _ .vmem, ⟨3, _⟩ => ⟨S2048x5120, .fp8e4m3⟩
  | .local _ .vmem, ⟨4, _⟩ => ⟨S2048x40, .f32⟩
  | .local _ .vmem, ⟨5, _⟩ => ⟨S2048x5120, .fp8e5m2⟩
  | .local _ .vmem, ⟨6, _⟩ => ⟨S2048x40, .f32⟩
  | .local _ .vmem, ⟨7, _⟩ => ⟨S2048x1, .f32⟩
  | _, _ => ⟨S256x5120, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25_0 : Ref sig .tc := ⟨.hbm, 54, rfl⟩
abbrev main_v25_1 : Ref sig .tc := ⟨.hbm, 55, rfl⟩
abbrev main_v25_2 : Ref sig .tc := ⟨.hbm, 56, rfl⟩
abbrev main_cst : Ref sig .tc := ⟨.hbm, 57, rfl⟩
abbrev main_v26 : Ref sig .tc := ⟨.hbm, 58, rfl⟩
abbrev main_v27 : Ref sig .tc := ⟨.hbm, 59, rfl⟩
abbrev main_c_6 : Ref sig .tc := ⟨.hbm, 60, rfl⟩
abbrev main_v28 : Ref sig .tc := ⟨.hbm, 61, rfl⟩
abbrev main_v29 : Ref sig .tc := ⟨.hbm, 62, rfl⟩
abbrev main_c_7 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x5120 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5120 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Kit.lean ====
/- What the kernel body's runs share: the branch conditions in closed form, the staging buffers and the scratch buffers as
   the body is passed them, and the region's invariant read as ownership of the scratch. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S16x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x5120 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x40 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x512 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x40 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x8 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2048x256 .fp8e5m2 := Memref.whole cc0_scratch0
abbrev scM0_1 : Memref sig .tc .vmem S2048x128 .f32 := Memref.whole cc0_scratch1
abbrev scM0_2 : Memref sig .tc .vmem S2048x128 .f32 := Memref.whole cc0_scratch2
abbrev scM0_3 : Memref sig .tc .vmem S2048x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.K.Runs.lean ====
/- The compiled kernel body run from beginning to end at each kind of grid point, with nothing said of what it computes. -/
module

public import proofs.«01_k».proof.Proof.K.Kit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- What the body is run on and gives back: the input blocks at their contents, every other staging buffer and every scratch buffer
    at some contents. -/
def held (c : Dev nD) (arg1 : Memref sig .tc .vmem S16x128 .i32) (arg2 : Memref sig .tc .vmem S256x8 .f32) (arg3 : Memref sig .tc .vmem S256x1 .f32) (arg4 : Memref sig .tc .vmem S256x5120 .fp8e5m2) (arg5 : Memref sig .tc .vmem S256x512 .fp8e5m2) (arg6 : Memref sig .tc .vmem S2048x40 .f32) (arg7 : Memref sig .tc .vmem S2048x512 .fp8e4m3) (arg8 : Memref sig .tc .vmem S2048x512 .fp8e5m2) (arg9 : Memref sig .tc .vmem S2048x40 .f32) (arg10 : Memref sig .tc .vmem S256x8 .f32) (arg11 : Memref sig .tc .vmem S2048x256 .fp8e5m2) (arg12 : Memref sig .tc .vmem S2048x128 .f32) (arg13 : Memref sig .tc .vmem S2048x128 .f32) (arg14 : Memref sig .tc .vmem S2048x128 .f32)
    (x0 : Vec F S16x128 .i32) (x1 : Vec F S256x8 .f32) (x2 : Vec F S256x1 .f32) (x3 : Vec F S256x5120 .fp8e5m2) (x4 : Vec F S256x512 .fp8e5m2) (x5 : Vec F S2048x40 .f32) (x6 : Vec F S2048x512 .fp8e4m3) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

set_option maxHeartbeats 3688000 in
/-- On whole staging buffers the body at the first point runs to its end and gives back what it was run on. -/
theorem bodyA (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec F S16x128 .i32) (x1 : Vec F S256x8 .f32) (x2 : Vec F S256x1 .f32) (x3 : Vec F S256x5120 .fp8e5m2) (x4 : Vec F S256x512 .fp8e5m2) (x5 : Vec F S2048x40 .f32) (x6 : Vec F S2048x512 .fp8e4m3)
    (E : Set ℕ) (K : PUnit → sProp 𝕄) :
    iprop(held c arg1 arg2 arg3 arg4 arg5 arg6 arg7 arg8 arg9 arg10 arg11 arg12 arg13 arg14 x0 x1 x2 x3 x4 x5 x6 ∗ (iprop(held c arg1 arg2 arg3 arg4 arg5 arg6 arg7 arg8 arg9 arg10 arg11 arg12 arg13 arg14 x0 x1 x2 x3 x4 x5 x6) -∗ K ⟨⟩))
      ⊢ wp frame (wpE (defs₀ (F := F)) Variants.none c none) E (cc0_combine_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_combine_bwd_eq_skeleton]; unfold cc0_combine_bwd_skel
  simp only [k0_part87_eq_skeleton, k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 3688000 in
/-- On whole staging buffers the body at an inner point runs to its end and gives back what it was run on. -/
theorem bodyB (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : ¬cond0_1 i)
    (x0 : Vec F S16x128 .i32) (x1 : Vec F S256x8 .f32) (x2 : Vec F S256x1 .f32) (x3 : Vec F S256x5120 .fp8e5m2) (x4 : Vec F S256x512 .fp8e5m2) (x5 : Vec F S2048x40 .f32) (x6 : Vec F S2048x512 .fp8e4m3)
    (E : Set ℕ) (K : PUnit → sProp 𝕄) :
    iprop(held c arg1 arg2 arg3 arg4 arg5 arg6 arg7 arg8 arg9 arg10 arg11 arg12 arg13 arg14 x0 x1 x2 x3 x4 x5 x6 ∗ (iprop(held c arg1 arg2 arg3 arg4 arg5 arg6 arg7 arg8 arg9 arg10 arg11 arg12 arg13 arg14 x0 x1 x2 x3 x4 x5 x6) -∗ K ⟨⟩))
      ⊢ wp frame (wpE (defs₀ (F := F)) Variants.none c none) E (cc0_combine_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_combine_bwd_eq_skeleton]; unfold cc0_combine_bwd_skel
  simp only [k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 3688000 in
/-- On whole staging buffers the body at the last point runs to its end and gives back what it was run on. -/
theorem bodyC (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : cond0_1 i)
    (x0 : Vec F S16x128 .i32) (x1 : Vec F S256x8 .f32) (x2 : Vec F S256x1 .f32) (x3 : Vec F S256x5120 .fp8e5m2) (x4 : Vec F S256x512 .fp8e5m2) (x5 : Vec F S2048x40 .f32) (x6 : Vec F S2048x512 .fp8e4m3)
    (E : Set ℕ) (K : PUnit → sProp 𝕄) :
    iprop(held c arg1 arg2 arg3 arg4 arg5 arg6 arg7 arg8 arg9 arg10 arg11 arg12 arg13 arg14 x0 x1 x2 x3 x4 x5 x6 ∗ (iprop(held c arg1 arg2 arg3 arg4 arg5 arg6 arg7 arg8 arg9 arg10 arg11 arg12 arg13 arg14 x0 x1 x2 x3 x4 x5 x6) -∗ K ⟨⟩))
      ⊢ wp frame (wpE (defs₀ (F := F)) Variants.none c none) E (cc0_combine_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_combine_bwd_eq_skeleton]; unfold cc0_combine_bwd_skel
  simp only [k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part86_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.Kernel.Gen

end
-- ==== Proof.K.Frame.lean ====
/- The compiled kernel's frame: it terminates, changes none of its arguments and leaves every counter at zero. -/
module

public import proofs.«01_k».proof.Proof.K.Runs
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A run whose final arrays are related to the region's leaves every argument array unchanged. -/
theorem frame_of_relation (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 4 rfl).trans ((hA c 4).trans (V_main_arg0 m c)),
      ((h c).2 main_arg1 (Pipeline.mem_restRefs_of main_arg1 (by decide) (by decide))).trans (V_main_arg1 m c),
      (Pipeline.RDat.FramePost.arr_in h c 6 rfl).trans ((hA c 6).trans (V_main_arg2 m c)),
      (Pipeline.RDat.FramePost.arr_in h c 5 rfl).trans ((hA c 5).trans (V_main_arg3 m c)),
      (Pipeline.RDat.FramePost.arr_in h c 1 rfl).trans ((hA c 1).trans (V_main_arg4 m c)),
      ((h c).2 main_arg5 (Pipeline.mem_restRefs_of main_arg5 (by decide) (by decide))).trans (V_main_arg5 m c)⟩) h

/-! ## What the region is run with -/

/-- The output windows: nothing is said of what the body leaves in them. -/
def forgets0 : Fin 10 → Bool := fun w => w.val == 7 || w.val == 8 || w.val == 9

/-- The region on core `c`: the arrays as it finds them, each input's buffer left at its block, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-! Each input's current staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body, at any point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- What the body gives back at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d))

/-- The body at any point runs to its end and gives back what it was run on. -/
theorem body_held (c : Dev nD) (t : Fin cfg0.N) (K : PUnit → sProp 𝕄) :
    iprop(held c (ms0_0 t) (ms0_1 t) (ms0_2 t) (ms0_3 t) (ms0_4 t) (ms0_5 t) (ms0_6 t) (ms0_7 t) (ms0_8 t) (ms0_9 t) scM0_0 scM0_1 scM0_2 scM0_3 (iblk m c 0 t) (iblk m c 1 t) (iblk m c 2 t) (iblk m c 3 t) (iblk m c 4 t) (iblk m c 5 t) (iblk m c 6 t) ∗ (iprop(held c (ms0_0 t) (ms0_1 t) (ms0_2 t) (ms0_3 t) (ms0_4 t) (ms0_5 t) (ms0_6 t) (ms0_7 t) (ms0_8 t) (ms0_9 t) scM0_0 scM0_1 scM0_2 scM0_3 (iblk m c 0 t) (iblk m c 1 t) (iblk m c 2 t) (iblk m c 3 t) (iblk m c 4 t) (iblk m c 5 t) (iblk m c 6 t)) -∗ K ⟨⟩))
      ⊢ wp frame (wpE (defs₀ (F := F)) Variants.none c none) Set.univ (bodyAt0 t) K := by
  have hN : t.val < 10 := lt_of_lt_of_eq t.isLt (show cfg0.N = 10 from N_0)
  unfold bodyAt0
  by_cases h0 : t.val % 10 = 0
  · exact bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => by have := (hcond0_1 t).mp h; omega) (iblk m c 0 t) (iblk m c 1 t) (iblk m c 2 t) (iblk m c 3 t) (iblk m c 4 t) (iblk m c 5 t) (iblk m c 6 t) Set.univ K
  · by_cases h1 : t.val % 10 = 9
    · exact bodyC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) Set.univ K
    · exact bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) Set.univ K

set_option maxHeartbeats 3200000 in
/-- The same in the form the region asks for. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 5 t = owns (c : Thread nD τ) (ms0_5 t) fullShare (iblk m c 5 t) from by
    unfold Dat.leavesExact; rw [liveAt0_5 t, after0_5]]
  rw [show (dats m 0 c).leavesExact 6 t = owns (c : Thread nD τ) (ms0_6 t) fullShare (iblk m c 6 t) from by
    unfold Dat.leavesExact; rw [liveAt0_6 t, after0_6]]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (body_held m c t _)
  unfold held
  isplitl [H0 H1 H2 H3 H4 H5 H6 H7 H8 H9 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  iintro ⟨H0, H1, H2, H3, H4, H5, H6, H7, H8, H9, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body the region calls at point `t`. -/
theorem defs₀_row (t : Fin cfg0.N) :
    defs₀ (F := F) .tc cfg0.body (cfg0.bodyArgs t (cfg0.slots t)) = bodyAt0 t := by
  unfold defs₀; rw [Defs.onTc_tc]

/-- The region's obligation on its body. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every fair execution ends, with every array at contents the region may leave and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- Every fair execution of the compiled kernel ends, with every argument array unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of_relation m ρ (fun c => (dats m 0 c).toRForget forgets0) (A_eq m) ((θ_run defs _ _).mono (fun _ h => h.1) (run_main_quiescent m ρ))) ((θ_run defs _ _).mono (fun _ h => h.2) (run_main_quiescent m ρ))

end Cert.Kernel.Gen

end
-- ==== Proof.KI.Kit.lean ====
/- What the kernel body's runs share: the branch conditions in closed form, the staging buffers and the scratch buffers as
   the body is passed them, and the region's invariant read as ownership of the scratch. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S16x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x5120 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x40 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x512 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x40 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x8 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2048x256 .fp8e5m2 := Memref.whole cc0_scratch0
abbrev scM0_1 : Memref sig .tc .vmem S2048x128 .f32 := Memref.whole cc0_scratch1
abbrev scM0_2 : Memref sig .tc .vmem S2048x128 .f32 := Memref.whole cc0_scratch2
abbrev scM0_3 : Memref sig .tc .vmem S2048x128 .f32 := Memref.whole cc0_scratch3
/-- The scratch `arg11` the kernel carries between points, as a view: what it holds is stated through it. -/
abbrev VS0_0 : View sig .tc .vmem S2048x256 .fp8e5m2 := scM0_0.view
/-- The scratch `arg13` the kernel carries between points, as a view: what it holds is stated through it. -/
abbrev VS0_2 : View sig .tc .vmem S2048x128 .f32 := scM0_2.view
/-- The scratch `arg14` the kernel carries between points, as a view: what it holds is stated through it. -/
abbrev VS0_3 : View sig .tc .vmem S2048x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KI.RunA.lean ====
/- The kernel body run from beginning to end at the first point: the stores each buffer ends with, as lists of pieces. -/
module

public import proofs.«01_k».proof.Proof.KI.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3688000 in
/-- What the body stores at the first point, as pieces (last first), with the proof that on whole staging buffers the body runs to
    its end: the inputs stay as they were, and the buffers it stores into hold their pieces. -/
noncomputable def runA (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec F S16x128 .i32) (x1 : Vec F S256x8 .f32) (x2 : Vec F S256x1 .f32) (x3 : Vec F S256x5120 .fp8e5m2) (x4 : Vec F S256x512 .fp8e5m2) (x5 : Vec F S2048x40 .f32) (x6 : Vec F S2048x512 .fp8e4m3)  :
    Σ' (L7 : List (View.Piece (Elt F) S2048x512 .fp8e5m2)), Σ' (L8 : List (View.Piece (Elt F) S2048x40 .f32)), Σ' (LS0 : List (View.Piece (Elt F) S2048x256 .fp8e5m2)), Σ' (LS1 : List (View.Piece (Elt F) S2048x128 .f32)), Σ' (LS2 : List (View.Piece (Elt F) S2048x128 .f32)), { LS3 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0_combine_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_combine_bwd_eq_skeleton]; unfold cc0_combine_bwd_skel
    simp only [k0_part85_eq_skeleton, k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]
    · iexists _, _; isplitr; swap; · iexact H9
      ipureintro; rfl
    isplitl [HS0]; · iexists _; iexact HS0
    isplitl [HS1]; · iexists _; iexact HS1
    isplitl [HS2]; · iexists _; iexact HS2
    iexists _; iexact HS3

end Cert.KernelIdeal.Gen

end
-- ==== Proof.KI.Tiles.lean ====
/- The kernel's tile computations, each stated once: what one chunk of 128 rows stores, as a function of the tiles it
   loads. The body writes each of them out for all sixteen chunks. -/
module

public import proofs.«01_k».proof.Proof.Gen.KernelIdeal.Skeleton

@[expose] public section

set_option synthInstance.maxSize 4096
set_option maxRecDepth 16384

noncomputable section

namespace Cert.KernelIdeal.Tile

open Idealize.ShloMosaic Idealize.SL.Sem Cert.KernelIdeal.Gen

variable {F : FTy → Type} [FloatOps F]

/-- The lane number of each entry of a 128x128 tile. -/
def lane : IVec S128x128 32 := iota .tc S128x128 32 [1] iota_S128x128_d1_w32

/-! ## The first point: the table and what each chunk derives from it -/

/-- The dispatch order with rows and lanes exchanged, carried through float32. -/
def ordT (o : Vec F S16x128 .i32) : IVec S128x16 32 :=
  fptosi 32 (transpose S128x16 [1, 0] (sitofp (F := F) .f32 (shapeCast S16x128 o shapeCasts_S16x128_S16x128)) transposes_S16x128_p1_0_S128x16)

/-- One block's step of the row maxima: lane `b` takes the block's largest magnitude. -/
def amaxStep (b : BitVec 32) (x : Vec F S256x128 .fp8e5m2) (a : FVec F S256x128 .f32) : FVec F S256x128 .f32 :=
  select (cmpi .eq (iota .tc S256x128 32 [1] iota_S256x128_d1_w32) (broadcast S256x128 b))
    (broadcastTo S256x128 (shapeCast S256x1 (shapeCast S256x1
      (multiReduction .maximumf [1] S256 (absf (extf .f32 x bitsLt_fp8e5m2_f32)) 0xFF800000#32 reduces_S256x128_S256 (.inl rfl) rfl)
      shapeCasts_S256_S256x1) shapeCasts_S256x1_S256x1) broadcasts_S256x1_S256x128) a

/-- The row maxima before the first block. -/
def amaxZero : FVec F S256x128 .f32 := broadcast S256x128 (Scalar.ofBits .f32 0x00000000#32)

/-- The gates times the token scales. -/
def gsTile (g : Vec F S256x8 .f32) (s : Vec F S256x1 .f32) : FVec F S256x8 .f32 :=
  mulf g (broadcastTo S256x8 (shapeCast S256x1 s shapeCasts_S256x1_S256x1) broadcasts_S256x1_S256x8)

/-- The first bf16 piece of a tile. -/
def piece1 {s : Shape} (x : FVec F s .f32) : FVec F s .f32 := extf .f32 (truncf .bf16 x)
/-- The second bf16 piece of a tile. -/
def piece2 {s : Shape} (x : FVec F s .f32) : FVec F s .f32 := extf .f32 (truncf .bf16 (subf x (piece1 x)))
/-- What the first two pieces leave. -/
def piece3 {s : Shape} (x : FVec F s .f32) : FVec F s .f32 := subf (subf x (piece1 x)) (piece2 x)

/-- The token table: row maxima, the three pieces of the scaled gates, zeros. -/
def table (a : FVec F S256x128 .f32) (gs : FVec F S256x8 .f32) : FVec F S256x128 .bf16 :=
  truncf .bf16 (concatenate S256x128 1 [⟨S256x64, extractStridedSlice S256x64 ![0, 0] a slices_S256x128_o0_0_S256x64⟩,
    ⟨S256x8, piece1 gs⟩, ⟨S256x8, piece2 gs⟩, ⟨S256x8, piece3 gs⟩,
    ⟨S256x40, broadcast S256x40 (Scalar.ofBits .f32 0x00000000#32 : F .f32)⟩]
    concatenates_S256x64_S256x8_S256x8_S256x8_S256x40_S256x128_d1) bitsLt_bf16_f32

/-- Column `n` of the exchanged order: the slots of chunk `n`. -/
def ordCol (n : ℕ) (h : S128x16.Slices ![0, n] S128x1) (o : IVec S128x16 32) : IVec S128x1 32 :=
  extractStridedSlice S128x1 ![0, n] o h

/-- Floor division by eight, as the kernel spells it: the token of each slot. -/
def tokCol (o : IVec S128x1 32) : IVec S128x1 32 :=
  have q : IVec S128x1 32 := divsi o (broadcast S128x1 8#32)
  have sg : IVec S128x1 32 := subi (extui 32 (cmpi .sgt o (broadcast S128x1 0#32)) natLt_1_32) (extui 32 (cmpi .slt o (broadcast S128x1 0#32)) natLt_1_32)
  have s8 : BitVec 32 := Scalar.subi (Scalar.extui (Scalar.cmpi .sgt 8#32 0#32)) (Scalar.extui (Scalar.cmpi .slt 8#32 0#32))
  have c : IVec S128x1 1 := andi (cmpi .ne sg (broadcast S128x1 s8)) (cmpi .ne (remsi o (broadcast S128x1 8#32)) (broadcast S128x1 0#32))
  select c (subi q (broadcast S128x1 1#32)) q

/-- The one-hot rows of a chunk's tokens. -/
def oneHot (o : IVec S128x1 32) : FVec F S128x256 .f32 :=
  select (cmpi .eq (iota .tc S128x256 32 [1] iota_S128x256_d1_w32) (broadcastTo S128x256 (tokCol o) broadcasts_S128x1_S128x256))
    (broadcast S128x256 (Scalar.ofBits .f32 0x3F800000#32 : F .f32)) (broadcast S128x256 (Scalar.ofBits .f32 0x00000000#32 : F .f32))

/-- The one-hot rows as stored. -/
def ohTile (o : IVec S128x1 32) : FVec F S128x256 .fp8e5m2 :=
  shapeCast S128x256 (truncf .fp8e5m2 (oneHot (F := F) o) bitsLt_fp8e5m2_f32) shapeCasts_S128x256_S128x256

/-- The table rows of a chunk's tokens. -/
def tab (T : FVec F S256x128 .bf16) (o : IVec S128x1 32) : FVec F S128x128 .f32 :=
  matmul dot_S128x256_S256x128_S128x128_1_0_0_1_n_n none (truncf .bf16 (oneHot (F := F) o) bitsLt_bf16_f32) T (constant S128x128 .f32 0x00000000#32)

/-- The lanes of the scaled gate pieces that belong to each slot's gate. -/
def mine (o : IVec S128x1 32) : IVec S128x128 1 :=
  cmpi .eq (andi lane (broadcast S128x128 7#32)) (broadcastTo S128x128 (andi o (broadcast S128x1 7#32)) broadcasts_S128x1_S128x128)

/-- Each slot's scaled gate, its pieces added up. -/
def gCol (T : FVec F S256x128 .bf16) (o : IVec S128x1 32) : FVec F S128x1 .f32 :=
  shapeCast S128x1 (multiReduction .add [1] S128
    (select (andi (cmpi .sge lane (broadcast S128x128 64#32)) (mine o)) (tab T o) (broadcast S128x128 (Scalar.ofBits .f32 0x00000000#32 : F .f32)))
    0x00000000#32 reduces_S128x128_S128 (.inl rfl) rfl) shapeCasts_S128_S128x1

/-- Each block's largest magnitude after scaling, over the largest e5m2 value. -/
def uTile (T : FVec F S256x128 .bf16) (o : IVec S128x1 32) : FVec F S128x128 .f32 :=
  mulf (mulf (broadcastTo S128x128 (absf (gCol T o)) broadcasts_S128x1_S128x128)
      (select (cmpi .slt lane (broadcast S128x128 40#32)) (tab T o) (broadcast S128x128 (Scalar.ofBits .f32 0x00000000#32 : F .f32))))
    (broadcast S128x128 (Scalar.ofBits .f32 0x37924925#32 : F .f32))

/-- One step of the search for the biased exponent: `s` is added where the value still reaches that power of two. -/
def ebStep (u : FVec F S128x128 .f32) (s : BitVec 32) (e : IVec S128x128 32) : IVec S128x128 32 :=
  select (cmpf .oge u (bitcastToFloat .f32 (shli (addi e (broadcast S128x128 s)) (broadcast S128x128 23#32)))) (addi e (broadcast S128x128 s)) e

/-- The biased exponent, by binary search over eight bits. -/
def ebTile (u : FVec F S128x128 .f32) : IVec S128x128 32 :=
  ebStep u 1#32 (ebStep u 2#32 (ebStep u 4#32 (ebStep u 8#32 (ebStep u 16#32 (ebStep u 32#32 (ebStep u 64#32
    (ebStep u 128#32 (broadcast S128x128 0#32))))))))

/-- The exponent of the block scale: zero where the value is below the least normal number or infinite. -/
def exTile (u : FVec F S128x128 .f32) : IVec S128x128 32 :=
  have e : IVec S128x128 32 := ebTile u
  select (ori (cmpi .eq e (broadcast S128x128 0#32)) (cmpi .eq e (broadcast S128x128 255#32))) (broadcast S128x128 0#32)
    (subi e (broadcast S128x128 126#32))

/-- A power of two from its exponent, clipped to what float32's exponent field holds. -/
def pow2Tile (e : IVec S128x128 32) : FVec F S128x128 .f32 :=
  bitcastToFloat .f32 (shli (minsi (broadcast S128x128 255#32) (maxsi (broadcast S128x128 0#32) (addi e (broadcast S128x128 127#32))))
    (broadcast S128x128 23#32))

/-- The multiplier of each slot's block: its scaled gate over the block scale. -/
def mTile (T : FVec F S256x128 .bf16) (o : IVec S128x1 32) : FVec F S128x128 .f32 :=
  shapeCast S128x128 (mulf (broadcastTo S128x128 (gCol T o) broadcasts_S128x1_S128x128)
    (pow2Tile (subi (broadcast S128x128 0#32) (exTile (uTile T o))))) shapeCasts_S128x128_S128x128

/-- The block scales of a chunk. -/
def scaleTile (T : FVec F S256x128 .bf16) (o : IVec S128x1 32) : FVec F S128x40 .f32 :=
  extractStridedSlice S128x40 ![0, 0] (pow2Tile (F := F) (exTile (uTile T o))) slices_S128x128_o0_0_S128x40

/-- The expert scales of a chunk, widened with zeros to 128 lanes. -/
def esTile (x : Vec F S128x40 .f32) : FVec F S128x128 .f32 :=
  shapeCast S128x128 (concatenate S128x128 1 [⟨S128x40, x⟩, ⟨S128x88, broadcast S128x88 (Scalar.ofBits .f32 0x00000000#32 : F .f32)⟩]
    concatenates_S128x40_S128x88_S128x128_d1) shapeCasts_S128x128_S128x128

/-- The accumulator's starting value. -/
def zeroTile : FVec F S128x128 .f32 :=
  shapeCast S128x128 (broadcast S128x128 (Scalar.ofBits .f32 0x00000000#32 : F .f32)) shapeCasts_S128x128_S128x128

/-! ## Every point: codes and products -/

/-- How far a point turns the lanes, so that its four blocks come first. -/
def shiftW (i : grid0.Coords) : BitVec 32 :=
  let v5 : BitVec 32 := Scalar.subi 128#32 (Scalar.muli 4#32 (BitVec.ofNat 32 (i 0).val))
  let v7 : BitVec 32 := Scalar.select (Scalar.cmpi .eq 128#32 0#32) 1#32 128#32
  let v8 : BitVec 32 := Scalar.remsi v5 v7
  Scalar.select (Scalar.andi (Scalar.xori (Scalar.cmpi .slt v8 0#32) (Scalar.cmpi .slt v7 0#32)) (Scalar.cmpi .ne v8 0#32)) (Scalar.addi v8 v7) v8

/-- A tile with its lanes turned for the point. -/
def rot (i : grid0.Coords) (x : FVec F S128x128 .f32) : FVec F S128x128 .f32 :=
  dynamicRotate 1 (shiftW i) none x rotates_S128x128_d1

/-- The gradient rows of a chunk's tokens. -/
def dyg (oh : Vec F S128x256 .fp8e5m2) (dy : Vec F S256x512 .fp8e5m2) : FVec F S128x512 .f32 :=
  matmul dot_S128x256_S256x512_S128x512_1_0_0_1_n_n none oh dy (constant S128x512 .f32 0x00000000#32)

/-- Block `b` of the codes of a chunk. -/
def codesTile (i : grid0.Coords) (b : ℕ) (h1 : S128x128.Slices ![0, b] S128x1) (h2 : S128x512.Slices ![0, 128 * b] S128x128)
    (mt : Vec F S128x128 .f32) (oh : Vec F S128x256 .fp8e5m2) (dy : Vec F S256x512 .fp8e5m2) : FVec F S128x128 .fp8e5m2 :=
  truncf .fp8e5m2 (minimumf (broadcast S128x128 (Scalar.ofBits .f32 0x47600000#32 : F .f32))
    (maximumf (broadcast S128x128 (Scalar.ofBits .f32 0xC7600000#32 : F .f32))
      (mulf (extractStridedSlice S128x128 ![0, 128 * b] (dyg oh dy) h2)
        (broadcastTo S128x128 (extractStridedSlice S128x1 ![0, b] (rot i mt) h1) broadcasts_S128x1_S128x128)))) bitsLt_fp8e5m2_f32

/-- Block `b` of the products of gradient rows and dequantised expert outputs. -/
def prodTile (i : grid0.Coords) (b : ℕ) (h1 : S128x128.Slices ![0, b] S128x1) (h2 : S128x512.Slices ![0, 128 * b] S128x128)
    (es : Vec F S128x128 .f32) (oh : Vec F S128x256 .fp8e5m2) (dy : Vec F S256x512 .fp8e5m2) (e : Vec F S128x128 .fp8e4m3) : FVec F S128x128 .f32 :=
  mulf (extf .f32 (truncf .bf16 (extractStridedSlice S128x128 ![0, 128 * b] (dyg oh dy) h2) bitsLt_bf16_f32) bitsLt_bf16_f32)
    (extf .f32 (mulf (extf .bf16 e bitsLt_fp8e4m3_bf16)
      (broadcastTo S128x128 (truncf .bf16 (extractStridedSlice S128x1 ![0, b] (rot i es) h1) bitsLt_bf16_f32) broadcasts_S128x1_S128x128)) bitsLt_bf16_f32)

/-- A chunk's accumulator after a point: the four blocks' products added to what it held. -/
def accTile (i : grid0.Coords) (es : Vec F S128x128 .f32) (oh : Vec F S128x256 .fp8e5m2) (dy : Vec F S256x512 .fp8e5m2)
    (e0 e1 e2 e3 : Vec F S128x128 .fp8e4m3) (acc : Vec F S128x128 .f32) : FVec F S128x128 .f32 :=
  shapeCast S128x128 (addf acc (addf (addf (addf
    (prodTile i 0 slices_S128x128_o0_0_S128x1 slices_S128x512_o0_0_S128x128 es oh dy e0)
    (prodTile i 1 slices_S128x128_o0_1_S128x1 slices_S128x512_o0_128_S128x128 es oh dy e1))
    (prodTile i 2 slices_S128x128_o0_2_S128x1 slices_S128x512_o0_256_S128x128 es oh dy e2))
    (prodTile i 3 slices_S128x128_o0_3_S128x1 slices_S128x512_o0_384_S128x128 es oh dy e3))) shapeCasts_S128x128_S128x128

/-! ## The last point: the gates' gradients -/

/-- Each slot's dot product, spread over the lanes. -/
def dotTile (acc : Vec F S128x128 .f32) : FVec F S128x128 .f32 :=
  broadcastTo S128x128 (shapeCast S128x1 (shapeCast S128x1
    (multiReduction .add [1] S128 acc 0x00000000#32 reduces_S128x128_S128 (.inl rfl) rfl) shapeCasts_S128_S128x1) shapeCasts_S128x1_S128x1)
    broadcasts_S128x1_S128x128

/-- The three pieces of the dot product, lanes 0 to 7, 8 to 15 and from 16 on. -/
def dgPiece (acc : Vec F S128x128 .f32) : FVec F S128x128 .f32 :=
  select (cmpi .slt lane (broadcast S128x128 8#32)) (piece1 (dotTile acc))
    (select (cmpi .slt lane (broadcast S128x128 16#32)) (piece2 (dotTile acc)) (piece3 (dotTile acc)))

/-- One chunk's step of the scatter: its pieces are added at their gate's rows and their token's columns. -/
def dgStep (o : IVec S128x1 32) (acc : Vec F S128x128 .f32) (oh : Vec F S128x256 .fp8e5m2) (out : FVec F S128x256 .f32) : FVec F S128x256 .f32 :=
  addf out (matmul dot_S128x128_S128x256_S128x256_1_0_0_1_n_n none
    (truncf .bf16 (transpose S128x128 [1, 0]
      (select (andi (cmpi .slt lane (broadcast S128x128 24#32)) (mine o)) (dgPiece acc) (broadcast S128x128 (Scalar.ofBits .f32 0x00000000#32 : F .f32)))
      transposes_S128x128_p1_0_S128x128) bitsLt_bf16_f32)
    (extf .bf16 oh bitsLt_fp8e5m2_bf16) (constant S128x256 .f32 0x00000000#32))

/-- The scatter's starting value. -/
def dgZero : FVec F S128x256 .f32 := broadcast S128x256 (Scalar.ofBits .f32 0x00000000#32)

/-- The gates' gradients: the three pieces' rows added and scaled by the token scales. -/
def dgOut (out : FVec F S128x256 .f32) (s : Vec F S256x1 .f32) : FVec F S256x8 .f32 :=
  mulf (transpose S256x8 [1, 0] (addf (addf (extractStridedSlice S8x256 ![0, 0] out slices_S128x256_o0_0_S8x256)
      (extractStridedSlice S8x256 ![8, 0] out slices_S128x256_o8_0_S8x256))
      (extractStridedSlice S8x256 ![16, 0] out slices_S128x256_o16_0_S8x256)) transposes_S8x256_p1_0_S256x8)
    (broadcastTo S256x8 (shapeCast S256x1 s shapeCasts_S256x1_S256x1) broadcasts_S256x1_S256x8)

end Cert.KernelIdeal.Tile

end
-- ==== Proof.KI.Pt.lean ====
/- The kernel's tile computations over the extended reals, read at an entry. -/
module

public import proofs.«01_k».proof.Proof.KI.Tiles
public import Idealize.ShloMosaic.Lib.Pipeline.ValueKit
public import Idealize.ShloMosaic.Lib.Pointwise

@[expose] public section

set_option maxRecDepth 16384

noncomputable section

namespace Cert.KernelIdeal.Tile

open Idealize.ShloMosaic Idealize.ShloMosaic.TcCoe Idealize.SL.Sem Cert.KernelIdeal.Gen

/-- A code is clipped to the e5m2 range. -/
def clip (x : EReal) : EReal := min (Ideal.ofBits .f32 0x47600000#32) (max (Ideal.ofBits .f32 0xC7600000#32) x)

/-! ## Words -/

theorem select_ofBool {α : Type} (b : Bool) (x y : α) : Scalar.select (BitVec.ofBool b) x y = if b then x else y := by
  cases b <;> rfl

theorem select_eq {α : Type} (v w : BitVec 32) (x y : α) : Scalar.select (IntOp.cmpi .eq v w) x y = if v = w then x else y := by
  unfold IntOp.cmpi
  rw [select_ofBool]
  simp

theorem ofNat_inj {a b : ℕ} (ha : a < 4294967296) (hb : b < 4294967296) : BitVec.ofNat 32 a = BitVec.ofNat 32 b ↔ a = b := by
  constructor
  · intro h
    have := congrArg BitVec.toNat h
    simpa [Nat.mod_eq_of_lt ha, Nat.mod_eq_of_lt hb] using this
  · rintro rfl; rfl

theorem slt_ofNat {α : Type} {a b : ℕ} (ha : a < 2147483648) (hb : b < 2147483648) (x y : α) :
    Scalar.select (IntOp.cmpi .slt (BitVec.ofNat 32 a) (BitVec.ofNat 32 b)) x y = if a < b then x else y := by
  unfold IntOp.cmpi
  rw [select_ofBool]
  have e1 : (BitVec.ofNat 32 a).toInt = a := by rw [BitVec.toInt_eq_toNat_bmod, BitVec.toNat_ofNat, Nat.mod_eq_of_lt (by omega), Int.bmod_def]; omega
  have e2 : (BitVec.ofNat 32 b).toInt = b := by rw [BitVec.toInt_eq_toNat_bmod, BitVec.toNat_ofNat, Nat.mod_eq_of_lt (by omega), Int.bmod_def]; omega
  simp only [BitVec.slt, decide_eq_true_eq, e1, e2, Nat.cast_lt]

/-- An integer carried through float32 over the extended reals is itself. -/
theorem fptosi_sitofp (w : BitVec 32) : FloatOps.fptosi (F := Ideal) 32 (FloatOps.sitofp .f32 w) = w := by
  show Ideal.fptosi 32 (((w.toInt : ℝ)) : EReal) = w
  unfold Ideal.fptosi
  show BitVec.ofInt 32 (max _ (min _ (if 0 ≤ ((w.toInt : ℝ)) then ⌊((w.toInt : ℝ))⌋ else ⌈((w.toInt : ℝ))⌉))) = w
  have h1 : w.toInt < 2147483648 := by have := BitVec.toInt_lt (x := w); simpa using this
  have h2 : -2147483648 ≤ w.toInt := by have := BitVec.le_toInt (x := w); simpa using this
  rw [Int.floor_intCast, Int.ceil_intCast, ite_self]
  rw [show max (-((2 ^ (32 - 1) : ℕ) : ℤ)) (min (((2 ^ (32 - 1) : ℕ) : ℤ) - 1) w.toInt) = w.toInt by norm_num; omega]
  exact BitVec.ofInt_toInt

theorem and7 : ∀ n : Fin 2048, BitVec.ofNat 32 n.val &&& 7#32 = BitVec.ofNat 32 (n.val % 8) := by decide +kernel

/-- The kernel's floor division by eight, at a word. -/
def tokW (w : BitVec 32) : BitVec 32 :=
  Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector w 8#32) 0#32))
      (IntOp.subi (IntOp.divsi ArithUnit.vector w 8#32) 1#32)
      (IntOp.divsi ArithUnit.vector w 8#32)

theorem tokW_eq : ∀ n : Fin 2048, tokW (BitVec.ofNat 32 n.val) = BitVec.ofNat 32 (n.val / 8) := by decide +kernel

/-- The lanes from `lo` on whose last three bits are `q`. -/
theorem mine_sge : ∀ (x : Fin 128) (q : Fin 8),
    IntOp.andi (IntOp.cmpi CmpIPredicate.sge (BitVec.ofNat 32 x.val) 64#32)
      (IntOp.cmpi CmpIPredicate.eq (IntOp.andi (BitVec.ofNat 32 x.val) 7#32) (BitVec.ofNat 32 q.val))
    = BitVec.ofBool (decide (64 ≤ x.val ∧ x.val % 8 = q.val)) := by decide +kernel

/-- The lanes below 24 whose last three bits are `q`. -/
theorem mine_slt : ∀ (x : Fin 128) (q : Fin 8),
    IntOp.andi (IntOp.cmpi CmpIPredicate.slt (BitVec.ofNat 32 x.val) 24#32)
      (IntOp.cmpi CmpIPredicate.eq (IntOp.andi (BitVec.ofNat 32 x.val) 7#32) (BitVec.ofNat 32 q.val))
    = BitVec.ofBool (decide (x.val < 24 ∧ x.val % 8 = q.val)) := by decide +kernel

/-! ## Every point -/

/-- How far point `n` turns the lanes. -/
theorem shiftW_eq (i : grid0.Coords) (h : (i 0).val < 10) : (shiftW i).toNat = (128 - 4 * (i 0).val) % 128 := by
  unfold shiftW
  generalize (i 0).val = n at h
  interval_cases n <;> decide

/-- The turned tile's first lanes are the point's own. -/
theorem rot_pt (i : grid0.Coords) (hi : (i 0).val < 10) (x : FVec Ideal S128x128 .f32) (r : Fin 128) (b : Fin 128) (hb : b.val < 4) :
    rot i x (ix2 r b) = x (ix2 r ⟨4 * (i 0).val + b.val, by omega⟩) := by
  pointwise [rot]
  rw [shiftW_eq i hi]
  congr 2
  ext
  simp only
  omega

theorem dyg_pt (oh : FVec Ideal S128x256 .fp8e5m2) (dy : FVec Ideal S256x512 .fp8e5m2) (r : Fin 128) (l : Fin 512) :
    dyg (F := Ideal) oh dy (ix2 r l) = ∑ k : Fin 256, oh (ix2 r k) * dy (ix2 k l) := by
  pointwise [dyg]

theorem codesTile_pt (i : grid0.Coords) (hi : (i 0).val < 10) (b : ℕ) (hb : b < 4) (h1 h2) (mt : FVec Ideal S128x128 .f32) (oh : FVec Ideal S128x256 .fp8e5m2)
    (dy : FVec Ideal S256x512 .fp8e5m2) (r l : Fin 128) :
    codesTile (F := Ideal) i b h1 h2 mt oh dy (ix2 r l)
      = clip ((∑ k : Fin 256, oh (ix2 r k) * dy (ix2 k ⟨128 * b + l.val, by omega⟩)) * mt (ix2 r ⟨4 * (i 0).val + b, by omega⟩)) := by
  pointwise [codesTile, clip]
  rw [dyg_pt, rot_pt i hi _ _ _ hb]

theorem prodTile_pt (i : grid0.Coords) (hi : (i 0).val < 10) (b : ℕ) (hb : b < 4) (h1 h2) (es : FVec Ideal S128x128 .f32) (oh : FVec Ideal S128x256 .fp8e5m2)
    (dy : FVec Ideal S256x512 .fp8e5m2) (e : FVec Ideal S128x128 .fp8e4m3) (r l : Fin 128) :
    prodTile (F := Ideal) i b h1 h2 es oh dy e (ix2 r l)
      = (∑ k : Fin 256, oh (ix2 r k) * dy (ix2 k ⟨128 * b + l.val, by omega⟩)) * (e (ix2 r l) * es (ix2 r ⟨4 * (i 0).val + b, by omega⟩)) := by
  pointwise [prodTile]
  rw [dyg_pt, rot_pt i hi _ _ _ hb]

theorem accTile_pt (i : grid0.Coords) (hi : (i 0).val < 10) (es : FVec Ideal S128x128 .f32) (oh : FVec Ideal S128x256 .fp8e5m2)
    (dy : FVec Ideal S256x512 .fp8e5m2) (e0 e1 e2 e3 : FVec Ideal S128x128 .fp8e4m3) (acc : FVec Ideal S128x128 .f32) (r l : Fin 128) :
    accTile (F := Ideal) i es oh dy e0 e1 e2 e3 acc (ix2 r l)
      = acc (ix2 r l) + ((((∑ k : Fin 256, oh (ix2 r k) * dy (ix2 k ⟨l.val, by omega⟩)) * (e0 (ix2 r l) * es (ix2 r ⟨4 * (i 0).val, by omega⟩))
        + (∑ k : Fin 256, oh (ix2 r k) * dy (ix2 k ⟨128 + l.val, by omega⟩)) * (e1 (ix2 r l) * es (ix2 r ⟨4 * (i 0).val + 1, by omega⟩)))
        + (∑ k : Fin 256, oh (ix2 r k) * dy (ix2 k ⟨256 + l.val, by omega⟩)) * (e2 (ix2 r l) * es (ix2 r ⟨4 * (i 0).val + 2, by omega⟩)))
        + (∑ k : Fin 256, oh (ix2 r k) * dy (ix2 k ⟨384 + l.val, by omega⟩)) * (e3 (ix2 r l) * es (ix2 r ⟨4 * (i 0).val + 3, by omega⟩))) := by
  pointwise [accTile]
  rw [prodTile_pt i hi 0 (by omega), prodTile_pt i hi 1 (by omega), prodTile_pt i hi 2 (by omega), prodTile_pt i hi 3 (by omega)]
  simp only [Nat.mul_zero, Nat.zero_add, Nat.add_zero, Nat.mul_one]

/-! ## The first point -/

theorem ordT_pt (o : Vec Ideal S16x128 .i32) (r : Fin 128) (n : Fin 16) :
    ordT (F := Ideal) o (ix2 r n) = o (ix2 n r) := by
  pointwise [ordT]
  exact fptosi_sitofp _

theorem ordCol_pt (n : ℕ) (hn : n < 16) (h) (o : IVec S128x16 32) (r : Fin 128) (z : Fin 1) :
    ordCol n h o (ix2 r z) = o (ix2 r ⟨n, hn⟩) := by
  pointwise [ordCol]

/-- Floor division by eight. -/
theorem tokCol_pt (o : IVec S128x1 32) (r : Fin 128) (z : Fin 1) (n : ℕ) (hn : n < 2048) (ho : o (ix2 r z) = BitVec.ofNat 32 n) :
    tokCol o (ix2 r z) = BitVec.ofNat 32 (n / 8) := by
  pointwise [tokCol]
  rw [ho]
  exact tokW_eq ⟨n, hn⟩

theorem oneHot_pt (o : IVec S128x1 32) (r : Fin 128) (k : Fin 256) (n : ℕ) (hn : n < 2048) (ho : o (ix2 r 0) = BitVec.ofNat 32 n) :
    oneHot (F := Ideal) o (ix2 r k) = if k.val = n / 8 then 1 else 0 := by
  pointwise [oneHot]
  rw [tokCol_pt o r 0 n hn ho, select_eq]
  simp only [ofNat_inj (show k.val < 4294967296 by omega) (show n / 8 < 4294967296 by omega)]

theorem ohTile_pt (o : IVec S128x1 32) (r : Fin 128) (k : Fin 256) (n : ℕ) (hn : n < 2048) (ho : o (ix2 r 0) = BitVec.ofNat 32 n) :
    ohTile (F := Ideal) o (ix2 r k) = if k.val = n / 8 then 1 else 0 := by
  pointwise [ohTile]
  exact oneHot_pt o r k n hn ho

/-- A one-hot row picks one entry. -/
theorem sum_pick (t : Fin 256) (f : Fin 256 → EReal) : ∑ k : Fin 256, (if k.val = t.val then (1 : EReal) else 0) * f k = f t := by
  rw [Finset.sum_eq_single t]
  · rw [if_pos rfl, one_mul]
  · intro b _ hb
    rw [if_neg (fun h => hb (Fin.ext h)), zero_mul]
  · intro h; exact absurd (Finset.mem_univ _) h

theorem tab_pt (T : FVec Ideal S256x128 .bf16) (o : IVec S128x1 32) (r l : Fin 128) (n : ℕ) (hn : n < 2048) (ho : o (ix2 r 0) = BitVec.ofNat 32 n) :
    tab (F := Ideal) T o (ix2 r l) = T (ix2 ⟨n / 8, by omega⟩ l) := by
  pointwise [tab]
  rw [← sum_pick ⟨n / 8, by omega⟩ fun k => T (ix2 k l)]
  exact Finset.sum_congr rfl fun k _ => Ideal.mul_congr (oneHot_pt o r k n hn ho) rfl

/-- The largest magnitude of a row. -/
def rowMax (x : Fin 128 → EReal) : EReal := Finset.univ.fold max (Ideal.ofBits .f32 0xFF800000#32) fun k => max (x k) (-(x k))

theorem amaxStep_pt (b : ℕ) (hb : b < 128) (x : FVec Ideal S256x128 .fp8e5m2) (a : FVec Ideal S256x128 .f32) (r : Fin 256) (l : Fin 128) :
    amaxStep (F := Ideal) (BitVec.ofNat 32 b) x a (ix2 r l) = if l.val = b then rowMax (fun k => x (ix2 r k)) else a (ix2 r l) := by
  pointwise [amaxStep]
  rw [select_eq]
  simp only [ofNat_inj (show l.val < 4294967296 by omega) (show b < 4294967296 by omega)]
  rfl

/-- One step of the row maxima: the first `b + 1` lanes are done. -/
theorem amax_step (X : FVec Ideal S256x5120 .fp8e5m2) (b : ℕ) (hb : b < 40) (x : FVec Ideal S256x128 .fp8e5m2) (a : FVec Ideal S256x128 .f32)
    (hx : ∀ (r : Fin 256) (k : Fin 128), x (ix2 r k) = X (ix2 r ⟨128 * b + k.val, by omega⟩))
    (ha : ∀ (r : Fin 256) (l : Fin 128), a (ix2 r l) = if h : l.val < b then rowMax (fun k => X (ix2 r ⟨128 * l.val + k.val, by omega⟩)) else 0) :
    ∀ (r : Fin 256) (l : Fin 128), amaxStep (F := Ideal) (BitVec.ofNat 32 b) x a (ix2 r l)
      = if h : l.val < b + 1 then rowMax (fun k => X (ix2 r ⟨128 * l.val + k.val, by omega⟩)) else 0 := by
  intro r l
  rw [amaxStep_pt b (by omega), ha]
  by_cases h : l.val = b
  · rw [if_pos h, dif_pos (by omega)]
    congr 1; funext k; rw [hx]; congr 2; ext; simp only; rw [h]
  · rw [if_neg h]
    by_cases h' : l.val < b
    · rw [dif_pos h', dif_pos (by omega)]
    · rw [dif_neg h', dif_neg (by omega)]

theorem amax_zero (X : FVec Ideal S256x5120 .fp8e5m2) :
    ∀ (r : Fin 256) (l : Fin 128), (amaxZero : FVec Ideal S256x128 .f32) (ix2 r l)
      = if h : l.val < 0 then rowMax (fun k => X (ix2 r ⟨128 * l.val + k.val, by omega⟩)) else 0 := by
  intro r l
  rw [dif_neg (by omega)]
  pointwise [amaxZero]

theorem gsTile_pt (g : FVec Ideal S256x8 .f32) (s : FVec Ideal S256x1 .f32) (r : Fin 256) (p : Fin 8) :
    gsTile (F := Ideal) g s (ix2 r p) = g (ix2 r p) * s (ix2 r 0) := by
  pointwise [gsTile]

theorem table_lo (a : FVec Ideal S256x128 .f32) (gs : FVec Ideal S256x8 .f32) (r : Fin 256) (l : Fin 128) (h : l.val < 64) :
    table (F := Ideal) a gs (ix2 r l) = a (ix2 r l) := by
  pointwise [table, piece1, piece2, piece3]
  rw [dif_pos h]

theorem table_1 (a : FVec Ideal S256x128 .f32) (gs : FVec Ideal S256x8 .f32) (r : Fin 256) (q : Fin 8) :
    table (F := Ideal) a gs (ix2 r ⟨64 + q.val, by omega⟩) = gs (ix2 r q) := by
  pointwise [table, piece1, piece2, piece3]

theorem table_2 (a : FVec Ideal S256x128 .f32) (gs : FVec Ideal S256x8 .f32) (r : Fin 256) (q : Fin 8) :
    table (F := Ideal) a gs (ix2 r ⟨72 + q.val, by omega⟩) = gs (ix2 r q) - gs (ix2 r q) := by
  pointwise [table, piece1, piece2, piece3]
  rw [dif_neg (by omega), dif_neg (by omega), dif_pos (by omega)]
  have e : (⟨72 + q.val - 64 - 8, by omega⟩ : Fin 8) = q := Fin.ext (by simp only; omega)
  rw [e]

theorem table_3 (a : FVec Ideal S256x128 .f32) (gs : FVec Ideal S256x8 .f32) (r : Fin 256) (q : Fin 8) :
    table (F := Ideal) a gs (ix2 r ⟨80 + q.val, by omega⟩) = gs (ix2 r q) - gs (ix2 r q) - (gs (ix2 r q) - gs (ix2 r q)) := by
  pointwise [table, piece1, piece2, piece3]
  rw [dif_neg (by omega), dif_neg (by omega), dif_neg (by omega), dif_pos (by omega)]
  have e : (⟨80 + q.val - 64 - 8 - 8, by omega⟩ : Fin 8) = q := Fin.ext (by simp only; omega)
  rw [e]

theorem table_hi (a : FVec Ideal S256x128 .f32) (gs : FVec Ideal S256x8 .f32) (r : Fin 256) (l : Fin 128) (h : 88 ≤ l.val) :
    table (F := Ideal) a gs (ix2 r l) = 0 := by
  pointwise [table, piece1, piece2, piece3]
  rw [dif_neg (by omega), dif_neg (by omega), dif_neg (by omega), dif_neg (by omega)]

theorem sum_mine_bij (q : Fin 8) (f : Fin 128 → EReal) :
    ∑ x ∈ Finset.univ.filter (fun x : Fin 128 => 64 ≤ x.val ∧ x.val % 8 = q.val), f x = ∑ j : Fin 8, f ⟨64 + 8 * j.val + q.val, by omega⟩ := by
  refine (Finset.sum_bij (fun (j : Fin 8) _ => (⟨64 + 8 * j.val + q.val, by omega⟩ : Fin 128)) ?_ ?_ ?_ ?_).symm
  · intro j _; simp only [Finset.mem_filter, Finset.mem_univ, true_and]; omega
  · intro j _ j' _ h; have := congrArg Fin.val h; simp only at this; exact Fin.ext (by omega)
  · intro x hx
    simp only [Finset.mem_filter, Finset.mem_univ, true_and] at hx
    exact ⟨⟨(x.val - 64) / 8, by omega⟩, Finset.mem_univ _, Fin.ext (by simp only; omega)⟩
  · intro j _; rfl

/-- The lanes of one gate: every eighth from `64 + q` on. -/
theorem sum_mine (q : Fin 8) (f : Fin 128 → EReal) :
    ∑ x : Fin 128, (if 64 ≤ x.val ∧ x.val % 8 = q.val then f x else 0)
      = f ⟨64 + q.val, by omega⟩ + f ⟨72 + q.val, by omega⟩ + f ⟨80 + q.val, by omega⟩ + f ⟨88 + q.val, by omega⟩
        + f ⟨96 + q.val, by omega⟩ + f ⟨104 + q.val, by omega⟩ + f ⟨112 + q.val, by omega⟩ + f ⟨120 + q.val, by omega⟩ := by
  have e : ∑ x : Fin 128, (if 64 ≤ x.val ∧ x.val % 8 = q.val then f x else 0) = ∑ j : Fin 8, f ⟨64 + 8 * j.val + q.val, by omega⟩ := by
    rw [← Finset.sum_filter]
    exact sum_mine_bij q f
  rw [e, Fin.sum_univ_eight]
  rfl

/-- Each slot's scaled gate: its pieces add up to it where it is finite. -/
theorem gCol_pt (a : FVec Ideal S256x128 .f32) (gs : FVec Ideal S256x8 .f32) (hfin : ∀ t p, ∃ x : ℝ, gs (ix2 t p) = (x : EReal)) (o : IVec S128x1 32) (r : Fin 128) (z : Fin 1)
    (n : ℕ) (hn : n < 2048) (ho : o (ix2 r 0) = BitVec.ofNat 32 n) :
    gCol (F := Ideal) (table a gs) o (ix2 r z) = gs (ix2 ⟨n / 8, by omega⟩ ⟨n % 8, by omega⟩) := by
  have e : gCol (F := Ideal) (table a gs) o (ix2 r z)
      = ∑ x : Fin 128, (if 64 ≤ x.val ∧ x.val % 8 = (⟨n % 8, by omega⟩ : Fin 8).val then table (F := Ideal) a gs (ix2 ⟨n / 8, by omega⟩ x) else 0) := by
    have e0 : gCol (F := Ideal) (table a gs) o (ix2 r z) = ∑ x : Fin 128, Scalar.select
        (IntOp.andi (IntOp.cmpi CmpIPredicate.sge (BitVec.ofNat 32 x.val) 64#32)
          (IntOp.cmpi CmpIPredicate.eq (IntOp.andi (BitVec.ofNat 32 x.val) 7#32) (IntOp.andi (o (ix2 r 0)) 7#32)))
        (tab (F := Ideal) (table a gs) o (ix2 r x)) 0 := by
      pointwise [gCol, mine, lane]
    rw [e0]
    refine Finset.sum_congr rfl fun x _ => ?_
    rw [ho, tab_pt _ o r x n hn ho, show IntOp.andi (BitVec.ofNat 32 n) 7#32 = BitVec.ofNat 32 (n % 8) from and7 ⟨n, hn⟩,
      mine_sge x ⟨n % 8, by omega⟩, select_ofBool]
    simp only [decide_eq_true_eq]
  rw [e, sum_mine, table_1, table_2, table_3, table_hi _ _ _ _ (by simp only; omega), table_hi _ _ _ _ (by simp only; omega),
    table_hi _ _ _ _ (by simp only; omega), table_hi _ _ _ _ (by simp only; omega), table_hi _ _ _ _ (by simp only; omega)]
  obtain ⟨x, hx⟩ := hfin ⟨n / 8, by omega⟩ ⟨n % 8, by omega⟩
  have z0 : (x : EReal) - x = 0 := by rw [← EReal.coe_sub, sub_self]; rfl
  rw [hx, z0, sub_zero]
  simp only [add_zero]

/-! ## The exponent, at an entry -/

/-- The float32 value whose bits are a biased exponent alone. -/
def Tw (w : BitVec 32) : EReal := Ideal.ofBits .f32 (IntOp.shli ArithUnit.vector w 23#32)

/-- One step of the search. -/
def ebW1 (u : EReal) (s e : BitVec 32) : BitVec 32 := if Tw (IntOp.addi e s) ≤ u then IntOp.addi e s else e

/-- The biased exponent found. -/
def ebW (u : EReal) : BitVec 32 :=
  ebW1 u 1#32 (ebW1 u 2#32 (ebW1 u 4#32 (ebW1 u 8#32 (ebW1 u 16#32 (ebW1 u 32#32 (ebW1 u 64#32 (ebW1 u 128#32 0#32)))))))

/-- The exponent of the block scale. -/
def exW (u : EReal) : BitVec 32 :=
  Scalar.select (IntOp.ori (IntOp.cmpi .eq (ebW u) 0#32) (IntOp.cmpi .eq (ebW u) 255#32)) 0#32 (IntOp.subi (ebW u) 126#32)

/-- A power of two from its exponent. -/
def pow2W (e : BitVec 32) : EReal := Tw (IntOp.minsi 255#32 (IntOp.maxsi 0#32 (IntOp.addi e 127#32)))

theorem ebStep_pt (u : FVec Ideal S128x128 .f32) (s : BitVec 32) (e : IVec S128x128 32) (r l : Fin 128) :
    ebStep (F := Ideal) u s e (ix2 r l) = ebW1 (u (ix2 r l)) s (e (ix2 r l)) := by
  pointwise [ebStep]
  rfl

theorem ebTile_pt (u : FVec Ideal S128x128 .f32) (r l : Fin 128) : ebTile (F := Ideal) u (ix2 r l) = ebW (u (ix2 r l)) := by
  unfold ebTile ebW
  simp only [ebStep_pt]
  rfl

theorem exTile_pt (u : FVec Ideal S128x128 .f32) (r l : Fin 128) : exTile (F := Ideal) u (ix2 r l) = exW (u (ix2 r l)) := by
  pointwise [exTile]
  rw [ebTile_pt]
  rfl

theorem pow2Tile_pt (e : IVec S128x128 32) (r l : Fin 128) : pow2Tile (F := Ideal) e (ix2 r l) = pow2W (e (ix2 r l)) := by
  pointwise [pow2Tile]
  rfl

/-- A block's largest magnitude after scaling by `g`, over the largest e5m2 value. -/
def uVal (g a : EReal) : EReal := max g (-g) * a * Ideal.ofBits .f32 0x37924925#32

theorem uTile_pt (a : FVec Ideal S256x128 .f32) (gs : FVec Ideal S256x8 .f32) (hfin : ∀ t p, ∃ x : ℝ, gs (ix2 t p) = (x : EReal)) (o : IVec S128x1 32) (r l : Fin 128)
    (n : ℕ) (hn : n < 2048) (ho : o (ix2 r 0) = BitVec.ofNat 32 n) :
    uTile (F := Ideal) (table a gs) o (ix2 r l)
      = if l.val < 40 then uVal (gs (ix2 ⟨n / 8, by omega⟩ ⟨n % 8, by omega⟩)) (a (ix2 ⟨n / 8, by omega⟩ l)) else 0 := by
  pointwise [uTile, lane]
  rw [gCol_pt a gs hfin o r 0 n hn ho, tab_pt _ o r l n hn ho, slt_ofNat (by omega) (by omega)]
  by_cases hl : l.val < 40
  · rw [if_pos hl, if_pos hl, table_lo _ _ _ _ (by omega)]
    rfl
  · rw [if_neg hl, if_neg hl]

theorem mTile_pt (a : FVec Ideal S256x128 .f32) (gs : FVec Ideal S256x8 .f32) (hfin : ∀ t p, ∃ x : ℝ, gs (ix2 t p) = (x : EReal)) (o : IVec S128x1 32) (r l : Fin 128)
    (n : ℕ) (hn : n < 2048) (ho : o (ix2 r 0) = BitVec.ofNat 32 n) :
    mTile (F := Ideal) (table a gs) o (ix2 r l) = gs (ix2 ⟨n / 8, by omega⟩ ⟨n % 8, by omega⟩)
      * pow2W (IntOp.subi 0#32 (exW (if l.val < 40 then uVal (gs (ix2 ⟨n / 8, by omega⟩ ⟨n % 8, by omega⟩)) (a (ix2 ⟨n / 8, by omega⟩ l)) else 0))) := by
  pointwise [mTile]
  rw [gCol_pt a gs hfin o r 0 n hn ho, pow2Tile_pt, ← uTile_pt a gs hfin o r l n hn ho, ← exTile_pt]
  rfl

theorem scaleTile_pt (a : FVec Ideal S256x128 .f32) (gs : FVec Ideal S256x8 .f32) (hfin : ∀ t p, ∃ x : ℝ, gs (ix2 t p) = (x : EReal)) (o : IVec S128x1 32) (r : Fin 128) (l : Fin 40)
    (n : ℕ) (hn : n < 2048) (ho : o (ix2 r 0) = BitVec.ofNat 32 n) :
    scaleTile (F := Ideal) (table a gs) o (ix2 r l)
      = pow2W (exW (uVal (gs (ix2 ⟨n / 8, by omega⟩ ⟨n % 8, by omega⟩)) (a (ix2 ⟨n / 8, by omega⟩ ⟨l.val, by omega⟩)))) := by
  pointwise [scaleTile]
  rw [pow2Tile_pt, exTile_pt, uTile_pt a gs hfin o r ⟨l.val, by omega⟩ n hn ho, if_pos l.isLt]

theorem esTile_pt (x : FVec Ideal S128x40 .f32) (r l : Fin 128) :
    esTile (F := Ideal) x (ix2 r l) = if h : l.val < 40 then x (ix2 r ⟨l.val, h⟩) else 0 := by
  pointwise [esTile]

theorem zeroTile_pt (r l : Fin 128) : (zeroTile : FVec Ideal S128x128 .f32) (ix2 r l) = 0 := by
  pointwise [zeroTile]

/-! ## The last point -/

/-- The three pieces of a dot product that the scatter adds up, by row. -/
def pieceVal (p : Fin 128) (d : EReal) : EReal := if p.val < 8 then d else if p.val < 16 then d - d else d - d - (d - d)

theorem dgStep_pt (o : IVec S128x1 32) (acc : FVec Ideal S128x128 .f32) (oh : FVec Ideal S128x256 .fp8e5m2) (out : FVec Ideal S128x256 .f32) (p : Fin 128) (k : Fin 256)
    (N : Fin 128 → ℕ) (hN : ∀ x, N x < 2048) (ho : ∀ x : Fin 128, o (ix2 x 0) = BitVec.ofNat 32 (N x)) :
    dgStep (F := Ideal) o acc oh out (ix2 p k)
      = out (ix2 p k) + ∑ x : Fin 128, if p.val < 24 ∧ p.val % 8 = N x % 8 then pieceVal p (∑ l : Fin 128, acc (ix2 x l)) * oh (ix2 x k) else 0 := by
  pointwise [dgStep, mine, lane, dgPiece, piece1, piece2, piece3, dotTile]
  refine Ideal.add_congr rfl (Finset.sum_congr rfl fun x _ => ?_)
  rw [ho x, show IntOp.andi (BitVec.ofNat 32 (N x)) 7#32 = BitVec.ofNat 32 (N x % 8) from and7 ⟨N x, hN x⟩,
    mine_slt p ⟨N x % 8, by omega⟩, select_ofBool, slt_ofNat (by omega) (by omega), slt_ofNat (by omega) (by omega)]
  simp only [decide_eq_true_eq]
  rfl

theorem dgZero_pt (p : Fin 128) (k : Fin 256) : (dgZero : FVec Ideal S128x256 .f32) (ix2 p k) = 0 := by
  pointwise [dgZero]

theorem dgOut_pt (out : FVec Ideal S128x256 .f32) (s : FVec Ideal S256x1 .f32) (r : Fin 256) (p : Fin 8) :
    dgOut (F := Ideal) out s (ix2 r p) = ((out (ix2 ⟨p.val, by omega⟩ r) + out (ix2 ⟨8 + p.val, by omega⟩ r)) + out (ix2 ⟨16 + p.val, by omega⟩ r)) * s (ix2 r 0) := by
  pointwise [dgOut]

end Cert.KernelIdeal.Tile

end
-- ==== Proof.KI.Spec.lean ====
/- What a point stores, as functions of whole buffers: the pieces the body stores are blocks of these. -/
module

public import proofs.«01_k».proof.Proof.KI.Pt
public import Idealize.ShloMosaic.Lib.Pipeline.ReadBack

@[expose] public section

set_option maxRecDepth 16384

noncomputable section

namespace Cert.KernelIdeal.Tile

open Idealize.ShloMosaic Idealize.ShloMosaic.TcCoe Idealize.SL.Sem Cert.KernelIdeal.Gen

/-- Entry `(r, l)` of the block at `(R, C)` is entry `(R + r, C + l)` of the array. -/
theorem emb2 {n0 n1 s0 s1 : ℕ} (R C : ℕ) (q : ∀ a : Fin 2, (![R, C] : Fin 2 → ℕ) a + (![s0, s1] : Fin 2 → ℕ) a ≤ (⟨2, ![n0, n1]⟩ : Shape).size a) (r : Fin s0) (l : Fin s1) :
    (Rect.unit (s := ⟨2, ![n0, n1]⟩) ![R, C] ![s0, s1] q).emb (ix2 r l)
      = ix2 ⟨R + r.val, by have := q 0; have h : R + s0 ≤ n0 := this; omega⟩ ⟨C + l.val, by have := q 1; have h : C + s1 ≤ n1 := this; omega⟩ := by
  funext a
  match a with
  | ⟨0, _⟩ => ext; simp [Rect.emb, Rect.unit]
  | ⟨1, _⟩ => ext; simp [Rect.emb, Rect.unit]

/-! ## Loads -/

/-- A load of a block of a whole buffer, read at an entry. -/
theorem ld2 {e : EltTy} {n0 n1 s0 s1 : ℕ} (a : Memref sig .tc .vmem ⟨2, ![n0, n1]⟩ e) (w : a.IsWhole) (X : Vec Ideal ⟨2, ![n0, n1]⟩ e) (R C : ℕ)
    (q : ∀ a : Fin 2, (![R, C] : Fin 2 → ℕ) a + (![s0, s1] : Fin 2 → ℕ) a ≤ (⟨2, ![n0, n1]⟩ : Shape).size a) (r : Fin s0) (l : Fin s1) :
    View.readAt (Elt Ideal) a.view (Rect.unit (s := ⟨2, ![n0, n1]⟩) ![R, C] ![s0, s1] q).toLoadRect (w.unread X) (ix2 r l)
      = X (ix2 ⟨R + r.val, by have := q 0; have h : R + s0 ≤ n0 := this; omega⟩ ⟨C + l.val, by have := q 1; have h : C + s1 ≤ n1 := this; omega⟩) := by
  simp only [View.readAt_eq_ld, w.read_unread]
  rw [← emb2 R C q r l]
  rfl

/-- A load of a block of what covering stores left, read at an entry. -/
theorem cov2 {e : EltTy} {n0 n1 s0 s1 : ℕ} (v : View sig .tc .vmem ⟨2, ![n0, n1]⟩ e) (X : Vec Ideal ⟨2, ![n0, n1]⟩ e) (L : List (View.Piece (Elt Ideal) ⟨2, ![n0, n1]⟩ e))
    (hL : View.canon L = X) (hc : ∀ y, ∃ p ∈ L, y ∈ p.1.set) (R C : ℕ)
    (q : ∀ a : Fin 2, (![R, C] : Fin 2 → ℕ) a + (![s0, s1] : Fin 2 → ℕ) a ≤ (⟨2, ![n0, n1]⟩ : Shape).size a) (r : Fin s0) (l : Fin s1) :
    View.readCov v L (Rect.unit (s := ⟨2, ![n0, n1]⟩) ![R, C] ![s0, s1] q).toLoadRect (ix2 r l)
      = X (ix2 ⟨R + r.val, by have := q 0; have h : R + s0 ≤ n0 := this; omega⟩ ⟨C + l.val, by have := q 1; have h : C + s1 ≤ n1 := this; omega⟩) := by
  rw [View.readCov_eq_canon_ld v L _ hc, hL, ← emb2 R C q r l]
  rfl

/-! ## Every point -/

/-- The codes a point stores: each gradient row's entries, times the slot's multiplier, clipped. -/
def codesOf (i : ℕ) (oh : FVec Ideal S2048x256 .fp8e5m2) (m : FVec Ideal S2048x128 .f32) (dy : FVec Ideal S256x512 .fp8e5m2) : FVec Ideal S2048x512 .fp8e5m2 :=
  fun y => clip ((∑ k : Fin 256, oh (ix2 (y 0) k) * dy (ix2 k (y 1))) * m (ix2 (y 0) ⟨(4 * i + (y 1).val / 128) % 128, Nat.mod_lt _ (by decide)⟩))

theorem codes_piece (i : grid0.Coords) (hi : (i 0).val < 10) (b R : ℕ) (hb : b < 4) (hR : R + 128 ≤ 2048) (h1 h2)
    {mt : FVec Ideal S128x128 .f32} {oht : FVec Ideal S128x256 .fp8e5m2} {dyt : FVec Ideal S256x512 .fp8e5m2}
    (m : FVec Ideal S2048x128 .f32) (oh : FVec Ideal S2048x256 .fp8e5m2) (dy : FVec Ideal S256x512 .fp8e5m2)
    (hm : ∀ r l : Fin 128, mt (ix2 r l) = m (ix2 ⟨R + r.val, by omega⟩ ⟨0 + l.val, by omega⟩))
    (hoh : ∀ (r : Fin 128) (k : Fin 256), oht (ix2 r k) = oh (ix2 ⟨R + r.val, by omega⟩ ⟨0 + k.val, by omega⟩))
    (hdy : ∀ (k : Fin 256) (l : Fin 512), dyt (ix2 k l) = dy (ix2 ⟨0 + k.val, by omega⟩ ⟨0 + l.val, by omega⟩))
    (q4) (x : S128x128.Idx) :
    codesTile (F := Ideal) i b h1 h2 mt oht dyt x = codesOf (i 0).val oh m dy ((Rect.unit (s := S2048x512) ![R, 128 * b] S128x128.size q4).emb x) := by
  idx_vars x
  rw [codesTile_pt i hi b hb, show (Rect.unit (s := S2048x512) ![R, 128 * b] S128x128.size q4).emb (ix2 x0 x1) = _ from emb2 R (128 * b) q4 x0 x1]
  unfold codesOf
  simp only [hm, hoh, hdy]
  pointwise
  have e : (4 * (i 0).val + (128 * b + x1.val) / 128) % 128 = 4 * (i 0).val + b := by omega
  simp only [e, Nat.zero_add]

/-- A point's products of gradient rows and dequantised expert outputs, its four blocks added lane by lane. -/
def prodOf (i : ℕ) (hi : i < 10) (es : FVec Ideal S2048x128 .f32) (oh : FVec Ideal S2048x256 .fp8e5m2) (dy : FVec Ideal S256x512 .fp8e5m2) (e : FVec Ideal S2048x512 .fp8e4m3)
    (s : Fin 2048) (l : Fin 128) : EReal :=
  (((∑ k : Fin 256, oh (ix2 s k) * dy (ix2 k ⟨l.val, by omega⟩)) * (e (ix2 s ⟨l.val, by omega⟩) * es (ix2 s ⟨4 * i, by omega⟩))
    + (∑ k : Fin 256, oh (ix2 s k) * dy (ix2 k ⟨128 + l.val, by omega⟩)) * (e (ix2 s ⟨128 + l.val, by omega⟩) * es (ix2 s ⟨4 * i + 1, by omega⟩)))
    + (∑ k : Fin 256, oh (ix2 s k) * dy (ix2 k ⟨256 + l.val, by omega⟩)) * (e (ix2 s ⟨256 + l.val, by omega⟩) * es (ix2 s ⟨4 * i + 2, by omega⟩)))
    + (∑ k : Fin 256, oh (ix2 s k) * dy (ix2 k ⟨384 + l.val, by omega⟩)) * (e (ix2 s ⟨384 + l.val, by omega⟩) * es (ix2 s ⟨4 * i + 3, by omega⟩))

/-- The accumulator after a point. -/
def accOf (i : ℕ) (hi : i < 10) (es : FVec Ideal S2048x128 .f32) (oh : FVec Ideal S2048x256 .fp8e5m2) (dy : FVec Ideal S256x512 .fp8e5m2) (e : FVec Ideal S2048x512 .fp8e4m3)
    (acc : FVec Ideal S2048x128 .f32) : FVec Ideal S2048x128 .f32 :=
  fun y => acc y + prodOf i hi es oh dy e (y 0) (y 1)

theorem acc_piece (i : grid0.Coords) (hi : (i 0).val < 10) (R : ℕ) (hR : R + 128 ≤ 2048)
    {est : FVec Ideal S128x128 .f32} {oht : FVec Ideal S128x256 .fp8e5m2} {dyt : FVec Ideal S256x512 .fp8e5m2} {e0 e1 e2 e3 : FVec Ideal S128x128 .fp8e4m3} {acct : FVec Ideal S128x128 .f32}
    (es : FVec Ideal S2048x128 .f32) (oh : FVec Ideal S2048x256 .fp8e5m2) (dy : FVec Ideal S256x512 .fp8e5m2) (e : FVec Ideal S2048x512 .fp8e4m3) (acc : FVec Ideal S2048x128 .f32)
    (hes : ∀ r l : Fin 128, est (ix2 r l) = es (ix2 ⟨R + r.val, by omega⟩ ⟨0 + l.val, by omega⟩))
    (hoh : ∀ (r : Fin 128) (k : Fin 256), oht (ix2 r k) = oh (ix2 ⟨R + r.val, by omega⟩ ⟨0 + k.val, by omega⟩))
    (hdy : ∀ (k : Fin 256) (l : Fin 512), dyt (ix2 k l) = dy (ix2 ⟨0 + k.val, by omega⟩ ⟨0 + l.val, by omega⟩))
    (he0 : ∀ r l : Fin 128, e0 (ix2 r l) = e (ix2 ⟨R + r.val, by omega⟩ ⟨0 + l.val, by omega⟩))
    (he1 : ∀ r l : Fin 128, e1 (ix2 r l) = e (ix2 ⟨R + r.val, by omega⟩ ⟨128 + l.val, by omega⟩))
    (he2 : ∀ r l : Fin 128, e2 (ix2 r l) = e (ix2 ⟨R + r.val, by omega⟩ ⟨256 + l.val, by omega⟩))
    (he3 : ∀ r l : Fin 128, e3 (ix2 r l) = e (ix2 ⟨R + r.val, by omega⟩ ⟨384 + l.val, by omega⟩))
    (hacc : ∀ r l : Fin 128, acct (ix2 r l) = acc (ix2 ⟨R + r.val, by omega⟩ ⟨0 + l.val, by omega⟩))
    (q4) (x : S128x128.Idx) :
    accTile (F := Ideal) i est oht dyt e0 e1 e2 e3 acct x = accOf (i 0).val hi es oh dy e acc ((Rect.unit (s := S2048x128) ![R, 0] S128x128.size q4).emb x) := by
  idx_vars x
  rw [accTile_pt i hi, show (Rect.unit (s := S2048x128) ![R, 0] S128x128.size q4).emb (ix2 x0 x1) = _ from emb2 R 0 q4 x0 x1]
  unfold accOf prodOf
  simp only [hes, hoh, hdy, he0, he1, he2, he3, hacc, Nat.zero_add]
  rfl

/-! ## The first point -/

/-- The dispatched slot of each gathered row, as a number. -/
def ordN (od : Vec Ideal S16x128 .i32) (s : Fin 2048) : ℕ := ((od (ix2 ⟨s.val / 128, by omega⟩ ⟨s.val % 128, by omega⟩) : BitVec 32)).toNat

/-- A row's token. -/
def tokOf (od : Vec Ideal S16x128 .i32) (s : Fin 2048) : Fin 256 := ⟨ordN od s / 8 % 256, by omega⟩

/-- A row's place among its token's gates. -/
def gateOf (od : Vec Ideal S16x128 .i32) (s : Fin 2048) : Fin 8 := ⟨ordN od s % 8, by omega⟩

/-- A row's gate times its token's scale. -/
def gOf (od : Vec Ideal S16x128 .i32) (gt : FVec Ideal S256x8 .f32) (sc : FVec Ideal S256x1 .f32) (s : Fin 2048) : EReal :=
  gt (ix2 (tokOf od s) (gateOf od s)) * sc (ix2 (tokOf od s) 0)

/-- The largest magnitude of a token's block. -/
def aOf (dy : FVec Ideal S256x5120 .fp8e5m2) (t : Fin 256) (l : ℕ) : EReal :=
  if h : l < 40 then rowMax (fun k : Fin 128 => dy (ix2 t ⟨128 * l + k.val, by omega⟩)) else 0

/-- A row's block value that fixes the block's exponent. -/
def uOf (od : Vec Ideal S16x128 .i32) (gt : FVec Ideal S256x8 .f32) (sc : FVec Ideal S256x1 .f32) (dy : FVec Ideal S256x5120 .fp8e5m2) (s : Fin 2048) (l : ℕ) : EReal :=
  if l < 40 then uVal (gOf od gt sc s) (aOf dy (tokOf od s) l) else 0

/-- The one-hot rows. -/
def ohOf (od : Vec Ideal S16x128 .i32) : FVec Ideal S2048x256 .fp8e5m2 := fun y => if (y 1).val = (tokOf od (y 0)).val then 1 else 0

/-- The multipliers. -/
def mOf (od : Vec Ideal S16x128 .i32) (gt : FVec Ideal S256x8 .f32) (sc : FVec Ideal S256x1 .f32) (dy : FVec Ideal S256x5120 .fp8e5m2) : FVec Ideal S2048x128 .f32 :=
  fun y => gOf od gt sc (y 0) * pow2W (IntOp.subi 0#32 (exW (uOf od gt sc dy (y 0) (y 1).val)))

/-- The block scales. -/
def scaleOf (od : Vec Ideal S16x128 .i32) (gt : FVec Ideal S256x8 .f32) (sc : FVec Ideal S256x1 .f32) (dy : FVec Ideal S256x5120 .fp8e5m2) : FVec Ideal S2048x40 .f32 :=
  fun y => pow2W (exW (uOf od gt sc dy (y 0) (y 1).val))

/-- The expert scales, widened with zeros. -/
def esOf (es : FVec Ideal S2048x40 .f32) : FVec Ideal S2048x128 .f32 := fun y => if h : (y 1).val < 40 then es (ix2 (y 0) ⟨(y 1).val, h⟩) else 0

/-- A chunk's column of slots holds the numbers of its rows. -/
theorem ord_col (od : Vec Ideal S16x128 .i32) (n : ℕ) (hn : n < 16) (h) {x : Vec Ideal S16x128 .i32}
    (hx : ∀ (c : Fin 16) (r : Fin 128), x (ix2 c r) = od (ix2 ⟨0 + c.val, by omega⟩ ⟨0 + r.val, by omega⟩)) (r : Fin 128) :
    ordCol n h (ordT (F := Ideal) x) (ix2 r 0) = BitVec.ofNat 32 (ordN od ⟨128 * n + r.val, by omega⟩) := by
  rw [ordCol_pt n hn, ordT_pt, hx]
  unfold ordN
  have e1 : (128 * n + r.val) / 128 = n := by omega
  have e2 : (128 * n + r.val) % 128 = r.val := by omega
  simp only [e1, e2, Nat.zero_add]
  exact (BitVec.eq_of_toNat_eq (by rw [BitVec.toNat_ofNat, Nat.mod_eq_of_lt (BitVec.isLt _)]))

/-- What a chunk's column of slots says of its row at `R + r`. -/
def ColAt (od : Vec Ideal S16x128 .i32) (R : ℕ) (hR : R + 128 ≤ 2048) (o : IVec S128x1 32) : Prop :=
  ∀ r : Fin 128, o (ix2 r 0) = BitVec.ofNat 32 (ordN od ⟨R + r.val, by omega⟩)

theorem oh_piece (od : Vec Ideal S16x128 .i32) (hN : ∀ s, ordN od s < 2048) (R : ℕ) (hR : R + 128 ≤ 2048) {o : IVec S128x1 32} (ho : ColAt od R hR o) (q4) (x : S128x256.Idx) :
    ohTile (F := Ideal) o x = ohOf od ((Rect.unit (s := S2048x256) ![R, 0] S128x256.size q4).emb x) := by
  idx_vars x
  have h := hN ⟨R + x0.val, by omega⟩
  rw [ohTile_pt o x0 x1 _ h (ho x0), show (Rect.unit (s := S2048x256) ![R, 0] S128x256.size q4).emb (ix2 x0 x1) = _ from emb2 R 0 q4 x0 x1]
  unfold ohOf tokOf
  refine if_congr ?_ rfl rfl
  simp only [ix2_0, ix2_1, Nat.zero_add]
  omega

/-- The table's two parts: the row maxima and the gates times the token scales. -/
structure TableAt (gt : FVec Ideal S256x8 .f32) (sc : FVec Ideal S256x1 .f32) (dy : FVec Ideal S256x5120 .fp8e5m2) (a : FVec Ideal S256x128 .f32) (gs : FVec Ideal S256x8 .f32) : Prop where
  lo : ∀ (t : Fin 256) (l : Fin 128), a (ix2 t l) = aOf dy t l.val
  hi : ∀ (t : Fin 256) (p : Fin 8), gs (ix2 t p) = gt (ix2 t p) * sc (ix2 t 0)

theorem gs_at {od gt sc dy a gs} (hT : TableAt gt sc dy a gs) (hN : ∀ s, ordN od s < 2048) (s : Fin 2048) :
    gs (ix2 ⟨ordN od s / 8, by have := hN s; omega⟩ ⟨ordN od s % 8, by omega⟩) = gOf od gt sc s := by
  have h := hN s
  rw [hT.hi]
  have e : (⟨ordN od s / 8, by omega⟩ : Fin 256) = tokOf od s := Fin.ext (by simp only [tokOf]; omega)
  rw [e]
  rfl

theorem a_at {od gt sc dy a gs} (hT : TableAt gt sc dy a gs) (hN : ∀ s, ordN od s < 2048) (s : Fin 2048) (l : Fin 128) :
    a (ix2 ⟨ordN od s / 8, by have := hN s; omega⟩ l) = aOf dy (tokOf od s) l.val := by
  have h := hN s
  rw [hT.lo]
  have e : (⟨ordN od s / 8, by omega⟩ : Fin 256) = tokOf od s := Fin.ext (by simp only [tokOf]; omega)
  rw [e]

theorem gs_fin {gt sc dy a gs} (hT : TableAt gt sc dy a gs) (hF : ∀ (t : Fin 256) (p : Fin 8), ∃ x : ℝ, gt (ix2 t p) * sc (ix2 t 0) = (x : EReal)) :
    ∀ t p, ∃ x : ℝ, gs (ix2 t p) = (x : EReal) := fun t p => by
  rw [hT.hi]; exact hF t p

theorem m_piece (od : Vec Ideal S16x128 .i32) (hN : ∀ s, ordN od s < 2048) {gt sc dy a gs} (hT : TableAt gt sc dy a gs)
    (hF : ∀ (t : Fin 256) (p : Fin 8), ∃ x : ℝ, gt (ix2 t p) * sc (ix2 t 0) = (x : EReal))
    (R : ℕ) (hR : R + 128 ≤ 2048) {o : IVec S128x1 32} (ho : ColAt od R hR o) (q4) (x : S128x128.Idx) :
    mTile (F := Ideal) (table a gs) o x = mOf od gt sc dy ((Rect.unit (s := S2048x128) ![R, 0] S128x128.size q4).emb x) := by
  idx_vars x
  have h := hN ⟨R + x0.val, by omega⟩
  rw [mTile_pt a gs (gs_fin hT hF) o x0 x1 _ h (ho x0), show (Rect.unit (s := S2048x128) ![R, 0] S128x128.size q4).emb (ix2 x0 x1) = _ from emb2 R 0 q4 x0 x1,
    gs_at hT hN, a_at hT hN]
  unfold mOf uOf
  simp only [ix2_0, ix2_1, Nat.zero_add]

theorem scale_piece (od : Vec Ideal S16x128 .i32) (hN : ∀ s, ordN od s < 2048) {gt sc dy a gs} (hT : TableAt gt sc dy a gs)
    (hF : ∀ (t : Fin 256) (p : Fin 8), ∃ x : ℝ, gt (ix2 t p) * sc (ix2 t 0) = (x : EReal))
    (R : ℕ) (hR : R + 128 ≤ 2048) {o : IVec S128x1 32} (ho : ColAt od R hR o) (q4) (x : S128x40.Idx) :
    scaleTile (F := Ideal) (table a gs) o x = scaleOf od gt sc dy ((Rect.unit (s := S2048x40) ![R, 0] S128x40.size q4).emb x) := by
  idx_vars x
  have h := hN ⟨R + x0.val, by omega⟩
  rw [scaleTile_pt a gs (gs_fin hT hF) o x0 x1 _ h (ho x0), show (Rect.unit (s := S2048x40) ![R, 0] S128x40.size q4).emb (ix2 x0 x1) = _ from emb2 R 0 q4 x0 x1,
    gs_at hT hN, a_at hT hN]
  unfold scaleOf uOf
  simp only [ix2_0, ix2_1, Nat.zero_add, if_pos x1.isLt]

theorem es_piece (es : FVec Ideal S2048x40 .f32) (R : ℕ) (hR : R + 128 ≤ 2048) {est : FVec Ideal S128x40 .f32}
    (he : ∀ (r : Fin 128) (l : Fin 40), est (ix2 r l) = es (ix2 ⟨R + r.val, by omega⟩ ⟨0 + l.val, by omega⟩)) (q4) (x : S128x128.Idx) :
    esTile (F := Ideal) est x = esOf es ((Rect.unit (s := S2048x128) ![R, 0] S128x128.size q4).emb x) := by
  idx_vars x
  rw [esTile_pt, show (Rect.unit (s := S2048x128) ![R, 0] S128x128.size q4).emb (ix2 x0 x1) = _ from emb2 R 0 q4 x0 x1]
  unfold esOf
  simp only [ix2_0, ix2_1, Nat.zero_add, he]

theorem zero_piece (R : ℕ) (q4) (x : S128x128.Idx) :
    (zeroTile : FVec Ideal S128x128 .f32) x = (fun _ => (0 : EReal) : FVec Ideal S2048x128 .f32) ((Rect.unit (s := S2048x128) ![R, 0] S128x128.size q4).emb x) := by
  idx_vars x
  exact zeroTile_pt x0 x1

/-- The row maxima after the first `b` blocks. -/
def AmaxAt (dy : FVec Ideal S256x5120 .fp8e5m2) (b : ℕ) (a : FVec Ideal S256x128 .f32) : Prop :=
  ∀ (t : Fin 256) (l : Fin 128), a (ix2 t l) = if l.val < b then aOf dy t l.val else 0

theorem amaxAt_zero (dy : FVec Ideal S256x5120 .fp8e5m2) : AmaxAt dy 0 amaxZero := by
  intro t l
  rw [if_neg (by omega)]
  pointwise [amaxZero]

theorem AmaxAt.step {dy : FVec Ideal S256x5120 .fp8e5m2} {b : ℕ} {a : FVec Ideal S256x128 .f32} (h : AmaxAt dy b a) (hb : b < 40) {x : FVec Ideal S256x128 .fp8e5m2}
    (hx : ∀ (r : Fin 256) (k : Fin 128), x (ix2 r k) = dy (ix2 ⟨0 + r.val, by omega⟩ ⟨128 * b + k.val, by omega⟩)) :
    AmaxAt dy (b + 1) (amaxStep (F := Ideal) (BitVec.ofNat 32 b) x a) := by
  intro t l
  rw [amaxStep_pt b (by omega), h]
  by_cases e : l.val = b
  · rw [if_pos e, if_pos (by omega)]
    unfold aOf
    rw [dif_pos (by omega)]
    congr 1; funext k; rw [hx]; simp only [Nat.zero_add, e]
  · rw [if_neg e]
    by_cases h' : l.val < b
    · rw [if_pos h', if_pos (by omega)]
    · rw [if_neg h', if_neg (by omega)]

theorem tableAt {gt : FVec Ideal S256x8 .f32} {sc : FVec Ideal S256x1 .f32} {dy : FVec Ideal S256x5120 .fp8e5m2} {a : FVec Ideal S256x128 .f32}
    (ha : AmaxAt dy 40 a) {g : FVec Ideal S256x8 .f32} {s : FVec Ideal S256x1 .f32}
    (hg : ∀ (t : Fin 256) (p : Fin 8), g (ix2 t p) = gt (ix2 ⟨0 + t.val, by omega⟩ ⟨0 + p.val, by omega⟩))
    (hs : ∀ (t : Fin 256) (p : Fin 1), s (ix2 t p) = sc (ix2 ⟨0 + t.val, by omega⟩ ⟨0 + p.val, by omega⟩)) :
    TableAt gt sc dy a (gsTile (F := Ideal) g s) where
  lo t l := by
    rw [ha]
    by_cases h : l.val < 40
    · rw [if_pos h]
    · rw [if_neg h]; unfold aOf; rw [dif_neg h]
  hi t p := by
    rw [gsTile_pt, hg, hs]
    simp only [Nat.zero_add]

/-! ## The last point -/

/-- What a row adds to entry `(p, k)` of the scatter. -/
def dgTerm (od : Vec Ideal S16x128 .i32) (oh : FVec Ideal S2048x256 .fp8e5m2) (acc : FVec Ideal S2048x128 .f32) (p : Fin 128) (k : Fin 256) (s : Fin 2048) : EReal :=
  if p.val < 24 ∧ p.val % 8 = (gateOf od s).val then pieceVal p (∑ l : Fin 128, acc (ix2 s l)) * oh (ix2 s k) else 0

/-- The scatter after `n` chunks. -/
def dgSum (od : Vec Ideal S16x128 .i32) (oh : FVec Ideal S2048x256 .fp8e5m2) (acc : FVec Ideal S2048x128 .f32) (n : ℕ) (p : Fin 128) (k : Fin 256) : EReal :=
  ∑ c ∈ Finset.range n, ∑ x : Fin 128, dgTerm od oh acc p k ⟨(128 * c + x.val) % 2048, Nat.mod_lt _ (by decide)⟩

/-- The gates' gradients. -/
def dgOf (od : Vec Ideal S16x128 .i32) (sc : FVec Ideal S256x1 .f32) (oh : FVec Ideal S2048x256 .fp8e5m2) (acc : FVec Ideal S2048x128 .f32) : FVec Ideal S256x8 .f32 :=
  fun y => ((dgSum od oh acc 16 ⟨(y 1).val, by have h : (y 1).val < 8 := (y 1).isLt; omega⟩ (y 0) + dgSum od oh acc 16 ⟨8 + (y 1).val, by have h : (y 1).val < 8 := (y 1).isLt; omega⟩ (y 0))
    + dgSum od oh acc 16 ⟨16 + (y 1).val, by have h : (y 1).val < 8 := (y 1).isLt; omega⟩ (y 0)) * sc (ix2 (y 0) 0)

/-- The scatter holds the first `n` chunks' sum. -/
def DgAt (od : Vec Ideal S16x128 .i32) (oh : FVec Ideal S2048x256 .fp8e5m2) (acc : FVec Ideal S2048x128 .f32) (n : ℕ) (out : FVec Ideal S128x256 .f32) : Prop :=
  ∀ (p : Fin 128) (k : Fin 256), out (ix2 p k) = dgSum od oh acc n p k

theorem dgAt_zero (od oh acc) : DgAt od oh acc 0 dgZero := by
  intro p k
  rw [dgZero_pt]
  rfl

theorem DgAt.step {od : Vec Ideal S16x128 .i32} {oh : FVec Ideal S2048x256 .fp8e5m2} {acc : FVec Ideal S2048x128 .f32} {n : ℕ} {out : FVec Ideal S128x256 .f32}
    (h : DgAt od oh acc n out) (hn : n < 16) (hN : ∀ s, ordN od s < 2048) {o : IVec S128x1 32} (ho : ColAt od (128 * n) (by omega) o)
    {acct : FVec Ideal S128x128 .f32} {oht : FVec Ideal S128x256 .fp8e5m2}
    (hacc : ∀ r l : Fin 128, acct (ix2 r l) = acc (ix2 ⟨128 * n + r.val, by omega⟩ ⟨0 + l.val, by omega⟩))
    (hoh : ∀ (r : Fin 128) (k : Fin 256), oht (ix2 r k) = oh (ix2 ⟨128 * n + r.val, by omega⟩ ⟨0 + k.val, by omega⟩)) :
    DgAt od oh acc (n + 1) (dgStep (F := Ideal) o acct oht out) := by
  intro p k
  rw [dgStep_pt o acct oht out p k (fun x => ordN od ⟨128 * n + x.val, by omega⟩) (fun x => hN _) ho, h p k]
  unfold dgSum
  rw [Finset.sum_range_succ]
  refine congrArg _ (Finset.sum_congr rfl fun x _ => ?_)
  have e : (⟨(128 * n + x.val) % 2048, Nat.mod_lt _ (by decide)⟩ : Fin 2048) = ⟨128 * n + x.val, by omega⟩ := Fin.ext (by simp only; omega)
  rw [e]
  unfold dgTerm gateOf
  simp only [hacc, hoh, Nat.zero_add]

theorem dg_piece {od : Vec Ideal S16x128 .i32} {oh : FVec Ideal S2048x256 .fp8e5m2} {acc : FVec Ideal S2048x128 .f32} {out : FVec Ideal S128x256 .f32}
    (h : DgAt od oh acc 16 out) (sc : FVec Ideal S256x1 .f32) {s : FVec Ideal S256x1 .f32}
    (hs : ∀ (t : Fin 256) (p : Fin 1), s (ix2 t p) = sc (ix2 ⟨0 + t.val, by omega⟩ ⟨0 + p.val, by omega⟩)) (q4) (x : S256x8.Idx) :
    dgOut (F := Ideal) out s x = dgOf od sc oh acc ((Rect.unit (s := S256x8) ![0, 0] S256x8.size q4).emb x) := by
  idx_vars x
  rw [dgOut_pt, show (Rect.unit (s := S256x8) ![0, 0] S256x8.size q4).emb (ix2 x0 x1) = _ from emb2 0 0 q4 x0 x1, h, h, h, hs]
  unfold dgOf
  simp only [ix2_0, ix2_1, Nat.zero_add]

end Cert.KernelIdeal.Tile

end
-- ==== Proof.KI.ValA0.lean ====
/- What the body stores at the first point before its block: the tables, as blocks of whole-buffer functions. -/
module

public import proofs.«01_k».proof.Proof.KI.RunA
public import proofs.«01_k».proof.Proof.KI.Spec

@[expose] public section

set_option maxRecDepth 16384

noncomputable section

namespace Cert.KernelIdeal.Gen

open Idealize.ShloMosaic Idealize.ShloMosaic.TcCoe Idealize.ShloMosaic.Tactic
open Idealize.SL Idealize.SL.Sem
open Cert.KernelIdeal.Tile

theorem runA_oh_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (y : S2048x256.Idx) :
    ∃ pc ∈ (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1, y ∈ pc.1.set :=
  View.cover_of_tiledL (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1 S128x256.size (by sl_kernel_rfl) y

theorem runA_m_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (y : S2048x128.Idx) :
    ∃ pc ∈ (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1, y ∈ pc.1.set :=
  View.cover_of_tiledL (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1 S128x128.size (by sl_kernel_rfl) y

theorem runA_es_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (y : S2048x128.Idx) :
    ∃ pc ∈ (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1, y ∈ pc.1.set :=
  View.cover_of_tiledL (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1 S128x128.size (by sl_kernel_rfl) y

theorem runA_scale_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (y : S2048x40.Idx) :
    ∃ pc ∈ (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1, y ∈ pc.1.set :=
  View.cover_of_tiledL (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1 S128x40.size (by sl_kernel_rfl) y

theorem runA_zero_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (y : S2048x128.Idx) :
    ∃ pc ∈ ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val.drop 16), y ∈ pc.1.set :=
  View.cover_of_tiledL ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val.drop 16) S128x128.size (by sl_kernel_rfl) y

set_option maxHeartbeats 4000000 in
theorem runA_oh (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (hN : ∀ s, ordN x0 s < 2048) :
    View.PiecesOf (ohOf x0) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1 := by
  exact ⟨fun x => oh_piece x0 hN 1920 (by decide) (ord_col x0 15 (by decide) slices_S128x16_o0_15_S128x1 (ld2 arg1 harg1 x0 0 0 inb_S16x128_S16x128_0_0)) inb_S2048x256_S128x256_1920_0 x,
  fun x => oh_piece x0 hN 1792 (by decide) (ord_col x0 14 (by decide) slices_S128x16_o0_14_S128x1 (ld2 arg1 harg1 x0 0 0 inb_S16x128_S16x128_0_0)) inb_S2048x256_S128x256_1792_0 x,
  fun x => oh_piece x0 hN 1664 (by decide) (ord_col x0 13 (by decide) slices_S128x16_o0_13_S128x1 (ld2 arg1 harg1 x0 0 0 inb_S16x128_S16x128_0_0)) inb_S2048x256_S128x256_1664_0 x,
  fun x => oh_piece x0 hN 1536 (by decide) (ord_col x0 12 (by decide) slices_S128x16_o0_12_S128x1 (ld2 arg1 harg1 x0 0 0 inb_S16x128_S16x128_0_0)) inb_S2048x256_S128x256_1536_0 x,
  fun x => oh_piece x0 hN 1408 (by decide) (ord_col x0 11 (by decide) slices_S128x16_o0_11_S128x1 (ld2 arg1 harg1 x0 0 0 inb_S16x128_S16x128_0_0)) inb_S2048x256_S128x256_1408_0 x,
  fun x => oh_piece x0 hN 1280 (by decide) (ord_col x0 10 (by decide) slices_S128x16_o0_10_S128x1 (ld2 arg1 harg1 x0 0 0 inb_S16x128_S16x128_0_0)) inb_S2048x256_S128x256_1280_0 x,
  fun x => oh_piece x0 hN 1152 (by decide) (ord_col x0 9 (by decide) slices_S128x16_o0_9_S128x1 (ld2 arg1 harg1 x0 0 0 inb_S16x128_S16x128_0_0)) inb_S2048x256_S128x256_1152_0 x,
  fun x => oh_piece x0 hN 1024 (by decide) (ord_col x0 8 (by decide) slices_S128x16_o0_8_S128x1 (ld2 arg1 harg1 x0 0 0 inb_S16x128_S16x128_0_0)) inb_S2048x256_S128x256_1024_0 x,
  fun x => oh_piece x0 hN 896 (by decide) (ord_col x0 7 (by decide) slices_S128x16_o0_7_S128x1 (ld2 arg1 harg1 x0 0 0 inb_S16x128_S16x128_0_0)) inb_S2048x256_S128x256_896_0 x,
  fun x => oh_piece x0 hN 768 (by decide) (ord_col x0 6 (by decide) slices_S128x16_o0_6_S128x1 (ld2 arg1 harg1 x0 0 0 inb_S16x128_S16x128_0_0)) inb_S2048x256_S128x256_768_0 x,
  fun x => oh_piece x0 hN 640 (by decide) (ord_col x0 5 (by decide) slices_S128x16_o0_5_S128x1 (ld2 arg1 harg1 x0 0 0 inb_S16x128_S16x128_0_0)) inb_S2048x256_S128x256_640_0 x,
  fun x => oh_piece x0 hN 512 (by decide) (ord_col x0 4 (by decide) slices_S128x16_o0_4_S128x1 (ld2 arg1 harg1 x0 0 0 inb_S16x128_S16x128_0_0)) inb_S2048x256_S128x256_512_0 x,
  fun x => oh_piece x0 hN 384 (by decide) (ord_col x0 3 (by decide) slices_S128x16_o0_3_S128x1 (ld2 arg1 harg1 x0 0 0 inb_S16x128_S16x128_0_0)) inb_S2048x256_S128x256_384_0 x,
  fun x => oh_piece x0 hN 256 (by decide) (ord_col x0 2 (by decide) slices_S128x16_o0_2_S128x1 (ld2 arg1 harg1 x0 0 0 inb_S16x128_S16x128_0_0)) inb_S2048x256_S128x256_256_0 x,
  fun x => oh_piece x0 hN 128 (by decide) (ord_col x0 1 (by decide) slices_S128x16_o0_1_S128x1 (ld2 arg1 harg1 x0 0 0 inb_S16x128_S16x128_0_0)) inb_S2048x256_S128x256_128_0 x,
  fun x => oh_piece x0 hN 0 (by decide) (ord_col x0 0 (by decide) slices_S128x16_o0_0_S128x1 (ld2 arg1 harg1 x0 0 0 inb_S16x128_S16x128_0_0)) inb_S2048x256_S128x256_0_0 x,
  trivial⟩

set_option maxHeartbeats 4000000 in
theorem runA_es (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3)  :
    View.PiecesOf (esOf x5) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1 := by
  exact ⟨fun x => es_piece x5 1920 (by decide) (ld2 arg6 harg6 x5 1920 0 inb_S2048x40_S128x40_1920_0) inb_S2048x128_S128x128_1920_0 x,
  fun x => es_piece x5 1792 (by decide) (ld2 arg6 harg6 x5 1792 0 inb_S2048x40_S128x40_1792_0) inb_S2048x128_S128x128_1792_0 x,
  fun x => es_piece x5 1664 (by decide) (ld2 arg6 harg6 x5 1664 0 inb_S2048x40_S128x40_1664_0) inb_S2048x128_S128x128_1664_0 x,
  fun x => es_piece x5 1536 (by decide) (ld2 arg6 harg6 x5 1536 0 inb_S2048x40_S128x40_1536_0) inb_S2048x128_S128x128_1536_0 x,
  fun x => es_piece x5 1408 (by decide) (ld2 arg6 harg6 x5 1408 0 inb_S2048x40_S128x40_1408_0) inb_S2048x128_S128x128_1408_0 x,
  fun x => es_piece x5 1280 (by decide) (ld2 arg6 harg6 x5 1280 0 inb_S2048x40_S128x40_1280_0) inb_S2048x128_S128x128_1280_0 x,
  fun x => es_piece x5 1152 (by decide) (ld2 arg6 harg6 x5 1152 0 inb_S2048x40_S128x40_1152_0) inb_S2048x128_S128x128_1152_0 x,
  fun x => es_piece x5 1024 (by decide) (ld2 arg6 harg6 x5 1024 0 inb_S2048x40_S128x40_1024_0) inb_S2048x128_S128x128_1024_0 x,
  fun x => es_piece x5 896 (by decide) (ld2 arg6 harg6 x5 896 0 inb_S2048x40_S128x40_896_0) inb_S2048x128_S128x128_896_0 x,
  fun x => es_piece x5 768 (by decide) (ld2 arg6 harg6 x5 768 0 inb_S2048x40_S128x40_768_0) inb_S2048x128_S128x128_768_0 x,
  fun x => es_piece x5 640 (by decide) (ld2 arg6 harg6 x5 640 0 inb_S2048x40_S128x40_640_0) inb_S2048x128_S128x128_640_0 x,
  fun x => es_piece x5 512 (by decide) (ld2 arg6 harg6 x5 512 0 inb_S2048x40_S128x40_512_0) inb_S2048x128_S128x128_512_0 x,
  fun x => es_piece x5 384 (by decide) (ld2 arg6 harg6 x5 384 0 inb_S2048x40_S128x40_384_0) inb_S2048x128_S128x128_384_0 x,
  fun x => es_piece x5 256 (by decide) (ld2 arg6 harg6 x5 256 0 inb_S2048x40_S128x40_256_0) inb_S2048x128_S128x128_256_0 x,
  fun x => es_piece x5 128 (by decide) (ld2 arg6 harg6 x5 128 0 inb_S2048x40_S128x40_128_0) inb_S2048x128_S128x128_128_0 x,
  fun x => es_piece x5 0 (by decide) (ld2 arg6 harg6 x5 0 0 inb_S2048x40_S128x40_0_0) inb_S2048x128_S128x128_0_0 x,
  trivial⟩

set_option maxHeartbeats 4000000 in
theorem runA_zero (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3)  :
    View.PiecesOf (fun _ => (0 : EReal) : FVec Ideal S2048x128 .f32) ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val.drop 16) := by
  exact ⟨fun x => zero_piece 1920 inb_S2048x128_S128x128_1920_0 x,
  fun x => zero_piece 1792 inb_S2048x128_S128x128_1792_0 x,
  fun x => zero_piece 1664 inb_S2048x128_S128x128_1664_0 x,
  fun x => zero_piece 1536 inb_S2048x128_S128x128_1536_0 x,
  fun x => zero_piece 1408 inb_S2048x128_S128x128_1408_0 x,
  fun x => zero_piece 1280 inb_S2048x128_S128x128_1280_0 x,
  fun x => zero_piece 1152 inb_S2048x128_S128x128_1152_0 x,
  fun x => zero_piece 1024 inb_S2048x128_S128x128_1024_0 x,
  fun x => zero_piece 896 inb_S2048x128_S128x128_896_0 x,
  fun x => zero_piece 768 inb_S2048x128_S128x128_768_0 x,
  fun x => zero_piece 640 inb_S2048x128_S128x128_640_0 x,
  fun x => zero_piece 512 inb_S2048x128_S128x128_512_0 x,
  fun x => zero_piece 384 inb_S2048x128_S128x128_384_0 x,
  fun x => zero_piece 256 inb_S2048x128_S128x128_256_0 x,
  fun x => zero_piece 128 inb_S2048x128_S128x128_128_0 x,
  fun x => zero_piece 0 inb_S2048x128_S128x128_0_0 x,
  trivial⟩

set_option maxHeartbeats 4000000 in
theorem runA_m (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (hN : ∀ s, ordN x0 s < 2048) (hF : ∀ (t : Fin 256) (p : Fin 8), ∃ x : ℝ, x1 (ix2 t p) * x2 (ix2 t 0) = (x : EReal)) :
    View.PiecesOf (mOf x0 x1 x2 x3) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1 := by
  have a0 := amaxAt_zero x3
  have a1 := AmaxAt.step (b := 0) a0 (by decide) (ld2 arg4 harg4 x3 0 0 inb_S256x5120_S256x128_0_0)
  have a2 := AmaxAt.step (b := 1) a1 (by decide) (ld2 arg4 harg4 x3 0 128 inb_S256x5120_S256x128_0_128)
  have a3 := AmaxAt.step (b := 2) a2 (by decide) (ld2 arg4 harg4 x3 0 256 inb_S256x5120_S256x128_0_256)
  have a4 := AmaxAt.step (b := 3) a3 (by decide) (ld2 arg4 harg4 x3 0 384 inb_S256x5120_S256x128_0_384)
  have a5 := AmaxAt.step (b := 4) a4 (by decide) (ld2 arg4 harg4 x3 0 512 inb_S256x5120_S256x128_0_512)
  have a6 := AmaxAt.step (b := 5) a5 (by decide) (ld2 arg4 harg4 x3 0 640 inb_S256x5120_S256x128_0_640)
  have a7 := AmaxAt.step (b := 6) a6 (by decide) (ld2 arg4 harg4 x3 0 768 inb_S256x5120_S256x128_0_768)
  have a8 := AmaxAt.step (b := 7) a7 (by decide) (ld2 arg4 harg4 x3 0 896 inb_S256x5120_S256x128_0_896)
  have a9 := AmaxAt.step (b := 8) a8 (by decide) (ld2 arg4 harg4 x3 0 1024 inb_S256x5120_S256x128_0_1024)
  have a10 := AmaxAt.step (b := 9) a9 (by decide) (ld2 arg4 harg4 x3 0 1152 inb_S256x5120_S256x128_0_1152)
  have a11 := AmaxAt.step (b := 10) a10 (by decide) (ld2 arg4 harg4 x3 0 1280 inb_S256x5120_S256x128_0_1280)
  have a12 := AmaxAt.step (b := 11) a11 (by decide) (ld2 arg4 harg4 x3 0 1408 inb_S256x5120_S256x128_0_1408)
  have a13 := AmaxAt.step (b := 12) a12 (by decide) (ld2 arg4 harg4 x3 0 1536 inb_S256x5120_S256x128_0_1536)
  have a14 := AmaxAt.step (b := 13) a13 (by decide) (ld2 arg4 harg4 x3 0 1664 inb_S256x5120_S256x128_0_1664)
  have a15 := AmaxAt.step (b := 14) a14 (by decide) (ld2 arg4 harg4 x3 0 1792 inb_S256x5120_S256x128_0_1792)
  have a16 := AmaxAt.step (b := 15) a15 (by decide) (ld2 arg4 harg4 x3 0 1920 inb_S256x5120_S256x128_0_1920)
  have a17 := AmaxAt.step (b := 16) a16 (by decide) (ld2 arg4 harg4 x3 0 2048 inb_S256x5120_S256x128_0_2048)
  have a18 := AmaxAt.step (b := 17) a17 (by decide) (ld2 arg4 harg4 x3 0 2176 inb_S256x5120_S256x128_0_2176)
  have a19 := AmaxAt.step (b := 18) a18 (by decide) (ld2 arg4 harg4 x3 0 2304 inb_S256x5120_S256x128_0_2304)
  have a20 := AmaxAt.step (b := 19) a19 (by decide) (ld2 arg4 harg4 x3 0 2432 inb_S256x5120_S256x128_0_2432)
  have a21 := AmaxAt.step (b := 20) a20 (by decide) (ld2 arg4 harg4 x3 0 2560 inb_S256x5120_S256x128_0_2560)
  have a22 := AmaxAt.step (b := 21) a21 (by decide) (ld2 arg4 harg4 x3 0 2688 inb_S256x5120_S256x128_0_2688)
  have a23 := AmaxAt.step (b := 22) a22 (by decide) (ld2 arg4 harg4 x3 0 2816 inb_S256x5120_S256x128_0_2816)
  have a24 := AmaxAt.step (b := 23) a23 (by decide) (ld2 arg4 harg4 x3 0 2944 inb_S256x5120_S256x128_0_2944)
  have a25 := AmaxAt.step (b := 24) a24 (by decide) (ld2 arg4 harg4 x3 0 3072 inb_S256x5120_S256x128_0_3072)
  have a26 := AmaxAt.step (b := 25) a25 (by decide) (ld2 arg4 harg4 x3 0 3200 inb_S256x5120_S256x128_0_3200)
  have a27 := AmaxAt.step (b := 26) a26 (by decide) (ld2 arg4 harg4 x3 0 3328 inb_S256x5120_S256x128_0_3328)
  have a28 := AmaxAt.step (b := 27) a27 (by decide) (ld2 arg4 harg4 x3 0 3456 inb_S256x5120_S256x128_0_3456)
  have a29 := AmaxAt.step (b := 28) a28 (by decide) (ld2 arg4 harg4 x3 0 3584 inb_S256x5120_S256x128_0_3584)
  have a30 := AmaxAt.step (b := 29) a29 (by decide) (ld2 arg4 harg4 x3 0 3712 inb_S256x5120_S256x128_0_3712)
  have a31 := AmaxAt.step (b := 30) a30 (by decide) (ld2 arg4 harg4 x3 0 3840 inb_S256x5120_S256x128_0_3840)
  have a32 := AmaxAt.step (b := 31) a31 (by decide) (ld2 arg4 harg4 x3 0 3968 inb_S256x5120_S256x128_0_3968)
  have a33 := AmaxAt.step (b := 32) a32 (by decide) (ld2 arg4 harg4 x3 0 4096 inb_S256x5120_S256x128_0_4096)
  have a34 := AmaxAt.step (b := 33) a33 (by decide) (ld2 arg4 harg4 x3 0 4224 inb_S256x5120_S256x128_0_4224)
  have a35 := AmaxAt.step (b := 34) a34 (by decide) (ld2 arg4 harg4 x3 0 4352 inb_S256x5120_S256x128_0_4352)
  have a36 := AmaxAt.step (b := 35) a35 (by decide) (ld2 arg4 harg4 x3 0 4480 inb_S256x5120_S256x128_0_4480)
  have a37 := AmaxAt.step (b := 36) a36 (by decide) (ld2 arg4 harg4 x3 0 4608 inb_S256x5120_S256x128_0_4608)
  have a38 := AmaxAt.step (b := 37) a37 (by decide) (ld2 arg4 harg4 x3 0 4736 inb_S256x5120_S256x128_0_4736)
  have a39 := AmaxAt.step (b := 38) a38 (by decide) (ld2 arg4 harg4 x3 0 4864 inb_S256x5120_S256x128_0_4864)
  have a40 := AmaxAt.step (b := 39) a39 (by decide) (ld2 arg4 harg4 x3 0 4992 inb_S256x5120_S256x128_0_4992)
  have hT := tableAt a40 (ld2 arg2 harg2 x1 0 0 inb_S256x8_S256x8_0_0) (ld2 arg3 harg3 x2 0 0 inb_S256x1_S256x1_0_0)
  exact ⟨fun x => m_piece x0 hN hT hF 1920 (by decide) (ord_col x0 15 (by decide) slices_S128x16_o0_15_S128x1 (ld2 arg1 harg1 x0 0 0 inb_S16x128_S16x128_0_0)) inb_S2048x128_S128x128_1920_0 x,
  fun x => m_piece x0 hN hT hF 1792 (by decide) (ord_col x0 14 (by decide) slices_S128x16_o0_14_S128x1 (ld2 arg1 harg1 x0 0 0 inb_S16x128_S16x128_0_0)) inb_S2048x128_S128x128_1792_0 x,
  fun x => m_piece x0 hN hT hF 1664 (by decide) (ord_col x0 13 (by decide) slices_S128x16_o0_13_S128x1 (ld2 arg1 harg1 x0 0 0 inb_S16x128_S16x128_0_0)) inb_S2048x128_S128x128_1664_0 x,
  fun x => m_piece x0 hN hT hF 1536 (by decide) (ord_col x0 12 (by decide) slices_S128x16_o0_12_S128x1 (ld2 arg1 harg1 x0 0 0 inb_S16x128_S16x128_0_0)) inb_S2048x128_S128x128_1536_0 x,
  fun x => m_piece x0 hN hT hF 1408 (by decide) (ord_col x0 11 (by decide) slices_S128x16_o0_11_S128x1 (ld2 arg1 harg1 x0 0 0 inb_S16x128_S16x128_0_0)) inb_S2048x128_S128x128_1408_0 x,
  fun x => m_piece x0 hN hT hF 1280 (by decide) (ord_col x0 10 (by decide) slices_S128x16_o0_10_S128x1 (ld2 arg1 harg1 x0 0 0 inb_S16x128_S16x128_0_0)) inb_S2048x128_S128x128_1280_0 x,
  fun x => m_piece x0 hN hT hF 1152 (by decide) (ord_col x0 9 (by decide) slices_S128x16_o0_9_S128x1 (ld2 arg1 harg1 x0 0 0 inb_S16x128_S16x128_0_0)) inb_S2048x128_S128x128_1152_0 x,
  fun x => m_piece x0 hN hT hF 1024 (by decide) (ord_col x0 8 (by decide) slices_S128x16_o0_8_S128x1 (ld2 arg1 harg1 x0 0 0 inb_S16x128_S16x128_0_0)) inb_S2048x128_S128x128_1024_0 x,
  fun x => m_piece x0 hN hT hF 896 (by decide) (ord_col x0 7 (by decide) slices_S128x16_o0_7_S128x1 (ld2 arg1 harg1 x0 0 0 inb_S16x128_S16x128_0_0)) inb_S2048x128_S128x128_896_0 x,
  fun x => m_piece x0 hN hT hF 768 (by decide) (ord_col x0 6 (by decide) slices_S128x16_o0_6_S128x1 (ld2 arg1 harg1 x0 0 0 inb_S16x128_S16x128_0_0)) inb_S2048x128_S128x128_768_0 x,
  fun x => m_piece x0 hN hT hF 640 (by decide) (ord_col x0 5 (by decide) slices_S128x16_o0_5_S128x1 (ld2 arg1 harg1 x0 0 0 inb_S16x128_S16x128_0_0)) inb_S2048x128_S128x128_640_0 x,
  fun x => m_piece x0 hN hT hF 512 (by decide) (ord_col x0 4 (by decide) slices_S128x16_o0_4_S128x1 (ld2 arg1 harg1 x0 0 0 inb_S16x128_S16x128_0_0)) inb_S2048x128_S128x128_512_0 x,
  fun x => m_piece x0 hN hT hF 384 (by decide) (ord_col x0 3 (by decide) slices_S128x16_o0_3_S128x1 (ld2 arg1 harg1 x0 0 0 inb_S16x128_S16x128_0_0)) inb_S2048x128_S128x128_384_0 x,
  fun x => m_piece x0 hN hT hF 256 (by decide) (ord_col x0 2 (by decide) slices_S128x16_o0_2_S128x1 (ld2 arg1 harg1 x0 0 0 inb_S16x128_S16x128_0_0)) inb_S2048x128_S128x128_256_0 x,
  fun x => m_piece x0 hN hT hF 128 (by decide) (ord_col x0 1 (by decide) slices_S128x16_o0_1_S128x1 (ld2 arg1 harg1 x0 0 0 inb_S16x128_S16x128_0_0)) inb_S2048x128_S128x128_128_0 x,
  fun x => m_piece x0 hN hT hF 0 (by decide) (ord_col x0 0 (by decide) slices_S128x16_o0_0_S128x1 (ld2 arg1 harg1 x0 0 0 inb_S16x128_S16x128_0_0)) inb_S2048x128_S128x128_0_0 x,
  trivial⟩

set_option maxHeartbeats 4000000 in
theorem runA_scale (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (hN : ∀ s, ordN x0 s < 2048) (hF : ∀ (t : Fin 256) (p : Fin 8), ∃ x : ℝ, x1 (ix2 t p) * x2 (ix2 t 0) = (x : EReal)) :
    View.PiecesOf (scaleOf x0 x1 x2 x3) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1 := by
  have a0 := amaxAt_zero x3
  have a1 := AmaxAt.step (b := 0) a0 (by decide) (ld2 arg4 harg4 x3 0 0 inb_S256x5120_S256x128_0_0)
  have a2 := AmaxAt.step (b := 1) a1 (by decide) (ld2 arg4 harg4 x3 0 128 inb_S256x5120_S256x128_0_128)
  have a3 := AmaxAt.step (b := 2) a2 (by decide) (ld2 arg4 harg4 x3 0 256 inb_S256x5120_S256x128_0_256)
  have a4 := AmaxAt.step (b := 3) a3 (by decide) (ld2 arg4 harg4 x3 0 384 inb_S256x5120_S256x128_0_384)
  have a5 := AmaxAt.step (b := 4) a4 (by decide) (ld2 arg4 harg4 x3 0 512 inb_S256x5120_S256x128_0_512)
  have a6 := AmaxAt.step (b := 5) a5 (by decide) (ld2 arg4 harg4 x3 0 640 inb_S256x5120_S256x128_0_640)
  have a7 := AmaxAt.step (b := 6) a6 (by decide) (ld2 arg4 harg4 x3 0 768 inb_S256x5120_S256x128_0_768)
  have a8 := AmaxAt.step (b := 7) a7 (by decide) (ld2 arg4 harg4 x3 0 896 inb_S256x5120_S256x128_0_896)
  have a9 := AmaxAt.step (b := 8) a8 (by decide) (ld2 arg4 harg4 x3 0 1024 inb_S256x5120_S256x128_0_1024)
  have a10 := AmaxAt.step (b := 9) a9 (by decide) (ld2 arg4 harg4 x3 0 1152 inb_S256x5120_S256x128_0_1152)
  have a11 := AmaxAt.step (b := 10) a10 (by decide) (ld2 arg4 harg4 x3 0 1280 inb_S256x5120_S256x128_0_1280)
  have a12 := AmaxAt.step (b := 11) a11 (by decide) (ld2 arg4 harg4 x3 0 1408 inb_S256x5120_S256x128_0_1408)
  have a13 := AmaxAt.step (b := 12) a12 (by decide) (ld2 arg4 harg4 x3 0 1536 inb_S256x5120_S256x128_0_1536)
  have a14 := AmaxAt.step (b := 13) a13 (by decide) (ld2 arg4 harg4 x3 0 1664 inb_S256x5120_S256x128_0_1664)
  have a15 := AmaxAt.step (b := 14) a14 (by decide) (ld2 arg4 harg4 x3 0 1792 inb_S256x5120_S256x128_0_1792)
  have a16 := AmaxAt.step (b := 15) a15 (by decide) (ld2 arg4 harg4 x3 0 1920 inb_S256x5120_S256x128_0_1920)
  have a17 := AmaxAt.step (b := 16) a16 (by decide) (ld2 arg4 harg4 x3 0 2048 inb_S256x5120_S256x128_0_2048)
  have a18 := AmaxAt.step (b := 17) a17 (by decide) (ld2 arg4 harg4 x3 0 2176 inb_S256x5120_S256x128_0_2176)
  have a19 := AmaxAt.step (b := 18) a18 (by decide) (ld2 arg4 harg4 x3 0 2304 inb_S256x5120_S256x128_0_2304)
  have a20 := AmaxAt.step (b := 19) a19 (by decide) (ld2 arg4 harg4 x3 0 2432 inb_S256x5120_S256x128_0_2432)
  have a21 := AmaxAt.step (b := 20) a20 (by decide) (ld2 arg4 harg4 x3 0 2560 inb_S256x5120_S256x128_0_2560)
  have a22 := AmaxAt.step (b := 21) a21 (by decide) (ld2 arg4 harg4 x3 0 2688 inb_S256x5120_S256x128_0_2688)
  have a23 := AmaxAt.step (b := 22) a22 (by decide) (ld2 arg4 harg4 x3 0 2816 inb_S256x5120_S256x128_0_2816)
  have a24 := AmaxAt.step (b := 23) a23 (by decide) (ld2 arg4 harg4 x3 0 2944 inb_S256x5120_S256x128_0_2944)
  have a25 := AmaxAt.step (b := 24) a24 (by decide) (ld2 arg4 harg4 x3 0 3072 inb_S256x5120_S256x128_0_3072)
  have a26 := AmaxAt.step (b := 25) a25 (by decide) (ld2 arg4 harg4 x3 0 3200 inb_S256x5120_S256x128_0_3200)
  have a27 := AmaxAt.step (b := 26) a26 (by decide) (ld2 arg4 harg4 x3 0 3328 inb_S256x5120_S256x128_0_3328)
  have a28 := AmaxAt.step (b := 27) a27 (by decide) (ld2 arg4 harg4 x3 0 3456 inb_S256x5120_S256x128_0_3456)
  have a29 := AmaxAt.step (b := 28) a28 (by decide) (ld2 arg4 harg4 x3 0 3584 inb_S256x5120_S256x128_0_3584)
  have a30 := AmaxAt.step (b := 29) a29 (by decide) (ld2 arg4 harg4 x3 0 3712 inb_S256x5120_S256x128_0_3712)
  have a31 := AmaxAt.step (b := 30) a30 (by decide) (ld2 arg4 harg4 x3 0 3840 inb_S256x5120_S256x128_0_3840)
  have a32 := AmaxAt.step (b := 31) a31 (by decide) (ld2 arg4 harg4 x3 0 3968 inb_S256x5120_S256x128_0_3968)
  have a33 := AmaxAt.step (b := 32) a32 (by decide) (ld2 arg4 harg4 x3 0 4096 inb_S256x5120_S256x128_0_4096)
  have a34 := AmaxAt.step (b := 33) a33 (by decide) (ld2 arg4 harg4 x3 0 4224 inb_S256x5120_S256x128_0_4224)
  have a35 := AmaxAt.step (b := 34) a34 (by decide) (ld2 arg4 harg4 x3 0 4352 inb_S256x5120_S256x128_0_4352)
  have a36 := AmaxAt.step (b := 35) a35 (by decide) (ld2 arg4 harg4 x3 0 4480 inb_S256x5120_S256x128_0_4480)
  have a37 := AmaxAt.step (b := 36) a36 (by decide) (ld2 arg4 harg4 x3 0 4608 inb_S256x5120_S256x128_0_4608)
  have a38 := AmaxAt.step (b := 37) a37 (by decide) (ld2 arg4 harg4 x3 0 4736 inb_S256x5120_S256x128_0_4736)
  have a39 := AmaxAt.step (b := 38) a38 (by decide) (ld2 arg4 harg4 x3 0 4864 inb_S256x5120_S256x128_0_4864)
  have a40 := AmaxAt.step (b := 39) a39 (by decide) (ld2 arg4 harg4 x3 0 4992 inb_S256x5120_S256x128_0_4992)
  have hT := tableAt a40 (ld2 arg2 harg2 x1 0 0 inb_S256x8_S256x8_0_0) (ld2 arg3 harg3 x2 0 0 inb_S256x1_S256x1_0_0)
  exact ⟨fun x => scale_piece x0 hN hT hF 1920 (by decide) (ord_col x0 15 (by decide) slices_S128x16_o0_15_S128x1 (ld2 arg1 harg1 x0 0 0 inb_S16x128_S16x128_0_0)) inb_S2048x40_S128x40_1920_0 x,
  fun x => scale_piece x0 hN hT hF 1792 (by decide) (ord_col x0 14 (by decide) slices_S128x16_o0_14_S128x1 (ld2 arg1 harg1 x0 0 0 inb_S16x128_S16x128_0_0)) inb_S2048x40_S128x40_1792_0 x,
  fun x => scale_piece x0 hN hT hF 1664 (by decide) (ord_col x0 13 (by decide) slices_S128x16_o0_13_S128x1 (ld2 arg1 harg1 x0 0 0 inb_S16x128_S16x128_0_0)) inb_S2048x40_S128x40_1664_0 x,
  fun x => scale_piece x0 hN hT hF 1536 (by decide) (ord_col x0 12 (by decide) slices_S128x16_o0_12_S128x1 (ld2 arg1 harg1 x0 0 0 inb_S16x128_S16x128_0_0)) inb_S2048x40_S128x40_1536_0 x,
  fun x => scale_piece x0 hN hT hF 1408 (by decide) (ord_col x0 11 (by decide) slices_S128x16_o0_11_S128x1 (ld2 arg1 harg1 x0 0 0 inb_S16x128_S16x128_0_0)) inb_S2048x40_S128x40_1408_0 x,
  fun x => scale_piece x0 hN hT hF 1280 (by decide) (ord_col x0 10 (by decide) slices_S128x16_o0_10_S128x1 (ld2 arg1 harg1 x0 0 0 inb_S16x128_S16x128_0_0)) inb_S2048x40_S128x40_1280_0 x,
  fun x => scale_piece x0 hN hT hF 1152 (by decide) (ord_col x0 9 (by decide) slices_S128x16_o0_9_S128x1 (ld2 arg1 harg1 x0 0 0 inb_S16x128_S16x128_0_0)) inb_S2048x40_S128x40_1152_0 x,
  fun x => scale_piece x0 hN hT hF 1024 (by decide) (ord_col x0 8 (by decide) slices_S128x16_o0_8_S128x1 (ld2 arg1 harg1 x0 0 0 inb_S16x128_S16x128_0_0)) inb_S2048x40_S128x40_1024_0 x,
  fun x => scale_piece x0 hN hT hF 896 (by decide) (ord_col x0 7 (by decide) slices_S128x16_o0_7_S128x1 (ld2 arg1 harg1 x0 0 0 inb_S16x128_S16x128_0_0)) inb_S2048x40_S128x40_896_0 x,
  fun x => scale_piece x0 hN hT hF 768 (by decide) (ord_col x0 6 (by decide) slices_S128x16_o0_6_S128x1 (ld2 arg1 harg1 x0 0 0 inb_S16x128_S16x128_0_0)) inb_S2048x40_S128x40_768_0 x,
  fun x => scale_piece x0 hN hT hF 640 (by decide) (ord_col x0 5 (by decide) slices_S128x16_o0_5_S128x1 (ld2 arg1 harg1 x0 0 0 inb_S16x128_S16x128_0_0)) inb_S2048x40_S128x40_640_0 x,
  fun x => scale_piece x0 hN hT hF 512 (by decide) (ord_col x0 4 (by decide) slices_S128x16_o0_4_S128x1 (ld2 arg1 harg1 x0 0 0 inb_S16x128_S16x128_0_0)) inb_S2048x40_S128x40_512_0 x,
  fun x => scale_piece x0 hN hT hF 384 (by decide) (ord_col x0 3 (by decide) slices_S128x16_o0_3_S128x1 (ld2 arg1 harg1 x0 0 0 inb_S16x128_S16x128_0_0)) inb_S2048x40_S128x40_384_0 x,
  fun x => scale_piece x0 hN hT hF 256 (by decide) (ord_col x0 2 (by decide) slices_S128x16_o0_2_S128x1 (ld2 arg1 harg1 x0 0 0 inb_S16x128_S16x128_0_0)) inb_S2048x40_S128x40_256_0 x,
  fun x => scale_piece x0 hN hT hF 128 (by decide) (ord_col x0 1 (by decide) slices_S128x16_o0_1_S128x1 (ld2 arg1 harg1 x0 0 0 inb_S16x128_S16x128_0_0)) inb_S2048x40_S128x40_128_0 x,
  fun x => scale_piece x0 hN hT hF 0 (by decide) (ord_col x0 0 (by decide) slices_S128x16_o0_0_S128x1 (ld2 arg1 harg1 x0 0 0 inb_S16x128_S16x128_0_0)) inb_S2048x40_S128x40_0_0 x,
  trivial⟩

theorem runA_oh_canon (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (hN : ∀ s, ordN x0 s < 2048) :
    View.canon ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1) = ohOf x0 :=
  funext fun y => View.canon_apply_of_pieces (ohOf x0) _ (runA_oh c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 hN).mem y (runA_oh_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)

theorem runA_es_canon (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3)  :
    View.canon ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1) = esOf x5 :=
  funext fun y => View.canon_apply_of_pieces (esOf x5) _ (runA_es c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 ).mem y (runA_es_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)

theorem runA_m_canon (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (hN : ∀ s, ordN x0 s < 2048) (hF : ∀ (t : Fin 256) (p : Fin 8), ∃ x : ℝ, x1 (ix2 t p) * x2 (ix2 t 0) = (x : EReal)) :
    View.canon ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1) = mOf x0 x1 x2 x3 :=
  funext fun y => View.canon_apply_of_pieces (mOf x0 x1 x2 x3) _ (runA_m c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 hN hF).mem y (runA_m_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)

theorem runA_zero_canon (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3)  :
    View.canon (((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val.drop 16)) = (fun _ => (0 : EReal) : FVec Ideal S2048x128 .f32) :=
  funext fun y => View.canon_apply_of_pieces ((fun _ => (0 : EReal) : FVec Ideal S2048x128 .f32)) _ (runA_zero c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 ).mem y (runA_zero_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)

end Cert.KernelIdeal.Gen

end
-- ==== Proof.KI.ValA.lean ====
/- What the body stores at the first point for its block, as blocks of whole-buffer functions. -/
module

public import proofs.«01_k».proof.Proof.KI.ValA0
public import proofs.«01_k».proof.Proof.KI.Spec

@[expose] public section

set_option maxRecDepth 16384

noncomputable section

namespace Cert.KernelIdeal.Gen

open Idealize.ShloMosaic Idealize.ShloMosaic.TcCoe Idealize.ShloMosaic.Tactic
open Idealize.SL Idealize.SL.Sem
open Cert.KernelIdeal.Tile

/-- A load from stores whose first `c` miss it and whose others cover, read at an entry. -/
theorem cov2_drop {e : EltTy} {n0 n1 s0 s1 : ℕ} (v : View sig .tc .vmem ⟨2, ![n0, n1]⟩ e) (X : Vec Ideal ⟨2, ![n0, n1]⟩ e) (L : List (View.Piece (Elt Ideal) ⟨2, ![n0, n1]⟩ e)) (c : ℕ) (R C : ℕ)
    (q : ∀ a : Fin 2, (![R, C] : Fin 2 → ℕ) a + (![s0, s1] : Fin 2 → ℕ) a ≤ (⟨2, ![n0, n1]⟩ : Shape).size a)
    (hd : (L.take c).all (fun p => LoadRect.disj p.1 (Rect.unit (s := ⟨2, ![n0, n1]⟩) ![R, C] ![s0, s1] q).toLoadRect) = true)
    (hL : View.canon (L.drop c) = X) (hc : ∀ y, ∃ p ∈ L.drop c, y ∈ p.1.set) (r : Fin s0) (l : Fin s1) :
    View.readCov v L (Rect.unit (s := ⟨2, ![n0, n1]⟩) ![R, C] ![s0, s1] q).toLoadRect (ix2 r l)
      = X (ix2 ⟨R + r.val, by have := q 0; have h : R + s0 ≤ n0 := this; omega⟩ ⟨C + l.val, by have := q 1; have h : C + s1 ≤ n1 := this; omega⟩) := by
  have key : View.readCov v L (Rect.unit (s := ⟨2, ![n0, n1]⟩) ![R, C] ![s0, s1] q).toLoadRect
      = View.readCov v (L.drop c) (Rect.unit (s := ⟨2, ![n0, n1]⟩) ![R, C] ![s0, s1] q).toLoadRect := by
    clear hL hc
    induction c generalizing L with
    | zero => rfl
    | succ c ih =>
      match L, hd with
      | [], _ => rfl
      | ⟨r, w⟩ :: L, hd =>
        simp only [List.take_succ_cons, List.all_cons, Bool.and_eq_true] at hd
        rw [View.readCov_skip v r w L _ hd.1]
        exact ih L hd.2
  rw [key]
  exact cov2 v X _ hL hc R C q r l

theorem runA_codes_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (y : S2048x512.Idx) :
    ∃ pc ∈ (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1, y ∈ pc.1.set :=
  View.cover_of_tiledL (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 S128x128.size (by sl_kernel_rfl) y

set_option maxHeartbeats 4000000 in
theorem runA_codes (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (hi : (i 0).val < 10) (hN : ∀ s, ordN x0 s < 2048) (hF : ∀ (t : Fin 256) (p : Fin 8), ∃ x : ℝ, x1 (ix2 t p) * x2 (ix2 t 0) = (x : EReal)) :
    View.PiecesOf (codesOf (i 0).val (ohOf x0) (mOf x0 x1 x2 x3) x4) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 := by
  have hM := runA_m_canon c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 hN hF
  have hMc := runA_m_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
  have hO := runA_oh_canon c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 hN
  have hOc := runA_oh_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
  exact ⟨fun x => codes_piece i hi 3 1920 (by decide) (by decide) slices_S128x128_o0_3_S128x1 slices_S128x512_o0_384_S128x128 _ _ x4
    (cov2 arg12.view _ _ hM hMc 1920 0 inb_S2048x128_S128x128_1920_0) (cov2 arg11.view _ _ hO hOc 1920 0 inb_S2048x256_S128x256_1920_0) (ld2 arg5 harg5 x4 0 0 inb_S256x512_S256x512_0_0) inb_S2048x512_S128x128_1920_384 x,
  fun x => codes_piece i hi 2 1920 (by decide) (by decide) slices_S128x128_o0_2_S128x1 slices_S128x512_o0_256_S128x128 _ _ x4
    (cov2 arg12.view _ _ hM hMc 1920 0 inb_S2048x128_S128x128_1920_0) (cov2 arg11.view _ _ hO hOc 1920 0 inb_S2048x256_S128x256_1920_0) (ld2 arg5 harg5 x4 0 0 inb_S256x512_S256x512_0_0) inb_S2048x512_S128x128_1920_256 x,
  fun x => codes_piece i hi 1 1920 (by decide) (by decide) slices_S128x128_o0_1_S128x1 slices_S128x512_o0_128_S128x128 _ _ x4
    (cov2 arg12.view _ _ hM hMc 1920 0 inb_S2048x128_S128x128_1920_0) (cov2 arg11.view _ _ hO hOc 1920 0 inb_S2048x256_S128x256_1920_0) (ld2 arg5 harg5 x4 0 0 inb_S256x512_S256x512_0_0) inb_S2048x512_S128x128_1920_128 x,
  fun x => codes_piece i hi 0 1920 (by decide) (by decide) slices_S128x128_o0_0_S128x1 slices_S128x512_o0_0_S128x128 _ _ x4
    (cov2 arg12.view _ _ hM hMc 1920 0 inb_S2048x128_S128x128_1920_0) (cov2 arg11.view _ _ hO hOc 1920 0 inb_S2048x256_S128x256_1920_0) (ld2 arg5 harg5 x4 0 0 inb_S256x512_S256x512_0_0) inb_S2048x512_S128x128_1920_0 x,
  fun x => codes_piece i hi 3 1792 (by decide) (by decide) slices_S128x128_o0_3_S128x1 slices_S128x512_o0_384_S128x128 _ _ x4
    (cov2 arg12.view _ _ hM hMc 1792 0 inb_S2048x128_S128x128_1792_0) (cov2 arg11.view _ _ hO hOc 1792 0 inb_S2048x256_S128x256_1792_0) (ld2 arg5 harg5 x4 0 0 inb_S256x512_S256x512_0_0) inb_S2048x512_S128x128_1792_384 x,
  fun x => codes_piece i hi 2 1792 (by decide) (by decide) slices_S128x128_o0_2_S128x1 slices_S128x512_o0_256_S128x128 _ _ x4
    (cov2 arg12.view _ _ hM hMc 1792 0 inb_S2048x128_S128x128_1792_0) (cov2 arg11.view _ _ hO hOc 1792 0 inb_S2048x256_S128x256_1792_0) (ld2 arg5 harg5 x4 0 0 inb_S256x512_S256x512_0_0) inb_S2048x512_S128x128_1792_256 x,
  fun x => codes_piece i hi 1 1792 (by decide) (by decide) slices_S128x128_o0_1_S128x1 slices_S128x512_o0_128_S128x128 _ _ x4
    (cov2 arg12.view _ _ hM hMc 1792 0 inb_S2048x128_S128x128_1792_0) (cov2 arg11.view _ _ hO hOc 1792 0 inb_S2048x256_S128x256_1792_0) (ld2 arg5 harg5 x4 0 0 inb_S256x512_S256x512_0_0) inb_S2048x512_S128x128_1792_128 x,
  fun x => codes_piece i hi 0 1792 (by decide) (by decide) slices_S128x128_o0_0_S128x1 slices_S128x512_o0_0_S128x128 _ _ x4
    (cov2 arg12.view _ _ hM hMc 1792 0 inb_S2048x128_S128x128_1792_0) (cov2 arg11.view _ _ hO hOc 1792 0 inb_S2048x256_S128x256_1792_0) (ld2 arg5 harg5 x4 0 0 inb_S256x512_S256x512_0_0) inb_S2048x512_S128x128_1792_0 x,
  fun x => codes_piece i hi 3 1664 (by decide) (by decide) slices_S128x128_o0_3_S128x1 slices_S128x512_o0_384_S128x128 _ _ x4
    (cov2 arg12.view _ _ hM hMc 1664 0 inb_S2048x128_S128x128_1664_0) (cov2 arg11.view _ _ hO hOc 1664 0 inb_S2048x256_S128x256_1664_0) (ld2 arg5 harg5 x4 0 0 inb_S256x512_S256x512_0_0) inb_S2048x512_S128x128_1664_384 x,
  fun x => codes_piece i hi 2 1664 (by decide) (by decide) slices_S128x128_o0_2_S128x1 slices_S128x512_o0_256_S128x128 _ _ x4
    (cov2 arg12.view _ _ hM hMc 1664 0 inb_S2048x128_S128x128_1664_0) (cov2 arg11.view _ _ hO hOc 1664 0 inb_S2048x256_S128x256_1664_0) (ld2 arg5 harg5 x4 0 0 inb_S256x512_S256x512_0_0) inb_S2048x512_S128x128_1664_256 x,
  fun x => codes_piece i hi 1 1664 (by decide) (by decide) slices_S128x128_o0_1_S128x1 slices_S128x512_o0_128_S128x128 _ _ x4
    (cov2 arg12.view _ _ hM hMc 1664 0 inb_S2048x128_S128x128_1664_0) (cov2 arg11.view _ _ hO hOc 1664 0 inb_S2048x256_S128x256_1664_0) (ld2 arg5 harg5 x4 0 0 inb_S256x512_S256x512_0_0) inb_S2048x512_S128x128_1664_128 x,
  fun x => codes_piece i hi 0 1664 (by decide) (by decide) slices_S128x128_o0_0_S128x1 slices_S128x512_o0_0_S128x128 _ _ x4
    (cov2 arg12.view _ _ hM hMc 1664 0 inb_S2048x128_S128x128_1664_0) (cov2 arg11.view _ _ hO hOc 1664 0 inb_S2048x256_S128x256_1664_0) (ld2 arg5 harg5 x4 0 0 inb_S256x512_S256x512_0_0) inb_S2048x512_S128x128_1664_0 x,
  fun x => codes_piece i hi 3 1536 (by decide) (by decide) slices_S128x128_o0_3_S128x1 slices_S128x512_o0_384_S128x128 _ _ x4
    (cov2 arg12.view _ _ hM hMc 1536 0 inb_S2048x128_S128x128_1536_0) (cov2 arg11.view _ _ hO hOc 1536 0 inb_S2048x256_S128x256_1536_0) (ld2 arg5 harg5 x4 0 0 inb_S256x512_S256x512_0_0) inb_S2048x512_S128x128_1536_384 x,
  fun x => codes_piece i hi 2 1536 (by decide) (by decide) slices_S128x128_o0_2_S128x1 slices_S128x512_o0_256_S128x128 _ _ x4
    (cov2 arg12.view _ _ hM hMc 1536 0 inb_S2048x128_S128x128_1536_0) (cov2 arg11.view _ _ hO hOc 1536 0 inb_S2048x256_S128x256_1536_0) (ld2 arg5 harg5 x4 0 0 inb_S256x512_S256x512_0_0) inb_S2048x512_S128x128_1536_256 x,
  fun x => codes_piece i hi 1 1536 (by decide) (by decide) slices_S128x128_o0_1_S128x1 slices_S128x512_o0_128_S128x128 _ _ x4
    (cov2 arg12.view _ _ hM hMc 1536 0 inb_S2048x128_S128x128_1536_0) (cov2 arg11.view _ _ hO hOc 1536 0 inb_S2048x256_S128x256_1536_0) (ld2 arg5 harg5 x4 0 0 inb_S256x512_S256x512_0_0) inb_S2048x512_S128x128_1536_128 x,
  fun x => codes_piece i hi 0 1536 (by decide) (by decide) slices_S128x128_o0_0_S128x1 slices_S128x512_o0_0_S128x128 _ _ x4
    (cov2 arg12.view _ _ hM hMc 1536 0 inb_S2048x128_S128x128_1536_0) (cov2 arg11.view _ _ hO hOc 1536 0 inb_S2048x256_S128x256_1536_0) (ld2 arg5 harg5 x4 0 0 inb_S256x512_S256x512_0_0) inb_S2048x512_S128x128_1536_0 x,
  fun x => codes_piece i hi 3 1408 (by decide) (by decide) slices_S128x128_o0_3_S128x1 slices_S128x512_o0_384_S128x128 _ _ x4
    (cov2 arg12.view _ _ hM hMc 1408 0 inb_S2048x128_S128x128_1408_0) (cov2 arg11.view _ _ hO hOc 1408 0 inb_S2048x256_S128x256_1408_0) (ld2 arg5 harg5 x4 0 0 inb_S256x512_S256x512_0_0) inb_S2048x512_S128x128_1408_384 x,
  fun x => codes_piece i hi 2 1408 (by decide) (by decide) slices_S128x128_o0_2_S128x1 slices_S128x512_o0_256_S128x128 _ _ x4
    (cov2 arg12.view _ _ hM hMc 1408 0 inb_S2048x128_S128x128_1408_0) (cov2 arg11.view _ _ hO hOc 1408 0 inb_S2048x256_S128x256_1408_0) (ld2 arg5 harg5 x4 0 0 inb_S256x512_S256x512_0_0) inb_S2048x512_S128x128_1408_256 x,
  fun x => codes_piece i hi 1 1408 (by decide) (by decide) slices_S128x128_o0_1_S128x1 slices_S128x512_o0_128_S128x128 _ _ x4
    (cov2 arg12.view _ _ hM hMc 1408 0 inb_S2048x128_S128x128_1408_0) (cov2 arg11.view _ _ hO hOc 1408 0 inb_S2048x256_S128x256_1408_0) (ld2 arg5 harg5 x4 0 0 inb_S256x512_S256x512_0_0) inb_S2048x512_S128x128_1408_128 x,
  fun x => codes_piece i hi 0 1408 (by decide) (by decide) slices_S128x128_o0_0_S128x1 slices_S128x512_o0_0_S128x128 _ _ x4
    (cov2 arg12.view _ _ hM hMc 1408 0 inb_S2048x128_S128x128_1408_0) (cov2 arg11.view _ _ hO hOc 1408 0 inb_S2048x256_S128x256_1408_0) (ld2 arg5 harg5 x4 0 0 inb_S256x512_S256x512_0_0) inb_S2048x512_S128x128_1408_0 x,
  fun x => codes_piece i hi 3 1280 (by decide) (by decide) slices_S128x128_o0_3_S128x1 slices_S128x512_o0_384_S128x128 _ _ x4
    (cov2 arg12.view _ _ hM hMc 1280 0 inb_S2048x128_S128x128_1280_0) (cov2 arg11.view _ _ hO hOc 1280 0 inb_S2048x256_S128x256_1280_0) (ld2 arg5 harg5 x4 0 0 inb_S256x512_S256x512_0_0) inb_S2048x512_S128x128_1280_384 x,
  fun x => codes_piece i hi 2 1280 (by decide) (by decide) slices_S128x128_o0_2_S128x1 slices_S128x512_o0_256_S128x128 _ _ x4
    (cov2 arg12.view _ _ hM hMc 1280 0 inb_S2048x128_S128x128_1280_0) (cov2 arg11.view _ _ hO hOc 1280 0 inb_S2048x256_S128x256_1280_0) (ld2 arg5 harg5 x4 0 0 inb_S256x512_S256x512_0_0) inb_S2048x512_S128x128_1280_256 x,
  fun x => codes_piece i hi 1 1280 (by decide) (by decide) slices_S128x128_o0_1_S128x1 slices_S128x512_o0_128_S128x128 _ _ x4
    (cov2 arg12.view _ _ hM hMc 1280 0 inb_S2048x128_S128x128_1280_0) (cov2 arg11.view _ _ hO hOc 1280 0 inb_S2048x256_S128x256_1280_0) (ld2 arg5 harg5 x4 0 0 inb_S256x512_S256x512_0_0) inb_S2048x512_S128x128_1280_128 x,
  fun x => codes_piece i hi 0 1280 (by decide) (by decide) slices_S128x128_o0_0_S128x1 slices_S128x512_o0_0_S128x128 _ _ x4
    (cov2 arg12.view _ _ hM hMc 1280 0 inb_S2048x128_S128x128_1280_0) (cov2 arg11.view _ _ hO hOc 1280 0 inb_S2048x256_S128x256_1280_0) (ld2 arg5 harg5 x4 0 0 inb_S256x512_S256x512_0_0) inb_S2048x512_S128x128_1280_0 x,
  fun x => codes_piece i hi 3 1152 (by decide) (by decide) slices_S128x128_o0_3_S128x1 slices_S128x512_o0_384_S128x128 _ _ x4
    (cov2 arg12.view _ _ hM hMc 1152 0 inb_S2048x128_S128x128_1152_0) (cov2 arg11.view _ _ hO hOc 1152 0 inb_S2048x256_S128x256_1152_0) (ld2 arg5 harg5 x4 0 0 inb_S256x512_S256x512_0_0) inb_S2048x512_S128x128_1152_384 x,
  fun x => codes_piece i hi 2 1152 (by decide) (by decide) slices_S128x128_o0_2_S128x1 slices_S128x512_o0_256_S128x128 _ _ x4
    (cov2 arg12.view _ _ hM hMc 1152 0 inb_S2048x128_S128x128_1152_0) (cov2 arg11.view _ _ hO hOc 1152 0 inb_S2048x256_S128x256_1152_0) (ld2 arg5 harg5 x4 0 0 inb_S256x512_S256x512_0_0) inb_S2048x512_S128x128_1152_256 x,
  fun x => codes_piece i hi 1 1152 (by decide) (by decide) slices_S128x128_o0_1_S128x1 slices_S128x512_o0_128_S128x128 _ _ x4
    (cov2 arg12.view _ _ hM hMc 1152 0 inb_S2048x128_S128x128_1152_0) (cov2 arg11.view _ _ hO hOc 1152 0 inb_S2048x256_S128x256_1152_0) (ld2 arg5 harg5 x4 0 0 inb_S256x512_S256x512_0_0) inb_S2048x512_S128x128_1152_128 x,
  fun x => codes_piece i hi 0 1152 (by decide) (by decide) slices_S128x128_o0_0_S128x1 slices_S128x512_o0_0_S128x128 _ _ x4
    (cov2 arg12.view _ _ hM hMc 1152 0 inb_S2048x128_S128x128_1152_0) (cov2 arg11.view _ _ hO hOc 1152 0 inb_S2048x256_S128x256_1152_0) (ld2 arg5 harg5 x4 0 0 inb_S256x512_S256x512_0_0) inb_S2048x512_S128x128_1152_0 x,
  fun x => codes_piece i hi 3 1024 (by decide) (by decide) slices_S128x128_o0_3_S128x1 slices_S128x512_o0_384_S128x128 _ _ x4
    (cov2 arg12.view _ _ hM hMc 1024 0 inb_S2048x128_S128x128_1024_0) (cov2 arg11.view _ _ hO hOc 1024 0 inb_S2048x256_S128x256_1024_0) (ld2 arg5 harg5 x4 0 0 inb_S256x512_S256x512_0_0) inb_S2048x512_S128x128_1024_384 x,
  fun x => codes_piece i hi 2 1024 (by decide) (by decide) slices_S128x128_o0_2_S128x1 slices_S128x512_o0_256_S128x128 _ _ x4
    (cov2 arg12.view _ _ hM hMc 1024 0 inb_S2048x128_S128x128_1024_0) (cov2 arg11.view _ _ hO hOc 1024 0 inb_S2048x256_S128x256_1024_0) (ld2 arg5 harg5 x4 0 0 inb_S256x512_S256x512_0_0) inb_S2048x512_S128x128_1024_256 x,
  fun x => codes_piece i hi 1 1024 (by decide) (by decide) slices_S128x128_o0_1_S128x1 slices_S128x512_o0_128_S128x128 _ _ x4
    (cov2 arg12.view _ _ hM hMc 1024 0 inb_S2048x128_S128x128_1024_0) (cov2 arg11.view _ _ hO hOc 1024 0 inb_S2048x256_S128x256_1024_0) (ld2 arg5 harg5 x4 0 0 inb_S256x512_S256x512_0_0) inb_S2048x512_S128x128_1024_128 x,
  fun x => codes_piece i hi 0 1024 (by decide) (by decide) slices_S128x128_o0_0_S128x1 slices_S128x512_o0_0_S128x128 _ _ x4
    (cov2 arg12.view _ _ hM hMc 1024 0 inb_S2048x128_S128x128_1024_0) (cov2 arg11.view _ _ hO hOc 1024 0 inb_S2048x256_S128x256_1024_0) (ld2 arg5 harg5 x4 0 0 inb_S256x512_S256x512_0_0) inb_S2048x512_S128x128_1024_0 x,
  fun x => codes_piece i hi 3 896 (by decide) (by decide) slices_S128x128_o0_3_S128x1 slices_S128x512_o0_384_S128x128 _ _ x4
    (cov2 arg12.view _ _ hM hMc 896 0 inb_S2048x128_S128x128_896_0) (cov2 arg11.view _ _ hO hOc 896 0 inb_S2048x256_S128x256_896_0) (ld2 arg5 harg5 x4 0 0 inb_S256x512_S256x512_0_0) inb_S2048x512_S128x128_896_384 x,
  fun x => codes_piece i hi 2 896 (by decide) (by decide) slices_S128x128_o0_2_S128x1 slices_S128x512_o0_256_S128x128 _ _ x4
    (cov2 arg12.view _ _ hM hMc 896 0 inb_S2048x128_S128x128_896_0) (cov2 arg11.view _ _ hO hOc 896 0 inb_S2048x256_S128x256_896_0) (ld2 arg5 harg5 x4 0 0 inb_S256x512_S256x512_0_0) inb_S2048x512_S128x128_896_256 x,
  fun x => codes_piece i hi 1 896 (by decide) (by decide) slices_S128x128_o0_1_S128x1 slices_S128x512_o0_128_S128x128 _ _ x4
    (cov2 arg12.view _ _ hM hMc 896 0 inb_S2048x128_S128x128_896_0) (cov2 arg11.view _ _ hO hOc 896 0 inb_S2048x256_S128x256_896_0) (ld2 arg5 harg5 x4 0 0 inb_S256x512_S256x512_0_0) inb_S2048x512_S128x128_896_128 x,
  fun x => codes_piece i hi 0 896 (by decide) (by decide) slices_S128x128_o0_0_S128x1 slices_S128x512_o0_0_S128x128 _ _ x4
    (cov2 arg12.view _ _ hM hMc 896 0 inb_S2048x128_S128x128_896_0) (cov2 arg11.view _ _ hO hOc 896 0 inb_S2048x256_S128x256_896_0) (ld2 arg5 harg5 x4 0 0 inb_S256x512_S256x512_0_0) inb_S2048x512_S128x128_896_0 x,
  fun x => codes_piece i hi 3 768 (by decide) (by decide) slices_S128x128_o0_3_S128x1 slices_S128x512_o0_384_S128x128 _ _ x4
    (cov2 arg12.view _ _ hM hMc 768 0 inb_S2048x128_S128x128_768_0) (cov2 arg11.view _ _ hO hOc 768 0 inb_S2048x256_S128x256_768_0) (ld2 arg5 harg5 x4 0 0 inb_S256x512_S256x512_0_0) inb_S2048x512_S128x128_768_384 x,
  fun x => codes_piece i hi 2 768 (by decide) (by decide) slices_S128x128_o0_2_S128x1 slices_S128x512_o0_256_S128x128 _ _ x4
    (cov2 arg12.view _ _ hM hMc 768 0 inb_S2048x128_S128x128_768_0) (cov2 arg11.view _ _ hO hOc 768 0 inb_S2048x256_S128x256_768_0) (ld2 arg5 harg5 x4 0 0 inb_S256x512_S256x512_0_0) inb_S2048x512_S128x128_768_256 x,
  fun x => codes_piece i hi 1 768 (by decide) (by decide) slices_S128x128_o0_1_S128x1 slices_S128x512_o0_128_S128x128 _ _ x4
    (cov2 arg12.view _ _ hM hMc 768 0 inb_S2048x128_S128x128_768_0) (cov2 arg11.view _ _ hO hOc 768 0 inb_S2048x256_S128x256_768_0) (ld2 arg5 harg5 x4 0 0 inb_S256x512_S256x512_0_0) inb_S2048x512_S128x128_768_128 x,
  fun x => codes_piece i hi 0 768 (by decide) (by decide) slices_S128x128_o0_0_S128x1 slices_S128x512_o0_0_S128x128 _ _ x4
    (cov2 arg12.view _ _ hM hMc 768 0 inb_S2048x128_S128x128_768_0) (cov2 arg11.view _ _ hO hOc 768 0 inb_S2048x256_S128x256_768_0) (ld2 arg5 harg5 x4 0 0 inb_S256x512_S256x512_0_0) inb_S2048x512_S128x128_768_0 x,
  fun x => codes_piece i hi 3 640 (by decide) (by decide) slices_S128x128_o0_3_S128x1 slices_S128x512_o0_384_S128x128 _ _ x4
    (cov2 arg12.view _ _ hM hMc 640 0 inb_S2048x128_S128x128_640_0) (cov2 arg11.view _ _ hO hOc 640 0 inb_S2048x256_S128x256_640_0) (ld2 arg5 harg5 x4 0 0 inb_S256x512_S256x512_0_0) inb_S2048x512_S128x128_640_384 x,
  fun x => codes_piece i hi 2 640 (by decide) (by decide) slices_S128x128_o0_2_S128x1 slices_S128x512_o0_256_S128x128 _ _ x4
    (cov2 arg12.view _ _ hM hMc 640 0 inb_S2048x128_S128x128_640_0) (cov2 arg11.view _ _ hO hOc 640 0 inb_S2048x256_S128x256_640_0) (ld2 arg5 harg5 x4 0 0 inb_S256x512_S256x512_0_0) inb_S2048x512_S128x128_640_256 x,
  fun x => codes_piece i hi 1 640 (by decide) (by decide) slices_S128x128_o0_1_S128x1 slices_S128x512_o0_128_S128x128 _ _ x4
    (cov2 arg12.view _ _ hM hMc 640 0 inb_S2048x128_S128x128_640_0) (cov2 arg11.view _ _ hO hOc 640 0 inb_S2048x256_S128x256_640_0) (ld2 arg5 harg5 x4 0 0 inb_S256x512_S256x512_0_0) inb_S2048x512_S128x128_640_128 x,
  fun x => codes_piece i hi 0 640 (by decide) (by decide) slices_S128x128_o0_0_S128x1 slices_S128x512_o0_0_S128x128 _ _ x4
    (cov2 arg12.view _ _ hM hMc 640 0 inb_S2048x128_S128x128_640_0) (cov2 arg11.view _ _ hO hOc 640 0 inb_S2048x256_S128x256_640_0) (ld2 arg5 harg5 x4 0 0 inb_S256x512_S256x512_0_0) inb_S2048x512_S128x128_640_0 x,
  fun x => codes_piece i hi 3 512 (by decide) (by decide) slices_S128x128_o0_3_S128x1 slices_S128x512_o0_384_S128x128 _ _ x4
    (cov2 arg12.view _ _ hM hMc 512 0 inb_S2048x128_S128x128_512_0) (cov2 arg11.view _ _ hO hOc 512 0 inb_S2048x256_S128x256_512_0) (ld2 arg5 harg5 x4 0 0 inb_S256x512_S256x512_0_0) inb_S2048x512_S128x128_512_384 x,
  fun x => codes_piece i hi 2 512 (by decide) (by decide) slices_S128x128_o0_2_S128x1 slices_S128x512_o0_256_S128x128 _ _ x4
    (cov2 arg12.view _ _ hM hMc 512 0 inb_S2048x128_S128x128_512_0) (cov2 arg11.view _ _ hO hOc 512 0 inb_S2048x256_S128x256_512_0) (ld2 arg5 harg5 x4 0 0 inb_S256x512_S256x512_0_0) inb_S2048x512_S128x128_512_256 x,
  fun x => codes_piece i hi 1 512 (by decide) (by decide) slices_S128x128_o0_1_S128x1 slices_S128x512_o0_128_S128x128 _ _ x4
    (cov2 arg12.view _ _ hM hMc 512 0 inb_S2048x128_S128x128_512_0) (cov2 arg11.view _ _ hO hOc 512 0 inb_S2048x256_S128x256_512_0) (ld2 arg5 harg5 x4 0 0 inb_S256x512_S256x512_0_0) inb_S2048x512_S128x128_512_128 x,
  fun x => codes_piece i hi 0 512 (by decide) (by decide) slices_S128x128_o0_0_S128x1 slices_S128x512_o0_0_S128x128 _ _ x4
    (cov2 arg12.view _ _ hM hMc 512 0 inb_S2048x128_S128x128_512_0) (cov2 arg11.view _ _ hO hOc 512 0 inb_S2048x256_S128x256_512_0) (ld2 arg5 harg5 x4 0 0 inb_S256x512_S256x512_0_0) inb_S2048x512_S128x128_512_0 x,
  fun x => codes_piece i hi 3 384 (by decide) (by decide) slices_S128x128_o0_3_S128x1 slices_S128x512_o0_384_S128x128 _ _ x4
    (cov2 arg12.view _ _ hM hMc 384 0 inb_S2048x128_S128x128_384_0) (cov2 arg11.view _ _ hO hOc 384 0 inb_S2048x256_S128x256_384_0) (ld2 arg5 harg5 x4 0 0 inb_S256x512_S256x512_0_0) inb_S2048x512_S128x128_384_384 x,
  fun x => codes_piece i hi 2 384 (by decide) (by decide) slices_S128x128_o0_2_S128x1 slices_S128x512_o0_256_S128x128 _ _ x4
    (cov2 arg12.view _ _ hM hMc 384 0 inb_S2048x128_S128x128_384_0) (cov2 arg11.view _ _ hO hOc 384 0 inb_S2048x256_S128x256_384_0) (ld2 arg5 harg5 x4 0 0 inb_S256x512_S256x512_0_0) inb_S2048x512_S128x128_384_256 x,
  fun x => codes_piece i hi 1 384 (by decide) (by decide) slices_S128x128_o0_1_S128x1 slices_S128x512_o0_128_S128x128 _ _ x4
    (cov2 arg12.view _ _ hM hMc 384 0 inb_S2048x128_S128x128_384_0) (cov2 arg11.view _ _ hO hOc 384 0 inb_S2048x256_S128x256_384_0) (ld2 arg5 harg5 x4 0 0 inb_S256x512_S256x512_0_0) inb_S2048x512_S128x128_384_128 x,
  fun x => codes_piece i hi 0 384 (by decide) (by decide) slices_S128x128_o0_0_S128x1 slices_S128x512_o0_0_S128x128 _ _ x4
    (cov2 arg12.view _ _ hM hMc 384 0 inb_S2048x128_S128x128_384_0) (cov2 arg11.view _ _ hO hOc 384 0 inb_S2048x256_S128x256_384_0) (ld2 arg5 harg5 x4 0 0 inb_S256x512_S256x512_0_0) inb_S2048x512_S128x128_384_0 x,
  fun x => codes_piece i hi 3 256 (by decide) (by decide) slices_S128x128_o0_3_S128x1 slices_S128x512_o0_384_S128x128 _ _ x4
    (cov2 arg12.view _ _ hM hMc 256 0 inb_S2048x128_S128x128_256_0) (cov2 arg11.view _ _ hO hOc 256 0 inb_S2048x256_S128x256_256_0) (ld2 arg5 harg5 x4 0 0 inb_S256x512_S256x512_0_0) inb_S2048x512_S128x128_256_384 x,
  fun x => codes_piece i hi 2 256 (by decide) (by decide) slices_S128x128_o0_2_S128x1 slices_S128x512_o0_256_S128x128 _ _ x4
    (cov2 arg12.view _ _ hM hMc 256 0 inb_S2048x128_S128x128_256_0) (cov2 arg11.view _ _ hO hOc 256 0 inb_S2048x256_S128x256_256_0) (ld2 arg5 harg5 x4 0 0 inb_S256x512_S256x512_0_0) inb_S2048x512_S128x128_256_256 x,
  fun x => codes_piece i hi 1 256 (by decide) (by decide) slices_S128x128_o0_1_S128x1 slices_S128x512_o0_128_S128x128 _ _ x4
    (cov2 arg12.view _ _ hM hMc 256 0 inb_S2048x128_S128x128_256_0) (cov2 arg11.view _ _ hO hOc 256 0 inb_S2048x256_S128x256_256_0) (ld2 arg5 harg5 x4 0 0 inb_S256x512_S256x512_0_0) inb_S2048x512_S128x128_256_128 x,
  fun x => codes_piece i hi 0 256 (by decide) (by decide) slices_S128x128_o0_0_S128x1 slices_S128x512_o0_0_S128x128 _ _ x4
    (cov2 arg12.view _ _ hM hMc 256 0 inb_S2048x128_S128x128_256_0) (cov2 arg11.view _ _ hO hOc 256 0 inb_S2048x256_S128x256_256_0) (ld2 arg5 harg5 x4 0 0 inb_S256x512_S256x512_0_0) inb_S2048x512_S128x128_256_0 x,
  fun x => codes_piece i hi 3 128 (by decide) (by decide) slices_S128x128_o0_3_S128x1 slices_S128x512_o0_384_S128x128 _ _ x4
    (cov2 arg12.view _ _ hM hMc 128 0 inb_S2048x128_S128x128_128_0) (cov2 arg11.view _ _ hO hOc 128 0 inb_S2048x256_S128x256_128_0) (ld2 arg5 harg5 x4 0 0 inb_S256x512_S256x512_0_0) inb_S2048x512_S128x128_128_384 x,
  fun x => codes_piece i hi 2 128 (by decide) (by decide) slices_S128x128_o0_2_S128x1 slices_S128x512_o0_256_S128x128 _ _ x4
    (cov2 arg12.view _ _ hM hMc 128 0 inb_S2048x128_S128x128_128_0) (cov2 arg11.view _ _ hO hOc 128 0 inb_S2048x256_S128x256_128_0) (ld2 arg5 harg5 x4 0 0 inb_S256x512_S256x512_0_0) inb_S2048x512_S128x128_128_256 x,
  fun x => codes_piece i hi 1 128 (by decide) (by decide) slices_S128x128_o0_1_S128x1 slices_S128x512_o0_128_S128x128 _ _ x4
    (cov2 arg12.view _ _ hM hMc 128 0 inb_S2048x128_S128x128_128_0) (cov2 arg11.view _ _ hO hOc 128 0 inb_S2048x256_S128x256_128_0) (ld2 arg5 harg5 x4 0 0 inb_S256x512_S256x512_0_0) inb_S2048x512_S128x128_128_128 x,
  fun x => codes_piece i hi 0 128 (by decide) (by decide) slices_S128x128_o0_0_S128x1 slices_S128x512_o0_0_S128x128 _ _ x4
    (cov2 arg12.view _ _ hM hMc 128 0 inb_S2048x128_S128x128_128_0) (cov2 arg11.view _ _ hO hOc 128 0 inb_S2048x256_S128x256_128_0) (ld2 arg5 harg5 x4 0 0 inb_S256x512_S256x512_0_0) inb_S2048x512_S128x128_128_0 x,
  fun x => codes_piece i hi 3 0 (by decide) (by decide) slices_S128x128_o0_3_S128x1 slices_S128x512_o0_384_S128x128 _ _ x4
    (cov2 arg12.view _ _ hM hMc 0 0 inb_S2048x128_S128x128_0_0) (cov2 arg11.view _ _ hO hOc 0 0 inb_S2048x256_S128x256_0_0) (ld2 arg5 harg5 x4 0 0 inb_S256x512_S256x512_0_0) inb_S2048x512_S128x128_0_384 x,
  fun x => codes_piece i hi 2 0 (by decide) (by decide) slices_S128x128_o0_2_S128x1 slices_S128x512_o0_256_S128x128 _ _ x4
    (cov2 arg12.view _ _ hM hMc 0 0 inb_S2048x128_S128x128_0_0) (cov2 arg11.view _ _ hO hOc 0 0 inb_S2048x256_S128x256_0_0) (ld2 arg5 harg5 x4 0 0 inb_S256x512_S256x512_0_0) inb_S2048x512_S128x128_0_256 x,
  fun x => codes_piece i hi 1 0 (by decide) (by decide) slices_S128x128_o0_1_S128x1 slices_S128x512_o0_128_S128x128 _ _ x4
    (cov2 arg12.view _ _ hM hMc 0 0 inb_S2048x128_S128x128_0_0) (cov2 arg11.view _ _ hO hOc 0 0 inb_S2048x256_S128x256_0_0) (ld2 arg5 harg5 x4 0 0 inb_S256x512_S256x512_0_0) inb_S2048x512_S128x128_0_128 x,
  fun x => codes_piece i hi 0 0 (by decide) (by decide) slices_S128x128_o0_0_S128x1 slices_S128x512_o0_0_S128x128 _ _ x4
    (cov2 arg12.view _ _ hM hMc 0 0 inb_S2048x128_S128x128_0_0) (cov2 arg11.view _ _ hO hOc 0 0 inb_S2048x256_S128x256_0_0) (ld2 arg5 harg5 x4 0 0 inb_S256x512_S256x512_0_0) inb_S2048x512_S128x128_0_0 x,
  trivial⟩

set_option maxHeartbeats 4000000 in
theorem runA_acc (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (hi : (i 0).val < 10) (hN : ∀ s, ordN x0 s < 2048) :
    View.PiecesOf (accOf (i 0).val hi (esOf x5) (ohOf x0) x4 x6 (fun _ => 0)) ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val.take 16) := by
  have hE := runA_es_canon c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
  have hEc := runA_es_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
  have hO := runA_oh_canon c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 hN
  have hOc := runA_oh_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
  have hZ := runA_zero_canon c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
  have hZc := runA_zero_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
  exact ⟨fun x => acc_piece i hi 1920 (by decide) _ _ x4 x6 _
    (cov2 arg13.view _ _ hE hEc 1920 0 inb_S2048x128_S128x128_1920_0) (cov2 arg11.view _ _ hO hOc 1920 0 inb_S2048x256_S128x256_1920_0) (ld2 arg5 harg5 x4 0 0 inb_S256x512_S256x512_0_0)
    (ld2 arg7 harg7 x6 1920 0 inb_S2048x512_S128x128_1920_0) (ld2 arg7 harg7 x6 1920 128 inb_S2048x512_S128x128_1920_128) (ld2 arg7 harg7 x6 1920 256 inb_S2048x512_S128x128_1920_256)
    (ld2 arg7 harg7 x6 1920 384 inb_S2048x512_S128x128_1920_384) (cov2_drop arg14.view _ _ 15 1920 0 inb_S2048x128_S128x128_1920_0 (by sl_kernel_rfl) hZ hZc) inb_S2048x128_S128x128_1920_0 x,
  fun x => acc_piece i hi 1792 (by decide) _ _ x4 x6 _
    (cov2 arg13.view _ _ hE hEc 1792 0 inb_S2048x128_S128x128_1792_0) (cov2 arg11.view _ _ hO hOc 1792 0 inb_S2048x256_S128x256_1792_0) (ld2 arg5 harg5 x4 0 0 inb_S256x512_S256x512_0_0)
    (ld2 arg7 harg7 x6 1792 0 inb_S2048x512_S128x128_1792_0) (ld2 arg7 harg7 x6 1792 128 inb_S2048x512_S128x128_1792_128) (ld2 arg7 harg7 x6 1792 256 inb_S2048x512_S128x128_1792_256)
    (ld2 arg7 harg7 x6 1792 384 inb_S2048x512_S128x128_1792_384) (cov2_drop arg14.view _ _ 14 1792 0 inb_S2048x128_S128x128_1792_0 (by sl_kernel_rfl) hZ hZc) inb_S2048x128_S128x128_1792_0 x,
  fun x => acc_piece i hi 1664 (by decide) _ _ x4 x6 _
    (cov2 arg13.view _ _ hE hEc 1664 0 inb_S2048x128_S128x128_1664_0) (cov2 arg11.view _ _ hO hOc 1664 0 inb_S2048x256_S128x256_1664_0) (ld2 arg5 harg5 x4 0 0 inb_S256x512_S256x512_0_0)
    (ld2 arg7 harg7 x6 1664 0 inb_S2048x512_S128x128_1664_0) (ld2 arg7 harg7 x6 1664 128 inb_S2048x512_S128x128_1664_128) (ld2 arg7 harg7 x6 1664 256 inb_S2048x512_S128x128_1664_256)
    (ld2 arg7 harg7 x6 1664 384 inb_S2048x512_S128x128_1664_384) (cov2_drop arg14.view _ _ 13 1664 0 inb_S2048x128_S128x128_1664_0 (by sl_kernel_rfl) hZ hZc) inb_S2048x128_S128x128_1664_0 x,
  fun x => acc_piece i hi 1536 (by decide) _ _ x4 x6 _
    (cov2 arg13.view _ _ hE hEc 1536 0 inb_S2048x128_S128x128_1536_0) (cov2 arg11.view _ _ hO hOc 1536 0 inb_S2048x256_S128x256_1536_0) (ld2 arg5 harg5 x4 0 0 inb_S256x512_S256x512_0_0)
    (ld2 arg7 harg7 x6 1536 0 inb_S2048x512_S128x128_1536_0) (ld2 arg7 harg7 x6 1536 128 inb_S2048x512_S128x128_1536_128) (ld2 arg7 harg7 x6 1536 256 inb_S2048x512_S128x128_1536_256)
    (ld2 arg7 harg7 x6 1536 384 inb_S2048x512_S128x128_1536_384) (cov2_drop arg14.view _ _ 12 1536 0 inb_S2048x128_S128x128_1536_0 (by sl_kernel_rfl) hZ hZc) inb_S2048x128_S128x128_1536_0 x,
  fun x => acc_piece i hi 1408 (by decide) _ _ x4 x6 _
    (cov2 arg13.view _ _ hE hEc 1408 0 inb_S2048x128_S128x128_1408_0) (cov2 arg11.view _ _ hO hOc 1408 0 inb_S2048x256_S128x256_1408_0) (ld2 arg5 harg5 x4 0 0 inb_S256x512_S256x512_0_0)
    (ld2 arg7 harg7 x6 1408 0 inb_S2048x512_S128x128_1408_0) (ld2 arg7 harg7 x6 1408 128 inb_S2048x512_S128x128_1408_128) (ld2 arg7 harg7 x6 1408 256 inb_S2048x512_S128x128_1408_256)
    (ld2 arg7 harg7 x6 1408 384 inb_S2048x512_S128x128_1408_384) (cov2_drop arg14.view _ _ 11 1408 0 inb_S2048x128_S128x128_1408_0 (by sl_kernel_rfl) hZ hZc) inb_S2048x128_S128x128_1408_0 x,
  fun x => acc_piece i hi 1280 (by decide) _ _ x4 x6 _
    (cov2 arg13.view _ _ hE hEc 1280 0 inb_S2048x128_S128x128_1280_0) (cov2 arg11.view _ _ hO hOc 1280 0 inb_S2048x256_S128x256_1280_0) (ld2 arg5 harg5 x4 0 0 inb_S256x512_S256x512_0_0)
    (ld2 arg7 harg7 x6 1280 0 inb_S2048x512_S128x128_1280_0) (ld2 arg7 harg7 x6 1280 128 inb_S2048x512_S128x128_1280_128) (ld2 arg7 harg7 x6 1280 256 inb_S2048x512_S128x128_1280_256)
    (ld2 arg7 harg7 x6 1280 384 inb_S2048x512_S128x128_1280_384) (cov2_drop arg14.view _ _ 10 1280 0 inb_S2048x128_S128x128_1280_0 (by sl_kernel_rfl) hZ hZc) inb_S2048x128_S128x128_1280_0 x,
  fun x => acc_piece i hi 1152 (by decide) _ _ x4 x6 _
    (cov2 arg13.view _ _ hE hEc 1152 0 inb_S2048x128_S128x128_1152_0) (cov2 arg11.view _ _ hO hOc 1152 0 inb_S2048x256_S128x256_1152_0) (ld2 arg5 harg5 x4 0 0 inb_S256x512_S256x512_0_0)
    (ld2 arg7 harg7 x6 1152 0 inb_S2048x512_S128x128_1152_0) (ld2 arg7 harg7 x6 1152 128 inb_S2048x512_S128x128_1152_128) (ld2 arg7 harg7 x6 1152 256 inb_S2048x512_S128x128_1152_256)
    (ld2 arg7 harg7 x6 1152 384 inb_S2048x512_S128x128_1152_384) (cov2_drop arg14.view _ _ 9 1152 0 inb_S2048x128_S128x128_1152_0 (by sl_kernel_rfl) hZ hZc) inb_S2048x128_S128x128_1152_0 x,
  fun x => acc_piece i hi 1024 (by decide) _ _ x4 x6 _
    (cov2 arg13.view _ _ hE hEc 1024 0 inb_S2048x128_S128x128_1024_0) (cov2 arg11.view _ _ hO hOc 1024 0 inb_S2048x256_S128x256_1024_0) (ld2 arg5 harg5 x4 0 0 inb_S256x512_S256x512_0_0)
    (ld2 arg7 harg7 x6 1024 0 inb_S2048x512_S128x128_1024_0) (ld2 arg7 harg7 x6 1024 128 inb_S2048x512_S128x128_1024_128) (ld2 arg7 harg7 x6 1024 256 inb_S2048x512_S128x128_1024_256)
    (ld2 arg7 harg7 x6 1024 384 inb_S2048x512_S128x128_1024_384) (cov2_drop arg14.view _ _ 8 1024 0 inb_S2048x128_S128x128_1024_0 (by sl_kernel_rfl) hZ hZc) inb_S2048x128_S128x128_1024_0 x,
  fun x => acc_piece i hi 896 (by decide) _ _ x4 x6 _
    (cov2 arg13.view _ _ hE hEc 896 0 inb_S2048x128_S128x128_896_0) (cov2 arg11.view _ _ hO hOc 896 0 inb_S2048x256_S128x256_896_0) (ld2 arg5 harg5 x4 0 0 inb_S256x512_S256x512_0_0)
    (ld2 arg7 harg7 x6 896 0 inb_S2048x512_S128x128_896_0) (ld2 arg7 harg7 x6 896 128 inb_S2048x512_S128x128_896_128) (ld2 arg7 harg7 x6 896 256 inb_S2048x512_S128x128_896_256)
    (ld2 arg7 harg7 x6 896 384 inb_S2048x512_S128x128_896_384) (cov2_drop arg14.view _ _ 7 896 0 inb_S2048x128_S128x128_896_0 (by sl_kernel_rfl) hZ hZc) inb_S2048x128_S128x128_896_0 x,
  fun x => acc_piece i hi 768 (by decide) _ _ x4 x6 _
    (cov2 arg13.view _ _ hE hEc 768 0 inb_S2048x128_S128x128_768_0) (cov2 arg11.view _ _ hO hOc 768 0 inb_S2048x256_S128x256_768_0) (ld2 arg5 harg5 x4 0 0 inb_S256x512_S256x512_0_0)
    (ld2 arg7 harg7 x6 768 0 inb_S2048x512_S128x128_768_0) (ld2 arg7 harg7 x6 768 128 inb_S2048x512_S128x128_768_128) (ld2 arg7 harg7 x6 768 256 inb_S2048x512_S128x128_768_256)
    (ld2 arg7 harg7 x6 768 384 inb_S2048x512_S128x128_768_384) (cov2_drop arg14.view _ _ 6 768 0 inb_S2048x128_S128x128_768_0 (by sl_kernel_rfl) hZ hZc) inb_S2048x128_S128x128_768_0 x,
  fun x => acc_piece i hi 640 (by decide) _ _ x4 x6 _
    (cov2 arg13.view _ _ hE hEc 640 0 inb_S2048x128_S128x128_640_0) (cov2 arg11.view _ _ hO hOc 640 0 inb_S2048x256_S128x256_640_0) (ld2 arg5 harg5 x4 0 0 inb_S256x512_S256x512_0_0)
    (ld2 arg7 harg7 x6 640 0 inb_S2048x512_S128x128_640_0) (ld2 arg7 harg7 x6 640 128 inb_S2048x512_S128x128_640_128) (ld2 arg7 harg7 x6 640 256 inb_S2048x512_S128x128_640_256)
    (ld2 arg7 harg7 x6 640 384 inb_S2048x512_S128x128_640_384) (cov2_drop arg14.view _ _ 5 640 0 inb_S2048x128_S128x128_640_0 (by sl_kernel_rfl) hZ hZc) inb_S2048x128_S128x128_640_0 x,
  fun x => acc_piece i hi 512 (by decide) _ _ x4 x6 _
    (cov2 arg13.view _ _ hE hEc 512 0 inb_S2048x128_S128x128_512_0) (cov2 arg11.view _ _ hO hOc 512 0 inb_S2048x256_S128x256_512_0) (ld2 arg5 harg5 x4 0 0 inb_S256x512_S256x512_0_0)
    (ld2 arg7 harg7 x6 512 0 inb_S2048x512_S128x128_512_0) (ld2 arg7 harg7 x6 512 128 inb_S2048x512_S128x128_512_128) (ld2 arg7 harg7 x6 512 256 inb_S2048x512_S128x128_512_256)
    (ld2 arg7 harg7 x6 512 384 inb_S2048x512_S128x128_512_384) (cov2_drop arg14.view _ _ 4 512 0 inb_S2048x128_S128x128_512_0 (by sl_kernel_rfl) hZ hZc) inb_S2048x128_S128x128_512_0 x,
  fun x => acc_piece i hi 384 (by decide) _ _ x4 x6 _
    (cov2 arg13.view _ _ hE hEc 384 0 inb_S2048x128_S128x128_384_0) (cov2 arg11.view _ _ hO hOc 384 0 inb_S2048x256_S128x256_384_0) (ld2 arg5 harg5 x4 0 0 inb_S256x512_S256x512_0_0)
    (ld2 arg7 harg7 x6 384 0 inb_S2048x512_S128x128_384_0) (ld2 arg7 harg7 x6 384 128 inb_S2048x512_S128x128_384_128) (ld2 arg7 harg7 x6 384 256 inb_S2048x512_S128x128_384_256)
    (ld2 arg7 harg7 x6 384 384 inb_S2048x512_S128x128_384_384) (cov2_drop arg14.view _ _ 3 384 0 inb_S2048x128_S128x128_384_0 (by sl_kernel_rfl) hZ hZc) inb_S2048x128_S128x128_384_0 x,
  fun x => acc_piece i hi 256 (by decide) _ _ x4 x6 _
    (cov2 arg13.view _ _ hE hEc 256 0 inb_S2048x128_S128x128_256_0) (cov2 arg11.view _ _ hO hOc 256 0 inb_S2048x256_S128x256_256_0) (ld2 arg5 harg5 x4 0 0 inb_S256x512_S256x512_0_0)
    (ld2 arg7 harg7 x6 256 0 inb_S2048x512_S128x128_256_0) (ld2 arg7 harg7 x6 256 128 inb_S2048x512_S128x128_256_128) (ld2 arg7 harg7 x6 256 256 inb_S2048x512_S128x128_256_256)
    (ld2 arg7 harg7 x6 256 384 inb_S2048x512_S128x128_256_384) (cov2_drop arg14.view _ _ 2 256 0 inb_S2048x128_S128x128_256_0 (by sl_kernel_rfl) hZ hZc) inb_S2048x128_S128x128_256_0 x,
  fun x => acc_piece i hi 128 (by decide) _ _ x4 x6 _
    (cov2 arg13.view _ _ hE hEc 128 0 inb_S2048x128_S128x128_128_0) (cov2 arg11.view _ _ hO hOc 128 0 inb_S2048x256_S128x256_128_0) (ld2 arg5 harg5 x4 0 0 inb_S256x512_S256x512_0_0)
    (ld2 arg7 harg7 x6 128 0 inb_S2048x512_S128x128_128_0) (ld2 arg7 harg7 x6 128 128 inb_S2048x512_S128x128_128_128) (ld2 arg7 harg7 x6 128 256 inb_S2048x512_S128x128_128_256)
    (ld2 arg7 harg7 x6 128 384 inb_S2048x512_S128x128_128_384) (cov2_drop arg14.view _ _ 1 128 0 inb_S2048x128_S128x128_128_0 (by sl_kernel_rfl) hZ hZc) inb_S2048x128_S128x128_128_0 x,
  fun x => acc_piece i hi 0 (by decide) _ _ x4 x6 _
    (cov2 arg13.view _ _ hE hEc 0 0 inb_S2048x128_S128x128_0_0) (cov2 arg11.view _ _ hO hOc 0 0 inb_S2048x256_S128x256_0_0) (ld2 arg5 harg5 x4 0 0 inb_S256x512_S256x512_0_0)
    (ld2 arg7 harg7 x6 0 0 inb_S2048x512_S128x128_0_0) (ld2 arg7 harg7 x6 0 128 inb_S2048x512_S128x128_0_128) (ld2 arg7 harg7 x6 0 256 inb_S2048x512_S128x128_0_256)
    (ld2 arg7 harg7 x6 0 384 inb_S2048x512_S128x128_0_384) (cov2_drop arg14.view _ _ 0 0 0 inb_S2048x128_S128x128_0_0 (by sl_kernel_rfl) hZ hZc) inb_S2048x128_S128x128_0_0 x,
  trivial⟩

theorem runA_acc_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (y : S2048x128.Idx) :
    ∃ pc ∈ ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val.take 16), y ∈ pc.1.set :=
  View.cover_of_tiledL ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val.take 16) S128x128.size (by sl_kernel_rfl) y

theorem runA_acc_canon (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (hi : (i 0).val < 10) (hN : ∀ s, ordN x0 s < 2048) :
    View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val = accOf (i 0).val hi (esOf x5) (ohOf x0) x4 x6 (fun _ => 0) := by
  rw [← List.take_append_drop 16 (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val]
  exact funext fun y => View.canon_append_of_piecesOf _ _ _ (runA_acc c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 hi hN) y (runA_acc_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)

set_option maxHeartbeats 4000000 in
theorem runA_accs_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (y : S2048x128.Idx) :
    ∃ pc ∈ (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.val, y ∈ pc.1.set :=
  let ⟨p, hp, hy⟩ := runA_acc_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y
  ⟨p, List.mem_of_mem_take hp, hy⟩

end Cert.KernelIdeal.Gen

end
-- ==== Proof.KI.RunB.lean ====
/- The kernel body run from beginning to end at a point that is neither first nor last: the stores each buffer ends with, as lists of pieces. -/
module

public import proofs.«01_k».proof.Proof.KI.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1704000 in
/-- What the body stores at a point that is neither first nor last, as pieces (last first), with the proof that on whole staging buffers the body runs to
    its end: the inputs stay as they were, and the buffers it stores into hold their pieces. -/
noncomputable def runB (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : ¬cond0_1 i)
    (x0 : Vec F S16x128 .i32) (x1 : Vec F S256x8 .f32) (x2 : Vec F S256x1 .f32) (x3 : Vec F S256x5120 .fp8e5m2) (x4 : Vec F S256x512 .fp8e5m2) (x5 : Vec F S2048x40 .f32) (x6 : Vec F S2048x512 .fp8e4m3) (xs0 : Vec F S2048x256 .fp8e5m2) (xs1 : Vec F S2048x128 .f32) (xs2 : Vec F S2048x128 .f32) (xs3 : Vec F S2048x128 .f32) (y8 : Vec F S2048x40 .f32) :
    Σ' (L7 : List (View.Piece (Elt F) S2048x512 .fp8e5m2)), { LS3 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare y8 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ (∃ f, arg14.view.loc (c : Thread nD τ) ↦[arg14.view.set]{fullShare} arg14.view.writes (Elt F) f LS3)) -∗ K ⟨⟩))
          ⊢ wp frame (wpE (defs₀ (F := F)) Variants.none c none) E (cc0_combine_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_combine_bwd_eq_skeleton]; unfold cc0_combine_bwd_skel
    simp only [k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg11.eq_unread hfs0; obtain rfl := harg12.eq_unread hfs1; obtain rfl := harg13.eq_unread hfs2; obtain rfl := harg14.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _, _; isplitr; swap; · iexact H9
      ipureintro; rfl
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    iexists _; iexact HS3

end Cert.KernelIdeal.Gen

end
-- ==== Proof.KI.ValB.lean ====
/- What the body stores at a point that is neither first nor last, as blocks of whole-buffer functions. -/
module

public import proofs.«01_k».proof.Proof.KI.RunB
public import proofs.«01_k».proof.Proof.KI.Spec

@[expose] public section

set_option maxRecDepth 16384

noncomputable section

namespace Cert.KernelIdeal.Gen

open Idealize.ShloMosaic Idealize.ShloMosaic.TcCoe Idealize.ShloMosaic.Tactic
open Idealize.SL Idealize.SL.Sem
open Cert.KernelIdeal.Tile

set_option maxHeartbeats 4000000 in
theorem runB_codes (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (hi : (i 0).val < 10) :
    View.PiecesOf (codesOf (i 0).val xs0 xs1 x4) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).1 :=
  ⟨fun x => codes_piece i hi 3 1920 (by decide) (by decide) slices_S128x128_o0_3_S128x1 slices_S128x512_o0_384_S128x128 xs1 xs0 x4
    (ld2 arg12 harg12 xs1 1920 0 inb_S2048x128_S128x128_1920_0) (ld2 arg11 harg11 xs0 1920 0 inb_S2048x256_S128x256_1920_0) (ld2 arg5 harg5 x4 0 0 inb_S256x512_S256x512_0_0) inb_S2048x512_S128x128_1920_384 x,
  fun x => codes_piece i hi 2 1920 (by decide) (by decide) slices_S128x128_o0_2_S128x1 slices_S128x512_o0_256_S128x128 xs1 xs0 x4
    (ld2 arg12 harg12 xs1 1920 0 inb_S2048x128_S128x128_1920_0) (ld2 arg11 harg11 xs0 1920 0 inb_S2048x256_S128x256_1920_0) (ld2 arg5 harg5 x4 0 0 inb_S256x512_S256x512_0_0) inb_S2048x512_S128x128_1920_256 x,
  fun x => codes_piece i hi 1 1920 (by decide) (by decide) slices_S128x128_o0_1_S128x1 slices_S128x512_o0_128_S128x128 xs1 xs0 x4
    (ld2 arg12 harg12 xs1 1920 0 inb_S2048x128_S128x128_1920_0) (ld2 arg11 harg11 xs0 1920 0 inb_S2048x256_S128x256_1920_0) (ld2 arg5 harg5 x4 0 0 inb_S256x512_S256x512_0_0) inb_S2048x512_S128x128_1920_128 x,
  fun x => codes_piece i hi 0 1920 (by decide) (by decide) slices_S128x128_o0_0_S128x1 slices_S128x512_o0_0_S128x128 xs1 xs0 x4
    (ld2 arg12 harg12 xs1 1920 0 inb_S2048x128_S128x128_1920_0) (ld2 arg11 harg11 xs0 1920 0 inb_S2048x256_S128x256_1920_0) (ld2 arg5 harg5 x4 0 0 inb_S256x512_S256x512_0_0) inb_S2048x512_S128x128_1920_0 x,
  fun x => codes_piece i hi 3 1792 (by decide) (by decide) slices_S128x128_o0_3_S128x1 slices_S128x512_o0_384_S128x128 xs1 xs0 x4
    (ld2 arg12 harg12 xs1 1792 0 inb_S2048x128_S128x128_1792_0) (ld2 arg11 harg11 xs0 1792 0 inb_S2048x256_S128x256_1792_0) (ld2 arg5 harg5 x4 0 0 inb_S256x512_S256x512_0_0) inb_S2048x512_S128x128_1792_384 x,
  fun x => codes_piece i hi 2 1792 (by decide) (by decide) slices_S128x128_o0_2_S128x1 slices_S128x512_o0_256_S128x128 xs1 xs0 x4
    (ld2 arg12 harg12 xs1 1792 0 inb_S2048x128_S128x128_1792_0) (ld2 arg11 harg11 xs0 1792 0 inb_S2048x256_S128x256_1792_0) (ld2 arg5 harg5 x4 0 0 inb_S256x512_S256x512_0_0) inb_S2048x512_S128x128_1792_256 x,
  fun x => codes_piece i hi 1 1792 (by decide) (by decide) slices_S128x128_o0_1_S128x1 slices_S128x512_o0_128_S128x128 xs1 xs0 x4
    (ld2 arg12 harg12 xs1 1792 0 inb_S2048x128_S128x128_1792_0) (ld2 arg11 harg11 xs0 1792 0 inb_S2048x256_S128x256_1792_0) (ld2 arg5 harg5 x4 0 0 inb_S256x512_S256x512_0_0) inb_S2048x512_S128x128_1792_128 x,
  fun x => codes_piece i hi 0 1792 (by decide) (by decide) slices_S128x128_o0_0_S128x1 slices_S128x512_o0_0_S128x128 xs1 xs0 x4
    (ld2 arg12 harg12 xs1 1792 0 inb_S2048x128_S128x128_1792_0) (ld2 arg11 harg11 xs0 1792 0 inb_S2048x256_S128x256_1792_0) (ld2 arg5 harg5 x4 0 0 inb_S256x512_S256x512_0_0) inb_S2048x512_S128x128_1792_0 x,
  fun x => codes_piece i hi 3 1664 (by decide) (by decide) slices_S128x128_o0_3_S128x1 slices_S128x512_o0_384_S128x128 xs1 xs0 x4
    (ld2 arg12 harg12 xs1 1664 0 inb_S2048x128_S128x128_1664_0) (ld2 arg11 harg11 xs0 1664 0 inb_S2048x256_S128x256_1664_0) (ld2 arg5 harg5 x4 0 0 inb_S256x512_S256x512_0_0) inb_S2048x512_S128x128_1664_384 x,
  fun x => codes_piece i hi 2 1664 (by decide) (by decide) slices_S128x128_o0_2_S128x1 slices_S128x512_o0_256_S128x128 xs1 xs0 x4
    (ld2 arg12 harg12 xs1 1664 0 inb_S2048x128_S128x128_1664_0) (ld2 arg11 harg11 xs0 1664 0 inb_S2048x256_S128x256_1664_0) (ld2 arg5 harg5 x4 0 0 inb_S256x512_S256x512_0_0) inb_S2048x512_S128x128_1664_256 x,
  fun x => codes_piece i hi 1 1664 (by decide) (by decide) slices_S128x128_o0_1_S128x1 slices_S128x512_o0_128_S128x128 xs1 xs0 x4
    (ld2 arg12 harg12 xs1 1664 0 inb_S2048x128_S128x128_1664_0) (ld2 arg11 harg11 xs0 1664 0 inb_S2048x256_S128x256_1664_0) (ld2 arg5 harg5 x4 0 0 inb_S256x512_S256x512_0_0) inb_S2048x512_S128x128_1664_128 x,
  fun x => codes_piece i hi 0 1664 (by decide) (by decide) slices_S128x128_o0_0_S128x1 slices_S128x512_o0_0_S128x128 xs1 xs0 x4
    (ld2 arg12 harg12 xs1 1664 0 inb_S2048x128_S128x128_1664_0) (ld2 arg11 harg11 xs0 1664 0 inb_S2048x256_S128x256_1664_0) (ld2 arg5 harg5 x4 0 0 inb_S256x512_S256x512_0_0) inb_S2048x512_S128x128_1664_0 x,
  fun x => codes_piece i hi 3 1536 (by decide) (by decide) slices_S128x128_o0_3_S128x1 slices_S128x512_o0_384_S128x128 xs1 xs0 x4
    (ld2 arg12 harg12 xs1 1536 0 inb_S2048x128_S128x128_1536_0) (ld2 arg11 harg11 xs0 1536 0 inb_S2048x256_S128x256_1536_0) (ld2 arg5 harg5 x4 0 0 inb_S256x512_S256x512_0_0) inb_S2048x512_S128x128_1536_384 x,
  fun x => codes_piece i hi 2 1536 (by decide) (by decide) slices_S128x128_o0_2_S128x1 slices_S128x512_o0_256_S128x128 xs1 xs0 x4
    (ld2 arg12 harg12 xs1 1536 0 inb_S2048x128_S128x128_1536_0) (ld2 arg11 harg11 xs0 1536 0 inb_S2048x256_S128x256_1536_0) (ld2 arg5 harg5 x4 0 0 inb_S256x512_S256x512_0_0) inb_S2048x512_S128x128_1536_256 x,
  fun x => codes_piece i hi 1 1536 (by decide) (by decide) slices_S128x128_o0_1_S128x1 slices_S128x512_o0_128_S128x128 xs1 xs0 x4
    (ld2 arg12 harg12 xs1 1536 0 inb_S2048x128_S128x128_1536_0) (ld2 arg11 harg11 xs0 1536 0 inb_S2048x256_S128x256_1536_0) (ld2 arg5 harg5 x4 0 0 inb_S256x512_S256x512_0_0) inb_S2048x512_S128x128_1536_128 x,
  fun x => codes_piece i hi 0 1536 (by decide) (by decide) slices_S128x128_o0_0_S128x1 slices_S128x512_o0_0_S128x128 xs1 xs0 x4
    (ld2 arg12 harg12 xs1 1536 0 inb_S2048x128_S128x128_1536_0) (ld2 arg11 harg11 xs0 1536 0 inb_S2048x256_S128x256_1536_0) (ld2 arg5 harg5 x4 0 0 inb_S256x512_S256x512_0_0) inb_S2048x512_S128x128_1536_0 x,
  fun x => codes_piece i hi 3 1408 (by decide) (by decide) slices_S128x128_o0_3_S128x1 slices_S128x512_o0_384_S128x128 xs1 xs0 x4
    (ld2 arg12 harg12 xs1 1408 0 inb_S2048x128_S128x128_1408_0) (ld2 arg11 harg11 xs0 1408 0 inb_S2048x256_S128x256_1408_0) (ld2 arg5 harg5 x4 0 0 inb_S256x512_S256x512_0_0) inb_S2048x512_S128x128_1408_384 x,
  fun x => codes_piece i hi 2 1408 (by decide) (by decide) slices_S128x128_o0_2_S128x1 slices_S128x512_o0_256_S128x128 xs1 xs0 x4
    (ld2 arg12 harg12 xs1 1408 0 inb_S2048x128_S128x128_1408_0) (ld2 arg11 harg11 xs0 1408 0 inb_S2048x256_S128x256_1408_0) (ld2 arg5 harg5 x4 0 0 inb_S256x512_S256x512_0_0) inb_S2048x512_S128x128_1408_256 x,
  fun x => codes_piece i hi 1 1408 (by decide) (by decide) slices_S128x128_o0_1_S128x1 slices_S128x512_o0_128_S128x128 xs1 xs0 x4
    (ld2 arg12 harg12 xs1 1408 0 inb_S2048x128_S128x128_1408_0) (ld2 arg11 harg11 xs0 1408 0 inb_S2048x256_S128x256_1408_0) (ld2 arg5 harg5 x4 0 0 inb_S256x512_S256x512_0_0) inb_S2048x512_S128x128_1408_128 x,
  fun x => codes_piece i hi 0 1408 (by decide) (by decide) slices_S128x128_o0_0_S128x1 slices_S128x512_o0_0_S128x128 xs1 xs0 x4
    (ld2 arg12 harg12 xs1 1408 0 inb_S2048x128_S128x128_1408_0) (ld2 arg11 harg11 xs0 1408 0 inb_S2048x256_S128x256_1408_0) (ld2 arg5 harg5 x4 0 0 inb_S256x512_S256x512_0_0) inb_S2048x512_S128x128_1408_0 x,
  fun x => codes_piece i hi 3 1280 (by decide) (by decide) slices_S128x128_o0_3_S128x1 slices_S128x512_o0_384_S128x128 xs1 xs0 x4
    (ld2 arg12 harg12 xs1 1280 0 inb_S2048x128_S128x128_1280_0) (ld2 arg11 harg11 xs0 1280 0 inb_S2048x256_S128x256_1280_0) (ld2 arg5 harg5 x4 0 0 inb_S256x512_S256x512_0_0) inb_S2048x512_S128x128_1280_384 x,
  fun x => codes_piece i hi 2 1280 (by decide) (by decide) slices_S128x128_o0_2_S128x1 slices_S128x512_o0_256_S128x128 xs1 xs0 x4
    (ld2 arg12 harg12 xs1 1280 0 inb_S2048x128_S128x128_1280_0) (ld2 arg11 harg11 xs0 1280 0 inb_S2048x256_S128x256_1280_0) (ld2 arg5 harg5 x4 0 0 inb_S256x512_S256x512_0_0) inb_S2048x512_S128x128_1280_256 x,
  fun x => codes_piece i hi 1 1280 (by decide) (by decide) slices_S128x128_o0_1_S128x1 slices_S128x512_o0_128_S128x128 xs1 xs0 x4
    (ld2 arg12 harg12 xs1 1280 0 inb_S2048x128_S128x128_1280_0) (ld2 arg11 harg11 xs0 1280 0 inb_S2048x256_S128x256_1280_0) (ld2 arg5 harg5 x4 0 0 inb_S256x512_S256x512_0_0) inb_S2048x512_S128x128_1280_128 x,
  fun x => codes_piece i hi 0 1280 (by decide) (by decide) slices_S128x128_o0_0_S128x1 slices_S128x512_o0_0_S128x128 xs1 xs0 x4
    (ld2 arg12 harg12 xs1 1280 0 inb_S2048x128_S128x128_1280_0) (ld2 arg11 harg11 xs0 1280 0 inb_S2048x256_S128x256_1280_0) (ld2 arg5 harg5 x4 0 0 inb_S256x512_S256x512_0_0) inb_S2048x512_S128x128_1280_0 x,
  fun x => codes_piece i hi 3 1152 (by decide) (by decide) slices_S128x128_o0_3_S128x1 slices_S128x512_o0_384_S128x128 xs1 xs0 x4
    (ld2 arg12 harg12 xs1 1152 0 inb_S2048x128_S128x128_1152_0) (ld2 arg11 harg11 xs0 1152 0 inb_S2048x256_S128x256_1152_0) (ld2 arg5 harg5 x4 0 0 inb_S256x512_S256x512_0_0) inb_S2048x512_S128x128_1152_384 x,
  fun x => codes_piece i hi 2 1152 (by decide) (by decide) slices_S128x128_o0_2_S128x1 slices_S128x512_o0_256_S128x128 xs1 xs0 x4
    (ld2 arg12 harg12 xs1 1152 0 inb_S2048x128_S128x128_1152_0) (ld2 arg11 harg11 xs0 1152 0 inb_S2048x256_S128x256_1152_0) (ld2 arg5 harg5 x4 0 0 inb_S256x512_S256x512_0_0) inb_S2048x512_S128x128_1152_256 x,
  fun x => codes_piece i hi 1 1152 (by decide) (by decide) slices_S128x128_o0_1_S128x1 slices_S128x512_o0_128_S128x128 xs1 xs0 x4
    (ld2 arg12 harg12 xs1 1152 0 inb_S2048x128_S128x128_1152_0) (ld2 arg11 harg11 xs0 1152 0 inb_S2048x256_S128x256_1152_0) (ld2 arg5 harg5 x4 0 0 inb_S256x512_S256x512_0_0) inb_S2048x512_S128x128_1152_128 x,
  fun x => codes_piece i hi 0 1152 (by decide) (by decide) slices_S128x128_o0_0_S128x1 slices_S128x512_o0_0_S128x128 xs1 xs0 x4
    (ld2 arg12 harg12 xs1 1152 0 inb_S2048x128_S128x128_1152_0) (ld2 arg11 harg11 xs0 1152 0 inb_S2048x256_S128x256_1152_0) (ld2 arg5 harg5 x4 0 0 inb_S256x512_S256x512_0_0) inb_S2048x512_S128x128_1152_0 x,
  fun x => codes_piece i hi 3 1024 (by decide) (by decide) slices_S128x128_o0_3_S128x1 slices_S128x512_o0_384_S128x128 xs1 xs0 x4
    (ld2 arg12 harg12 xs1 1024 0 inb_S2048x128_S128x128_1024_0) (ld2 arg11 harg11 xs0 1024 0 inb_S2048x256_S128x256_1024_0) (ld2 arg5 harg5 x4 0 0 inb_S256x512_S256x512_0_0) inb_S2048x512_S128x128_1024_384 x,
  fun x => codes_piece i hi 2 1024 (by decide) (by decide) slices_S128x128_o0_2_S128x1 slices_S128x512_o0_256_S128x128 xs1 xs0 x4
    (ld2 arg12 harg12 xs1 1024 0 inb_S2048x128_S128x128_1024_0) (ld2 arg11 harg11 xs0 1024 0 inb_S2048x256_S128x256_1024_0) (ld2 arg5 harg5 x4 0 0 inb_S256x512_S256x512_0_0) inb_S2048x512_S128x128_1024_256 x,
  fun x => codes_piece i hi 1 1024 (by decide) (by decide) slices_S128x128_o0_1_S128x1 slices_S128x512_o0_128_S128x128 xs1 xs0 x4
    (ld2 arg12 harg12 xs1 1024 0 inb_S2048x128_S128x128_1024_0) (ld2 arg11 harg11 xs0 1024 0 inb_S2048x256_S128x256_1024_0) (ld2 arg5 harg5 x4 0 0 inb_S256x512_S256x512_0_0) inb_S2048x512_S128x128_1024_128 x,
  fun x => codes_piece i hi 0 1024 (by decide) (by decide) slices_S128x128_o0_0_S128x1 slices_S128x512_o0_0_S128x128 xs1 xs0 x4
    (ld2 arg12 harg12 xs1 1024 0 inb_S2048x128_S128x128_1024_0) (ld2 arg11 harg11 xs0 1024 0 inb_S2048x256_S128x256_1024_0) (ld2 arg5 harg5 x4 0 0 inb_S256x512_S256x512_0_0) inb_S2048x512_S128x128_1024_0 x,
  fun x => codes_piece i hi 3 896 (by decide) (by decide) slices_S128x128_o0_3_S128x1 slices_S128x512_o0_384_S128x128 xs1 xs0 x4
    (ld2 arg12 harg12 xs1 896 0 inb_S2048x128_S128x128_896_0) (ld2 arg11 harg11 xs0 896 0 inb_S2048x256_S128x256_896_0) (ld2 arg5 harg5 x4 0 0 inb_S256x512_S256x512_0_0) inb_S2048x512_S128x128_896_384 x,
  fun x => codes_piece i hi 2 896 (by decide) (by decide) slices_S128x128_o0_2_S128x1 slices_S128x512_o0_256_S128x128 xs1 xs0 x4
    (ld2 arg12 harg12 xs1 896 0 inb_S2048x128_S128x128_896_0) (ld2 arg11 harg11 xs0 896 0 inb_S2048x256_S128x256_896_0) (ld2 arg5 harg5 x4 0 0 inb_S256x512_S256x512_0_0) inb_S2048x512_S128x128_896_256 x,
  fun x => codes_piece i hi 1 896 (by decide) (by decide) slices_S128x128_o0_1_S128x1 slices_S128x512_o0_128_S128x128 xs1 xs0 x4
    (ld2 arg12 harg12 xs1 896 0 inb_S2048x128_S128x128_896_0) (ld2 arg11 harg11 xs0 896 0 inb_S2048x256_S128x256_896_0) (ld2 arg5 harg5 x4 0 0 inb_S256x512_S256x512_0_0) inb_S2048x512_S128x128_896_128 x,
  fun x => codes_piece i hi 0 896 (by decide) (by decide) slices_S128x128_o0_0_S128x1 slices_S128x512_o0_0_S128x128 xs1 xs0 x4
    (ld2 arg12 harg12 xs1 896 0 inb_S2048x128_S128x128_896_0) (ld2 arg11 harg11 xs0 896 0 inb_S2048x256_S128x256_896_0) (ld2 arg5 harg5 x4 0 0 inb_S256x512_S256x512_0_0) inb_S2048x512_S128x128_896_0 x,
  fun x => codes_piece i hi 3 768 (by decide) (by decide) slices_S128x128_o0_3_S128x1 slices_S128x512_o0_384_S128x128 xs1 xs0 x4
    (ld2 arg12 harg12 xs1 768 0 inb_S2048x128_S128x128_768_0) (ld2 arg11 harg11 xs0 768 0 inb_S2048x256_S128x256_768_0) (ld2 arg5 harg5 x4 0 0 inb_S256x512_S256x512_0_0) inb_S2048x512_S128x128_768_384 x,
  fun x => codes_piece i hi 2 768 (by decide) (by decide) slices_S128x128_o0_2_S128x1 slices_S128x512_o0_256_S128x128 xs1 xs0 x4
    (ld2 arg12 harg12 xs1 768 0 inb_S2048x128_S128x128_768_0) (ld2 arg11 harg11 xs0 768 0 inb_S2048x256_S128x256_768_0) (ld2 arg5 harg5 x4 0 0 inb_S256x512_S256x512_0_0) inb_S2048x512_S128x128_768_256 x,
  fun x => codes_piece i hi 1 768 (by decide) (by decide) slices_S128x128_o0_1_S128x1 slices_S128x512_o0_128_S128x128 xs1 xs0 x4
    (ld2 arg12 harg12 xs1 768 0 inb_S2048x128_S128x128_768_0) (ld2 arg11 harg11 xs0 768 0 inb_S2048x256_S128x256_768_0) (ld2 arg5 harg5 x4 0 0 inb_S256x512_S256x512_0_0) inb_S2048x512_S128x128_768_128 x,
  fun x => codes_piece i hi 0 768 (by decide) (by decide) slices_S128x128_o0_0_S128x1 slices_S128x512_o0_0_S128x128 xs1 xs0 x4
    (ld2 arg12 harg12 xs1 768 0 inb_S2048x128_S128x128_768_0) (ld2 arg11 harg11 xs0 768 0 inb_S2048x256_S128x256_768_0) (ld2 arg5 harg5 x4 0 0 inb_S256x512_S256x512_0_0) inb_S2048x512_S128x128_768_0 x,
  fun x => codes_piece i hi 3 640 (by decide) (by decide) slices_S128x128_o0_3_S128x1 slices_S128x512_o0_384_S128x128 xs1 xs0 x4
    (ld2 arg12 harg12 xs1 640 0 inb_S2048x128_S128x128_640_0) (ld2 arg11 harg11 xs0 640 0 inb_S2048x256_S128x256_640_0) (ld2 arg5 harg5 x4 0 0 inb_S256x512_S256x512_0_0) inb_S2048x512_S128x128_640_384 x,
  fun x => codes_piece i hi 2 640 (by decide) (by decide) slices_S128x128_o0_2_S128x1 slices_S128x512_o0_256_S128x128 xs1 xs0 x4
    (ld2 arg12 harg12 xs1 640 0 inb_S2048x128_S128x128_640_0) (ld2 arg11 harg11 xs0 640 0 inb_S2048x256_S128x256_640_0) (ld2 arg5 harg5 x4 0 0 inb_S256x512_S256x512_0_0) inb_S2048x512_S128x128_640_256 x,
  fun x => codes_piece i hi 1 640 (by decide) (by decide) slices_S128x128_o0_1_S128x1 slices_S128x512_o0_128_S128x128 xs1 xs0 x4
    (ld2 arg12 harg12 xs1 640 0 inb_S2048x128_S128x128_640_0) (ld2 arg11 harg11 xs0 640 0 inb_S2048x256_S128x256_640_0) (ld2 arg5 harg5 x4 0 0 inb_S256x512_S256x512_0_0) inb_S2048x512_S128x128_640_128 x,
  fun x => codes_piece i hi 0 640 (by decide) (by decide) slices_S128x128_o0_0_S128x1 slices_S128x512_o0_0_S128x128 xs1 xs0 x4
    (ld2 arg12 harg12 xs1 640 0 inb_S2048x128_S128x128_640_0) (ld2 arg11 harg11 xs0 640 0 inb_S2048x256_S128x256_640_0) (ld2 arg5 harg5 x4 0 0 inb_S256x512_S256x512_0_0) inb_S2048x512_S128x128_640_0 x,
  fun x => codes_piece i hi 3 512 (by decide) (by decide) slices_S128x128_o0_3_S128x1 slices_S128x512_o0_384_S128x128 xs1 xs0 x4
    (ld2 arg12 harg12 xs1 512 0 inb_S2048x128_S128x128_512_0) (ld2 arg11 harg11 xs0 512 0 inb_S2048x256_S128x256_512_0) (ld2 arg5 harg5 x4 0 0 inb_S256x512_S256x512_0_0) inb_S2048x512_S128x128_512_384 x,
  fun x => codes_piece i hi 2 512 (by decide) (by decide) slices_S128x128_o0_2_S128x1 slices_S128x512_o0_256_S128x128 xs1 xs0 x4
    (ld2 arg12 harg12 xs1 512 0 inb_S2048x128_S128x128_512_0) (ld2 arg11 harg11 xs0 512 0 inb_S2048x256_S128x256_512_0) (ld2 arg5 harg5 x4 0 0 inb_S256x512_S256x512_0_0) inb_S2048x512_S128x128_512_256 x,
  fun x => codes_piece i hi 1 512 (by decide) (by decide) slices_S128x128_o0_1_S128x1 slices_S128x512_o0_128_S128x128 xs1 xs0 x4
    (ld2 arg12 harg12 xs1 512 0 inb_S2048x128_S128x128_512_0) (ld2 arg11 harg11 xs0 512 0 inb_S2048x256_S128x256_512_0) (ld2 arg5 harg5 x4 0 0 inb_S256x512_S256x512_0_0) inb_S2048x512_S128x128_512_128 x,
  fun x => codes_piece i hi 0 512 (by decide) (by decide) slices_S128x128_o0_0_S128x1 slices_S128x512_o0_0_S128x128 xs1 xs0 x4
    (ld2 arg12 harg12 xs1 512 0 inb_S2048x128_S128x128_512_0) (ld2 arg11 harg11 xs0 512 0 inb_S2048x256_S128x256_512_0) (ld2 arg5 harg5 x4 0 0 inb_S256x512_S256x512_0_0) inb_S2048x512_S128x128_512_0 x,
  fun x => codes_piece i hi 3 384 (by decide) (by decide) slices_S128x128_o0_3_S128x1 slices_S128x512_o0_384_S128x128 xs1 xs0 x4
    (ld2 arg12 harg12 xs1 384 0 inb_S2048x128_S128x128_384_0) (ld2 arg11 harg11 xs0 384 0 inb_S2048x256_S128x256_384_0) (ld2 arg5 harg5 x4 0 0 inb_S256x512_S256x512_0_0) inb_S2048x512_S128x128_384_384 x,
  fun x => codes_piece i hi 2 384 (by decide) (by decide) slices_S128x128_o0_2_S128x1 slices_S128x512_o0_256_S128x128 xs1 xs0 x4
    (ld2 arg12 harg12 xs1 384 0 inb_S2048x128_S128x128_384_0) (ld2 arg11 harg11 xs0 384 0 inb_S2048x256_S128x256_384_0) (ld2 arg5 harg5 x4 0 0 inb_S256x512_S256x512_0_0) inb_S2048x512_S128x128_384_256 x,
  fun x => codes_piece i hi 1 384 (by decide) (by decide) slices_S128x128_o0_1_S128x1 slices_S128x512_o0_128_S128x128 xs1 xs0 x4
    (ld2 arg12 harg12 xs1 384 0 inb_S2048x128_S128x128_384_0) (ld2 arg11 harg11 xs0 384 0 inb_S2048x256_S128x256_384_0) (ld2 arg5 harg5 x4 0 0 inb_S256x512_S256x512_0_0) inb_S2048x512_S128x128_384_128 x,
  fun x => codes_piece i hi 0 384 (by decide) (by decide) slices_S128x128_o0_0_S128x1 slices_S128x512_o0_0_S128x128 xs1 xs0 x4
    (ld2 arg12 harg12 xs1 384 0 inb_S2048x128_S128x128_384_0) (ld2 arg11 harg11 xs0 384 0 inb_S2048x256_S128x256_384_0) (ld2 arg5 harg5 x4 0 0 inb_S256x512_S256x512_0_0) inb_S2048x512_S128x128_384_0 x,
  fun x => codes_piece i hi 3 256 (by decide) (by decide) slices_S128x128_o0_3_S128x1 slices_S128x512_o0_384_S128x128 xs1 xs0 x4
    (ld2 arg12 harg12 xs1 256 0 inb_S2048x128_S128x128_256_0) (ld2 arg11 harg11 xs0 256 0 inb_S2048x256_S128x256_256_0) (ld2 arg5 harg5 x4 0 0 inb_S256x512_S256x512_0_0) inb_S2048x512_S128x128_256_384 x,
  fun x => codes_piece i hi 2 256 (by decide) (by decide) slices_S128x128_o0_2_S128x1 slices_S128x512_o0_256_S128x128 xs1 xs0 x4
    (ld2 arg12 harg12 xs1 256 0 inb_S2048x128_S128x128_256_0) (ld2 arg11 harg11 xs0 256 0 inb_S2048x256_S128x256_256_0) (ld2 arg5 harg5 x4 0 0 inb_S256x512_S256x512_0_0) inb_S2048x512_S128x128_256_256 x,
  fun x => codes_piece i hi 1 256 (by decide) (by decide) slices_S128x128_o0_1_S128x1 slices_S128x512_o0_128_S128x128 xs1 xs0 x4
    (ld2 arg12 harg12 xs1 256 0 inb_S2048x128_S128x128_256_0) (ld2 arg11 harg11 xs0 256 0 inb_S2048x256_S128x256_256_0) (ld2 arg5 harg5 x4 0 0 inb_S256x512_S256x512_0_0) inb_S2048x512_S128x128_256_128 x,
  fun x => codes_piece i hi 0 256 (by decide) (by decide) slices_S128x128_o0_0_S128x1 slices_S128x512_o0_0_S128x128 xs1 xs0 x4
    (ld2 arg12 harg12 xs1 256 0 inb_S2048x128_S128x128_256_0) (ld2 arg11 harg11 xs0 256 0 inb_S2048x256_S128x256_256_0) (ld2 arg5 harg5 x4 0 0 inb_S256x512_S256x512_0_0) inb_S2048x512_S128x128_256_0 x,
  fun x => codes_piece i hi 3 128 (by decide) (by decide) slices_S128x128_o0_3_S128x1 slices_S128x512_o0_384_S128x128 xs1 xs0 x4
    (ld2 arg12 harg12 xs1 128 0 inb_S2048x128_S128x128_128_0) (ld2 arg11 harg11 xs0 128 0 inb_S2048x256_S128x256_128_0) (ld2 arg5 harg5 x4 0 0 inb_S256x512_S256x512_0_0) inb_S2048x512_S128x128_128_384 x,
  fun x => codes_piece i hi 2 128 (by decide) (by decide) slices_S128x128_o0_2_S128x1 slices_S128x512_o0_256_S128x128 xs1 xs0 x4
    (ld2 arg12 harg12 xs1 128 0 inb_S2048x128_S128x128_128_0) (ld2 arg11 harg11 xs0 128 0 inb_S2048x256_S128x256_128_0) (ld2 arg5 harg5 x4 0 0 inb_S256x512_S256x512_0_0) inb_S2048x512_S128x128_128_256 x,
  fun x => codes_piece i hi 1 128 (by decide) (by decide) slices_S128x128_o0_1_S128x1 slices_S128x512_o0_128_S128x128 xs1 xs0 x4
    (ld2 arg12 harg12 xs1 128 0 inb_S2048x128_S128x128_128_0) (ld2 arg11 harg11 xs0 128 0 inb_S2048x256_S128x256_128_0) (ld2 arg5 harg5 x4 0 0 inb_S256x512_S256x512_0_0) inb_S2048x512_S128x128_128_128 x,
  fun x => codes_piece i hi 0 128 (by decide) (by decide) slices_S128x128_o0_0_S128x1 slices_S128x512_o0_0_S128x128 xs1 xs0 x4
    (ld2 arg12 harg12 xs1 128 0 inb_S2048x128_S128x128_128_0) (ld2 arg11 harg11 xs0 128 0 inb_S2048x256_S128x256_128_0) (ld2 arg5 harg5 x4 0 0 inb_S256x512_S256x512_0_0) inb_S2048x512_S128x128_128_0 x,
  fun x => codes_piece i hi 3 0 (by decide) (by decide) slices_S128x128_o0_3_S128x1 slices_S128x512_o0_384_S128x128 xs1 xs0 x4
    (ld2 arg12 harg12 xs1 0 0 inb_S2048x128_S128x128_0_0) (ld2 arg11 harg11 xs0 0 0 inb_S2048x256_S128x256_0_0) (ld2 arg5 harg5 x4 0 0 inb_S256x512_S256x512_0_0) inb_S2048x512_S128x128_0_384 x,
  fun x => codes_piece i hi 2 0 (by decide) (by decide) slices_S128x128_o0_2_S128x1 slices_S128x512_o0_256_S128x128 xs1 xs0 x4
    (ld2 arg12 harg12 xs1 0 0 inb_S2048x128_S128x128_0_0) (ld2 arg11 harg11 xs0 0 0 inb_S2048x256_S128x256_0_0) (ld2 arg5 harg5 x4 0 0 inb_S256x512_S256x512_0_0) inb_S2048x512_S128x128_0_256 x,
  fun x => codes_piece i hi 1 0 (by decide) (by decide) slices_S128x128_o0_1_S128x1 slices_S128x512_o0_128_S128x128 xs1 xs0 x4
    (ld2 arg12 harg12 xs1 0 0 inb_S2048x128_S128x128_0_0) (ld2 arg11 harg11 xs0 0 0 inb_S2048x256_S128x256_0_0) (ld2 arg5 harg5 x4 0 0 inb_S256x512_S256x512_0_0) inb_S2048x512_S128x128_0_128 x,
  fun x => codes_piece i hi 0 0 (by decide) (by decide) slices_S128x128_o0_0_S128x1 slices_S128x512_o0_0_S128x128 xs1 xs0 x4
    (ld2 arg12 harg12 xs1 0 0 inb_S2048x128_S128x128_0_0) (ld2 arg11 harg11 xs0 0 0 inb_S2048x256_S128x256_0_0) (ld2 arg5 harg5 x4 0 0 inb_S256x512_S256x512_0_0) inb_S2048x512_S128x128_0_0 x,
  trivial⟩

set_option maxHeartbeats 4000000 in
theorem runB_acc (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (hi : (i 0).val < 10) :
    View.PiecesOf (accOf (i 0).val hi xs2 xs0 x4 x6 xs3) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.val :=
  ⟨fun x => acc_piece i hi 1920 (by decide) xs2 xs0 x4 x6 xs3
    (ld2 arg13 harg13 xs2 1920 0 inb_S2048x128_S128x128_1920_0) (ld2 arg11 harg11 xs0 1920 0 inb_S2048x256_S128x256_1920_0) (ld2 arg5 harg5 x4 0 0 inb_S256x512_S256x512_0_0)
    (ld2 arg7 harg7 x6 1920 0 inb_S2048x512_S128x128_1920_0) (ld2 arg7 harg7 x6 1920 128 inb_S2048x512_S128x128_1920_128) (ld2 arg7 harg7 x6 1920 256 inb_S2048x512_S128x128_1920_256)
    (ld2 arg7 harg7 x6 1920 384 inb_S2048x512_S128x128_1920_384) (ld2 arg14 harg14 xs3 1920 0 inb_S2048x128_S128x128_1920_0) inb_S2048x128_S128x128_1920_0 x,
  fun x => acc_piece i hi 1792 (by decide) xs2 xs0 x4 x6 xs3
    (ld2 arg13 harg13 xs2 1792 0 inb_S2048x128_S128x128_1792_0) (ld2 arg11 harg11 xs0 1792 0 inb_S2048x256_S128x256_1792_0) (ld2 arg5 harg5 x4 0 0 inb_S256x512_S256x512_0_0)
    (ld2 arg7 harg7 x6 1792 0 inb_S2048x512_S128x128_1792_0) (ld2 arg7 harg7 x6 1792 128 inb_S2048x512_S128x128_1792_128) (ld2 arg7 harg7 x6 1792 256 inb_S2048x512_S128x128_1792_256)
    (ld2 arg7 harg7 x6 1792 384 inb_S2048x512_S128x128_1792_384) (ld2 arg14 harg14 xs3 1792 0 inb_S2048x128_S128x128_1792_0) inb_S2048x128_S128x128_1792_0 x,
  fun x => acc_piece i hi 1664 (by decide) xs2 xs0 x4 x6 xs3
    (ld2 arg13 harg13 xs2 1664 0 inb_S2048x128_S128x128_1664_0) (ld2 arg11 harg11 xs0 1664 0 inb_S2048x256_S128x256_1664_0) (ld2 arg5 harg5 x4 0 0 inb_S256x512_S256x512_0_0)
    (ld2 arg7 harg7 x6 1664 0 inb_S2048x512_S128x128_1664_0) (ld2 arg7 harg7 x6 1664 128 inb_S2048x512_S128x128_1664_128) (ld2 arg7 harg7 x6 1664 256 inb_S2048x512_S128x128_1664_256)
    (ld2 arg7 harg7 x6 1664 384 inb_S2048x512_S128x128_1664_384) (ld2 arg14 harg14 xs3 1664 0 inb_S2048x128_S128x128_1664_0) inb_S2048x128_S128x128_1664_0 x,
  fun x => acc_piece i hi 1536 (by decide) xs2 xs0 x4 x6 xs3
    (ld2 arg13 harg13 xs2 1536 0 inb_S2048x128_S128x128_1536_0) (ld2 arg11 harg11 xs0 1536 0 inb_S2048x256_S128x256_1536_0) (ld2 arg5 harg5 x4 0 0 inb_S256x512_S256x512_0_0)
    (ld2 arg7 harg7 x6 1536 0 inb_S2048x512_S128x128_1536_0) (ld2 arg7 harg7 x6 1536 128 inb_S2048x512_S128x128_1536_128) (ld2 arg7 harg7 x6 1536 256 inb_S2048x512_S128x128_1536_256)
    (ld2 arg7 harg7 x6 1536 384 inb_S2048x512_S128x128_1536_384) (ld2 arg14 harg14 xs3 1536 0 inb_S2048x128_S128x128_1536_0) inb_S2048x128_S128x128_1536_0 x,
  fun x => acc_piece i hi 1408 (by decide) xs2 xs0 x4 x6 xs3
    (ld2 arg13 harg13 xs2 1408 0 inb_S2048x128_S128x128_1408_0) (ld2 arg11 harg11 xs0 1408 0 inb_S2048x256_S128x256_1408_0) (ld2 arg5 harg5 x4 0 0 inb_S256x512_S256x512_0_0)
    (ld2 arg7 harg7 x6 1408 0 inb_S2048x512_S128x128_1408_0) (ld2 arg7 harg7 x6 1408 128 inb_S2048x512_S128x128_1408_128) (ld2 arg7 harg7 x6 1408 256 inb_S2048x512_S128x128_1408_256)
    (ld2 arg7 harg7 x6 1408 384 inb_S2048x512_S128x128_1408_384) (ld2 arg14 harg14 xs3 1408 0 inb_S2048x128_S128x128_1408_0) inb_S2048x128_S128x128_1408_0 x,
  fun x => acc_piece i hi 1280 (by decide) xs2 xs0 x4 x6 xs3
    (ld2 arg13 harg13 xs2 1280 0 inb_S2048x128_S128x128_1280_0) (ld2 arg11 harg11 xs0 1280 0 inb_S2048x256_S128x256_1280_0) (ld2 arg5 harg5 x4 0 0 inb_S256x512_S256x512_0_0)
    (ld2 arg7 harg7 x6 1280 0 inb_S2048x512_S128x128_1280_0) (ld2 arg7 harg7 x6 1280 128 inb_S2048x512_S128x128_1280_128) (ld2 arg7 harg7 x6 1280 256 inb_S2048x512_S128x128_1280_256)
    (ld2 arg7 harg7 x6 1280 384 inb_S2048x512_S128x128_1280_384) (ld2 arg14 harg14 xs3 1280 0 inb_S2048x128_S128x128_1280_0) inb_S2048x128_S128x128_1280_0 x,
  fun x => acc_piece i hi 1152 (by decide) xs2 xs0 x4 x6 xs3
    (ld2 arg13 harg13 xs2 1152 0 inb_S2048x128_S128x128_1152_0) (ld2 arg11 harg11 xs0 1152 0 inb_S2048x256_S128x256_1152_0) (ld2 arg5 harg5 x4 0 0 inb_S256x512_S256x512_0_0)
    (ld2 arg7 harg7 x6 1152 0 inb_S2048x512_S128x128_1152_0) (ld2 arg7 harg7 x6 1152 128 inb_S2048x512_S128x128_1152_128) (ld2 arg7 harg7 x6 1152 256 inb_S2048x512_S128x128_1152_256)
    (ld2 arg7 harg7 x6 1152 384 inb_S2048x512_S128x128_1152_384) (ld2 arg14 harg14 xs3 1152 0 inb_S2048x128_S128x128_1152_0) inb_S2048x128_S128x128_1152_0 x,
  fun x => acc_piece i hi 1024 (by decide) xs2 xs0 x4 x6 xs3
    (ld2 arg13 harg13 xs2 1024 0 inb_S2048x128_S128x128_1024_0) (ld2 arg11 harg11 xs0 1024 0 inb_S2048x256_S128x256_1024_0) (ld2 arg5 harg5 x4 0 0 inb_S256x512_S256x512_0_0)
    (ld2 arg7 harg7 x6 1024 0 inb_S2048x512_S128x128_1024_0) (ld2 arg7 harg7 x6 1024 128 inb_S2048x512_S128x128_1024_128) (ld2 arg7 harg7 x6 1024 256 inb_S2048x512_S128x128_1024_256)
    (ld2 arg7 harg7 x6 1024 384 inb_S2048x512_S128x128_1024_384) (ld2 arg14 harg14 xs3 1024 0 inb_S2048x128_S128x128_1024_0) inb_S2048x128_S128x128_1024_0 x,
  fun x => acc_piece i hi 896 (by decide) xs2 xs0 x4 x6 xs3
    (ld2 arg13 harg13 xs2 896 0 inb_S2048x128_S128x128_896_0) (ld2 arg11 harg11 xs0 896 0 inb_S2048x256_S128x256_896_0) (ld2 arg5 harg5 x4 0 0 inb_S256x512_S256x512_0_0)
    (ld2 arg7 harg7 x6 896 0 inb_S2048x512_S128x128_896_0) (ld2 arg7 harg7 x6 896 128 inb_S2048x512_S128x128_896_128) (ld2 arg7 harg7 x6 896 256 inb_S2048x512_S128x128_896_256)
    (ld2 arg7 harg7 x6 896 384 inb_S2048x512_S128x128_896_384) (ld2 arg14 harg14 xs3 896 0 inb_S2048x128_S128x128_896_0) inb_S2048x128_S128x128_896_0 x,
  fun x => acc_piece i hi 768 (by decide) xs2 xs0 x4 x6 xs3
    (ld2 arg13 harg13 xs2 768 0 inb_S2048x128_S128x128_768_0) (ld2 arg11 harg11 xs0 768 0 inb_S2048x256_S128x256_768_0) (ld2 arg5 harg5 x4 0 0 inb_S256x512_S256x512_0_0)
    (ld2 arg7 harg7 x6 768 0 inb_S2048x512_S128x128_768_0) (ld2 arg7 harg7 x6 768 128 inb_S2048x512_S128x128_768_128) (ld2 arg7 harg7 x6 768 256 inb_S2048x512_S128x128_768_256)
    (ld2 arg7 harg7 x6 768 384 inb_S2048x512_S128x128_768_384) (ld2 arg14 harg14 xs3 768 0 inb_S2048x128_S128x128_768_0) inb_S2048x128_S128x128_768_0 x,
  fun x => acc_piece i hi 640 (by decide) xs2 xs0 x4 x6 xs3
    (ld2 arg13 harg13 xs2 640 0 inb_S2048x128_S128x128_640_0) (ld2 arg11 harg11 xs0 640 0 inb_S2048x256_S128x256_640_0) (ld2 arg5 harg5 x4 0 0 inb_S256x512_S256x512_0_0)
    (ld2 arg7 harg7 x6 640 0 inb_S2048x512_S128x128_640_0) (ld2 arg7 harg7 x6 640 128 inb_S2048x512_S128x128_640_128) (ld2 arg7 harg7 x6 640 256 inb_S2048x512_S128x128_640_256)
    (ld2 arg7 harg7 x6 640 384 inb_S2048x512_S128x128_640_384) (ld2 arg14 harg14 xs3 640 0 inb_S2048x128_S128x128_640_0) inb_S2048x128_S128x128_640_0 x,
  fun x => acc_piece i hi 512 (by decide) xs2 xs0 x4 x6 xs3
    (ld2 arg13 harg13 xs2 512 0 inb_S2048x128_S128x128_512_0) (ld2 arg11 harg11 xs0 512 0 inb_S2048x256_S128x256_512_0) (ld2 arg5 harg5 x4 0 0 inb_S256x512_S256x512_0_0)
    (ld2 arg7 harg7 x6 512 0 inb_S2048x512_S128x128_512_0) (ld2 arg7 harg7 x6 512 128 inb_S2048x512_S128x128_512_128) (ld2 arg7 harg7 x6 512 256 inb_S2048x512_S128x128_512_256)
    (ld2 arg7 harg7 x6 512 384 inb_S2048x512_S128x128_512_384) (ld2 arg14 harg14 xs3 512 0 inb_S2048x128_S128x128_512_0) inb_S2048x128_S128x128_512_0 x,
  fun x => acc_piece i hi 384 (by decide) xs2 xs0 x4 x6 xs3
    (ld2 arg13 harg13 xs2 384 0 inb_S2048x128_S128x128_384_0) (ld2 arg11 harg11 xs0 384 0 inb_S2048x256_S128x256_384_0) (ld2 arg5 harg5 x4 0 0 inb_S256x512_S256x512_0_0)
    (ld2 arg7 harg7 x6 384 0 inb_S2048x512_S128x128_384_0) (ld2 arg7 harg7 x6 384 128 inb_S2048x512_S128x128_384_128) (ld2 arg7 harg7 x6 384 256 inb_S2048x512_S128x128_384_256)
    (ld2 arg7 harg7 x6 384 384 inb_S2048x512_S128x128_384_384) (ld2 arg14 harg14 xs3 384 0 inb_S2048x128_S128x128_384_0) inb_S2048x128_S128x128_384_0 x,
  fun x => acc_piece i hi 256 (by decide) xs2 xs0 x4 x6 xs3
    (ld2 arg13 harg13 xs2 256 0 inb_S2048x128_S128x128_256_0) (ld2 arg11 harg11 xs0 256 0 inb_S2048x256_S128x256_256_0) (ld2 arg5 harg5 x4 0 0 inb_S256x512_S256x512_0_0)
    (ld2 arg7 harg7 x6 256 0 inb_S2048x512_S128x128_256_0) (ld2 arg7 harg7 x6 256 128 inb_S2048x512_S128x128_256_128) (ld2 arg7 harg7 x6 256 256 inb_S2048x512_S128x128_256_256)
    (ld2 arg7 harg7 x6 256 384 inb_S2048x512_S128x128_256_384) (ld2 arg14 harg14 xs3 256 0 inb_S2048x128_S128x128_256_0) inb_S2048x128_S128x128_256_0 x,
  fun x => acc_piece i hi 128 (by decide) xs2 xs0 x4 x6 xs3
    (ld2 arg13 harg13 xs2 128 0 inb_S2048x128_S128x128_128_0) (ld2 arg11 harg11 xs0 128 0 inb_S2048x256_S128x256_128_0) (ld2 arg5 harg5 x4 0 0 inb_S256x512_S256x512_0_0)
    (ld2 arg7 harg7 x6 128 0 inb_S2048x512_S128x128_128_0) (ld2 arg7 harg7 x6 128 128 inb_S2048x512_S128x128_128_128) (ld2 arg7 harg7 x6 128 256 inb_S2048x512_S128x128_128_256)
    (ld2 arg7 harg7 x6 128 384 inb_S2048x512_S128x128_128_384) (ld2 arg14 harg14 xs3 128 0 inb_S2048x128_S128x128_128_0) inb_S2048x128_S128x128_128_0 x,
  fun x => acc_piece i hi 0 (by decide) xs2 xs0 x4 x6 xs3
    (ld2 arg13 harg13 xs2 0 0 inb_S2048x128_S128x128_0_0) (ld2 arg11 harg11 xs0 0 0 inb_S2048x256_S128x256_0_0) (ld2 arg5 harg5 x4 0 0 inb_S256x512_S256x512_0_0)
    (ld2 arg7 harg7 x6 0 0 inb_S2048x512_S128x128_0_0) (ld2 arg7 harg7 x6 0 128 inb_S2048x512_S128x128_0_128) (ld2 arg7 harg7 x6 0 256 inb_S2048x512_S128x128_0_256)
    (ld2 arg7 harg7 x6 0 384 inb_S2048x512_S128x128_0_384) (ld2 arg14 harg14 xs3 0 0 inb_S2048x128_S128x128_0_0) inb_S2048x128_S128x128_0_0 x,
  trivial⟩

theorem runB_codes_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (y : S2048x512.Idx) :
    ∃ pc ∈ (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).1, y ∈ pc.1.set :=
  View.cover_of_tiledL (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).1 S128x128.size (by sl_kernel_rfl) y

theorem runB_acc_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : ¬cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (y : S2048x128.Idx) :
    ∃ pc ∈ (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.val, y ∈ pc.1.set :=
  View.cover_of_tiledL (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.val S128x128.size (by sl_kernel_rfl) y

end Cert.KernelIdeal.Gen

end
-- ==== Proof.KI.RunC.lean ====
/- The kernel body run from beginning to end at the last point: the stores each buffer ends with, as lists of pieces. -/
module

public import proofs.«01_k».proof.Proof.KI.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2272000 in
/-- What the body stores at the last point, as pieces (last first), with the proof that on whole staging buffers the body runs to
    its end: the inputs stay as they were, and the buffers it stores into hold their pieces. -/
noncomputable def runC (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : cond0_1 i)
    (x0 : Vec F S16x128 .i32) (x1 : Vec F S256x8 .f32) (x2 : Vec F S256x1 .f32) (x3 : Vec F S256x5120 .fp8e5m2) (x4 : Vec F S256x512 .fp8e5m2) (x5 : Vec F S2048x40 .f32) (x6 : Vec F S2048x512 .fp8e4m3) (xs0 : Vec F S2048x256 .fp8e5m2) (xs1 : Vec F S2048x128 .f32) (xs2 : Vec F S2048x128 .f32) (xs3 : Vec F S2048x128 .f32) (y8 : Vec F S2048x40 .f32) :
    Σ' (L7 : List (View.Piece (Elt F) S2048x512 .fp8e5m2)), Σ' (L9 : List (View.Piece (Elt F) S256x8 .f32)), { LS3 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare y8 ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ owns (c : Thread nD τ) arg13 fullShare xs2 ∗ (∃ f, arg14.view.loc (c : Thread nD τ) ↦[arg14.view.set]{fullShare} arg14.view.writes (Elt F) f LS3)) -∗ K ⟨⟩))
          ⊢ wp frame (wpE (defs₀ (F := F)) Variants.none c none) E (cc0_combine_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_combine_bwd_eq_skeleton]; unfold cc0_combine_bwd_skel
    simp only [k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg11.eq_unread hfs0; obtain rfl := harg12.eq_unread hfs1; obtain rfl := harg13.eq_unread hfs2; obtain rfl := harg14.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]; · iexists _; iexact H9
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    iexists _; iexact HS3

end Cert.KernelIdeal.Gen

end
-- ==== Proof.KI.ValC.lean ====
/- What the body stores at the last point, as blocks of whole-buffer functions. -/
module

public import proofs.«01_k».proof.Proof.KI.RunC
public import proofs.«01_k».proof.Proof.KI.Spec

@[expose] public section

set_option maxRecDepth 16384

noncomputable section

namespace Cert.KernelIdeal.Gen

open Idealize.ShloMosaic Idealize.ShloMosaic.TcCoe Idealize.ShloMosaic.Tactic
open Idealize.SL Idealize.SL.Sem
open Cert.KernelIdeal.Tile

set_option maxHeartbeats 4000000 in
theorem runC_codes (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (hi : (i 0).val < 10) :
    View.PiecesOf (codesOf (i 0).val xs0 xs1 x4) (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).1 :=
  ⟨fun x => codes_piece i hi 3 1920 (by decide) (by decide) slices_S128x128_o0_3_S128x1 slices_S128x512_o0_384_S128x128 xs1 xs0 x4
    (ld2 arg12 harg12 xs1 1920 0 inb_S2048x128_S128x128_1920_0) (ld2 arg11 harg11 xs0 1920 0 inb_S2048x256_S128x256_1920_0) (ld2 arg5 harg5 x4 0 0 inb_S256x512_S256x512_0_0) inb_S2048x512_S128x128_1920_384 x,
  fun x => codes_piece i hi 2 1920 (by decide) (by decide) slices_S128x128_o0_2_S128x1 slices_S128x512_o0_256_S128x128 xs1 xs0 x4
    (ld2 arg12 harg12 xs1 1920 0 inb_S2048x128_S128x128_1920_0) (ld2 arg11 harg11 xs0 1920 0 inb_S2048x256_S128x256_1920_0) (ld2 arg5 harg5 x4 0 0 inb_S256x512_S256x512_0_0) inb_S2048x512_S128x128_1920_256 x,
  fun x => codes_piece i hi 1 1920 (by decide) (by decide) slices_S128x128_o0_1_S128x1 slices_S128x512_o0_128_S128x128 xs1 xs0 x4
    (ld2 arg12 harg12 xs1 1920 0 inb_S2048x128_S128x128_1920_0) (ld2 arg11 harg11 xs0 1920 0 inb_S2048x256_S128x256_1920_0) (ld2 arg5 harg5 x4 0 0 inb_S256x512_S256x512_0_0) inb_S2048x512_S128x128_1920_128 x,
  fun x => codes_piece i hi 0 1920 (by decide) (by decide) slices_S128x128_o0_0_S128x1 slices_S128x512_o0_0_S128x128 xs1 xs0 x4
    (ld2 arg12 harg12 xs1 1920 0 inb_S2048x128_S128x128_1920_0) (ld2 arg11 harg11 xs0 1920 0 inb_S2048x256_S128x256_1920_0) (ld2 arg5 harg5 x4 0 0 inb_S256x512_S256x512_0_0) inb_S2048x512_S128x128_1920_0 x,
  fun x => codes_piece i hi 3 1792 (by decide) (by decide) slices_S128x128_o0_3_S128x1 slices_S128x512_o0_384_S128x128 xs1 xs0 x4
    (ld2 arg12 harg12 xs1 1792 0 inb_S2048x128_S128x128_1792_0) (ld2 arg11 harg11 xs0 1792 0 inb_S2048x256_S128x256_1792_0) (ld2 arg5 harg5 x4 0 0 inb_S256x512_S256x512_0_0) inb_S2048x512_S128x128_1792_384 x,
  fun x => codes_piece i hi 2 1792 (by decide) (by decide) slices_S128x128_o0_2_S128x1 slices_S128x512_o0_256_S128x128 xs1 xs0 x4
    (ld2 arg12 harg12 xs1 1792 0 inb_S2048x128_S128x128_1792_0) (ld2 arg11 harg11 xs0 1792 0 inb_S2048x256_S128x256_1792_0) (ld2 arg5 harg5 x4 0 0 inb_S256x512_S256x512_0_0) inb_S2048x512_S128x128_1792_256 x,
  fun x => codes_piece i hi 1 1792 (by decide) (by decide) slices_S128x128_o0_1_S128x1 slices_S128x512_o0_128_S128x128 xs1 xs0 x4
    (ld2 arg12 harg12 xs1 1792 0 inb_S2048x128_S128x128_1792_0) (ld2 arg11 harg11 xs0 1792 0 inb_S2048x256_S128x256_1792_0) (ld2 arg5 harg5 x4 0 0 inb_S256x512_S256x512_0_0) inb_S2048x512_S128x128_1792_128 x,
  fun x => codes_piece i hi 0 1792 (by decide) (by decide) slices_S128x128_o0_0_S128x1 slices_S128x512_o0_0_S128x128 xs1 xs0 x4
    (ld2 arg12 harg12 xs1 1792 0 inb_S2048x128_S128x128_1792_0) (ld2 arg11 harg11 xs0 1792 0 inb_S2048x256_S128x256_1792_0) (ld2 arg5 harg5 x4 0 0 inb_S256x512_S256x512_0_0) inb_S2048x512_S128x128_1792_0 x,
  fun x => codes_piece i hi 3 1664 (by decide) (by decide) slices_S128x128_o0_3_S128x1 slices_S128x512_o0_384_S128x128 xs1 xs0 x4
    (ld2 arg12 harg12 xs1 1664 0 inb_S2048x128_S128x128_1664_0) (ld2 arg11 harg11 xs0 1664 0 inb_S2048x256_S128x256_1664_0) (ld2 arg5 harg5 x4 0 0 inb_S256x512_S256x512_0_0) inb_S2048x512_S128x128_1664_384 x,
  fun x => codes_piece i hi 2 1664 (by decide) (by decide) slices_S128x128_o0_2_S128x1 slices_S128x512_o0_256_S128x128 xs1 xs0 x4
    (ld2 arg12 harg12 xs1 1664 0 inb_S2048x128_S128x128_1664_0) (ld2 arg11 harg11 xs0 1664 0 inb_S2048x256_S128x256_1664_0) (ld2 arg5 harg5 x4 0 0 inb_S256x512_S256x512_0_0) inb_S2048x512_S128x128_1664_256 x,
  fun x => codes_piece i hi 1 1664 (by decide) (by decide) slices_S128x128_o0_1_S128x1 slices_S128x512_o0_128_S128x128 xs1 xs0 x4
    (ld2 arg12 harg12 xs1 1664 0 inb_S2048x128_S128x128_1664_0) (ld2 arg11 harg11 xs0 1664 0 inb_S2048x256_S128x256_1664_0) (ld2 arg5 harg5 x4 0 0 inb_S256x512_S256x512_0_0) inb_S2048x512_S128x128_1664_128 x,
  fun x => codes_piece i hi 0 1664 (by decide) (by decide) slices_S128x128_o0_0_S128x1 slices_S128x512_o0_0_S128x128 xs1 xs0 x4
    (ld2 arg12 harg12 xs1 1664 0 inb_S2048x128_S128x128_1664_0) (ld2 arg11 harg11 xs0 1664 0 inb_S2048x256_S128x256_1664_0) (ld2 arg5 harg5 x4 0 0 inb_S256x512_S256x512_0_0) inb_S2048x512_S128x128_1664_0 x,
  fun x => codes_piece i hi 3 1536 (by decide) (by decide) slices_S128x128_o0_3_S128x1 slices_S128x512_o0_384_S128x128 xs1 xs0 x4
    (ld2 arg12 harg12 xs1 1536 0 inb_S2048x128_S128x128_1536_0) (ld2 arg11 harg11 xs0 1536 0 inb_S2048x256_S128x256_1536_0) (ld2 arg5 harg5 x4 0 0 inb_S256x512_S256x512_0_0) inb_S2048x512_S128x128_1536_384 x,
  fun x => codes_piece i hi 2 1536 (by decide) (by decide) slices_S128x128_o0_2_S128x1 slices_S128x512_o0_256_S128x128 xs1 xs0 x4
    (ld2 arg12 harg12 xs1 1536 0 inb_S2048x128_S128x128_1536_0) (ld2 arg11 harg11 xs0 1536 0 inb_S2048x256_S128x256_1536_0) (ld2 arg5 harg5 x4 0 0 inb_S256x512_S256x512_0_0) inb_S2048x512_S128x128_1536_256 x,
  fun x => codes_piece i hi 1 1536 (by decide) (by decide) slices_S128x128_o0_1_S128x1 slices_S128x512_o0_128_S128x128 xs1 xs0 x4
    (ld2 arg12 harg12 xs1 1536 0 inb_S2048x128_S128x128_1536_0) (ld2 arg11 harg11 xs0 1536 0 inb_S2048x256_S128x256_1536_0) (ld2 arg5 harg5 x4 0 0 inb_S256x512_S256x512_0_0) inb_S2048x512_S128x128_1536_128 x,
  fun x => codes_piece i hi 0 1536 (by decide) (by decide) slices_S128x128_o0_0_S128x1 slices_S128x512_o0_0_S128x128 xs1 xs0 x4
    (ld2 arg12 harg12 xs1 1536 0 inb_S2048x128_S128x128_1536_0) (ld2 arg11 harg11 xs0 1536 0 inb_S2048x256_S128x256_1536_0) (ld2 arg5 harg5 x4 0 0 inb_S256x512_S256x512_0_0) inb_S2048x512_S128x128_1536_0 x,
  fun x => codes_piece i hi 3 1408 (by decide) (by decide) slices_S128x128_o0_3_S128x1 slices_S128x512_o0_384_S128x128 xs1 xs0 x4
    (ld2 arg12 harg12 xs1 1408 0 inb_S2048x128_S128x128_1408_0) (ld2 arg11 harg11 xs0 1408 0 inb_S2048x256_S128x256_1408_0) (ld2 arg5 harg5 x4 0 0 inb_S256x512_S256x512_0_0) inb_S2048x512_S128x128_1408_384 x,
  fun x => codes_piece i hi 2 1408 (by decide) (by decide) slices_S128x128_o0_2_S128x1 slices_S128x512_o0_256_S128x128 xs1 xs0 x4
    (ld2 arg12 harg12 xs1 1408 0 inb_S2048x128_S128x128_1408_0) (ld2 arg11 harg11 xs0 1408 0 inb_S2048x256_S128x256_1408_0) (ld2 arg5 harg5 x4 0 0 inb_S256x512_S256x512_0_0) inb_S2048x512_S128x128_1408_256 x,
  fun x => codes_piece i hi 1 1408 (by decide) (by decide) slices_S128x128_o0_1_S128x1 slices_S128x512_o0_128_S128x128 xs1 xs0 x4
    (ld2 arg12 harg12 xs1 1408 0 inb_S2048x128_S128x128_1408_0) (ld2 arg11 harg11 xs0 1408 0 inb_S2048x256_S128x256_1408_0) (ld2 arg5 harg5 x4 0 0 inb_S256x512_S256x512_0_0) inb_S2048x512_S128x128_1408_128 x,
  fun x => codes_piece i hi 0 1408 (by decide) (by decide) slices_S128x128_o0_0_S128x1 slices_S128x512_o0_0_S128x128 xs1 xs0 x4
    (ld2 arg12 harg12 xs1 1408 0 inb_S2048x128_S128x128_1408_0) (ld2 arg11 harg11 xs0 1408 0 inb_S2048x256_S128x256_1408_0) (ld2 arg5 harg5 x4 0 0 inb_S256x512_S256x512_0_0) inb_S2048x512_S128x128_1408_0 x,
  fun x => codes_piece i hi 3 1280 (by decide) (by decide) slices_S128x128_o0_3_S128x1 slices_S128x512_o0_384_S128x128 xs1 xs0 x4
    (ld2 arg12 harg12 xs1 1280 0 inb_S2048x128_S128x128_1280_0) (ld2 arg11 harg11 xs0 1280 0 inb_S2048x256_S128x256_1280_0) (ld2 arg5 harg5 x4 0 0 inb_S256x512_S256x512_0_0) inb_S2048x512_S128x128_1280_384 x,
  fun x => codes_piece i hi 2 1280 (by decide) (by decide) slices_S128x128_o0_2_S128x1 slices_S128x512_o0_256_S128x128 xs1 xs0 x4
    (ld2 arg12 harg12 xs1 1280 0 inb_S2048x128_S128x128_1280_0) (ld2 arg11 harg11 xs0 1280 0 inb_S2048x256_S128x256_1280_0) (ld2 arg5 harg5 x4 0 0 inb_S256x512_S256x512_0_0) inb_S2048x512_S128x128_1280_256 x,
  fun x => codes_piece i hi 1 1280 (by decide) (by decide) slices_S128x128_o0_1_S128x1 slices_S128x512_o0_128_S128x128 xs1 xs0 x4
    (ld2 arg12 harg12 xs1 1280 0 inb_S2048x128_S128x128_1280_0) (ld2 arg11 harg11 xs0 1280 0 inb_S2048x256_S128x256_1280_0) (ld2 arg5 harg5 x4 0 0 inb_S256x512_S256x512_0_0) inb_S2048x512_S128x128_1280_128 x,
  fun x => codes_piece i hi 0 1280 (by decide) (by decide) slices_S128x128_o0_0_S128x1 slices_S128x512_o0_0_S128x128 xs1 xs0 x4
    (ld2 arg12 harg12 xs1 1280 0 inb_S2048x128_S128x128_1280_0) (ld2 arg11 harg11 xs0 1280 0 inb_S2048x256_S128x256_1280_0) (ld2 arg5 harg5 x4 0 0 inb_S256x512_S256x512_0_0) inb_S2048x512_S128x128_1280_0 x,
  fun x => codes_piece i hi 3 1152 (by decide) (by decide) slices_S128x128_o0_3_S128x1 slices_S128x512_o0_384_S128x128 xs1 xs0 x4
    (ld2 arg12 harg12 xs1 1152 0 inb_S2048x128_S128x128_1152_0) (ld2 arg11 harg11 xs0 1152 0 inb_S2048x256_S128x256_1152_0) (ld2 arg5 harg5 x4 0 0 inb_S256x512_S256x512_0_0) inb_S2048x512_S128x128_1152_384 x,
  fun x => codes_piece i hi 2 1152 (by decide) (by decide) slices_S128x128_o0_2_S128x1 slices_S128x512_o0_256_S128x128 xs1 xs0 x4
    (ld2 arg12 harg12 xs1 1152 0 inb_S2048x128_S128x128_1152_0) (ld2 arg11 harg11 xs0 1152 0 inb_S2048x256_S128x256_1152_0) (ld2 arg5 harg5 x4 0 0 inb_S256x512_S256x512_0_0) inb_S2048x512_S128x128_1152_256 x,
  fun x => codes_piece i hi 1 1152 (by decide) (by decide) slices_S128x128_o0_1_S128x1 slices_S128x512_o0_128_S128x128 xs1 xs0 x4
    (ld2 arg12 harg12 xs1 1152 0 inb_S2048x128_S128x128_1152_0) (ld2 arg11 harg11 xs0 1152 0 inb_S2048x256_S128x256_1152_0) (ld2 arg5 harg5 x4 0 0 inb_S256x512_S256x512_0_0) inb_S2048x512_S128x128_1152_128 x,
  fun x => codes_piece i hi 0 1152 (by decide) (by decide) slices_S128x128_o0_0_S128x1 slices_S128x512_o0_0_S128x128 xs1 xs0 x4
    (ld2 arg12 harg12 xs1 1152 0 inb_S2048x128_S128x128_1152_0) (ld2 arg11 harg11 xs0 1152 0 inb_S2048x256_S128x256_1152_0) (ld2 arg5 harg5 x4 0 0 inb_S256x512_S256x512_0_0) inb_S2048x512_S128x128_1152_0 x,
  fun x => codes_piece i hi 3 1024 (by decide) (by decide) slices_S128x128_o0_3_S128x1 slices_S128x512_o0_384_S128x128 xs1 xs0 x4
    (ld2 arg12 harg12 xs1 1024 0 inb_S2048x128_S128x128_1024_0) (ld2 arg11 harg11 xs0 1024 0 inb_S2048x256_S128x256_1024_0) (ld2 arg5 harg5 x4 0 0 inb_S256x512_S256x512_0_0) inb_S2048x512_S128x128_1024_384 x,
  fun x => codes_piece i hi 2 1024 (by decide) (by decide) slices_S128x128_o0_2_S128x1 slices_S128x512_o0_256_S128x128 xs1 xs0 x4
    (ld2 arg12 harg12 xs1 1024 0 inb_S2048x128_S128x128_1024_0) (ld2 arg11 harg11 xs0 1024 0 inb_S2048x256_S128x256_1024_0) (ld2 arg5 harg5 x4 0 0 inb_S256x512_S256x512_0_0) inb_S2048x512_S128x128_1024_256 x,
  fun x => codes_piece i hi 1 1024 (by decide) (by decide) slices_S128x128_o0_1_S128x1 slices_S128x512_o0_128_S128x128 xs1 xs0 x4
    (ld2 arg12 harg12 xs1 1024 0 inb_S2048x128_S128x128_1024_0) (ld2 arg11 harg11 xs0 1024 0 inb_S2048x256_S128x256_1024_0) (ld2 arg5 harg5 x4 0 0 inb_S256x512_S256x512_0_0) inb_S2048x512_S128x128_1024_128 x,
  fun x => codes_piece i hi 0 1024 (by decide) (by decide) slices_S128x128_o0_0_S128x1 slices_S128x512_o0_0_S128x128 xs1 xs0 x4
    (ld2 arg12 harg12 xs1 1024 0 inb_S2048x128_S128x128_1024_0) (ld2 arg11 harg11 xs0 1024 0 inb_S2048x256_S128x256_1024_0) (ld2 arg5 harg5 x4 0 0 inb_S256x512_S256x512_0_0) inb_S2048x512_S128x128_1024_0 x,
  fun x => codes_piece i hi 3 896 (by decide) (by decide) slices_S128x128_o0_3_S128x1 slices_S128x512_o0_384_S128x128 xs1 xs0 x4
    (ld2 arg12 harg12 xs1 896 0 inb_S2048x128_S128x128_896_0) (ld2 arg11 harg11 xs0 896 0 inb_S2048x256_S128x256_896_0) (ld2 arg5 harg5 x4 0 0 inb_S256x512_S256x512_0_0) inb_S2048x512_S128x128_896_384 x,
  fun x => codes_piece i hi 2 896 (by decide) (by decide) slices_S128x128_o0_2_S128x1 slices_S128x512_o0_256_S128x128 xs1 xs0 x4
    (ld2 arg12 harg12 xs1 896 0 inb_S2048x128_S128x128_896_0) (ld2 arg11 harg11 xs0 896 0 inb_S2048x256_S128x256_896_0) (ld2 arg5 harg5 x4 0 0 inb_S256x512_S256x512_0_0) inb_S2048x512_S128x128_896_256 x,
  fun x => codes_piece i hi 1 896 (by decide) (by decide) slices_S128x128_o0_1_S128x1 slices_S128x512_o0_128_S128x128 xs1 xs0 x4
    (ld2 arg12 harg12 xs1 896 0 inb_S2048x128_S128x128_896_0) (ld2 arg11 harg11 xs0 896 0 inb_S2048x256_S128x256_896_0) (ld2 arg5 harg5 x4 0 0 inb_S256x512_S256x512_0_0) inb_S2048x512_S128x128_896_128 x,
  fun x => codes_piece i hi 0 896 (by decide) (by decide) slices_S128x128_o0_0_S128x1 slices_S128x512_o0_0_S128x128 xs1 xs0 x4
    (ld2 arg12 harg12 xs1 896 0 inb_S2048x128_S128x128_896_0) (ld2 arg11 harg11 xs0 896 0 inb_S2048x256_S128x256_896_0) (ld2 arg5 harg5 x4 0 0 inb_S256x512_S256x512_0_0) inb_S2048x512_S128x128_896_0 x,
  fun x => codes_piece i hi 3 768 (by decide) (by decide) slices_S128x128_o0_3_S128x1 slices_S128x512_o0_384_S128x128 xs1 xs0 x4
    (ld2 arg12 harg12 xs1 768 0 inb_S2048x128_S128x128_768_0) (ld2 arg11 harg11 xs0 768 0 inb_S2048x256_S128x256_768_0) (ld2 arg5 harg5 x4 0 0 inb_S256x512_S256x512_0_0) inb_S2048x512_S128x128_768_384 x,
  fun x => codes_piece i hi 2 768 (by decide) (by decide) slices_S128x128_o0_2_S128x1 slices_S128x512_o0_256_S128x128 xs1 xs0 x4
    (ld2 arg12 harg12 xs1 768 0 inb_S2048x128_S128x128_768_0) (ld2 arg11 harg11 xs0 768 0 inb_S2048x256_S128x256_768_0) (ld2 arg5 harg5 x4 0 0 inb_S256x512_S256x512_0_0) inb_S2048x512_S128x128_768_256 x,
  fun x => codes_piece i hi 1 768 (by decide) (by decide) slices_S128x128_o0_1_S128x1 slices_S128x512_o0_128_S128x128 xs1 xs0 x4
    (ld2 arg12 harg12 xs1 768 0 inb_S2048x128_S128x128_768_0) (ld2 arg11 harg11 xs0 768 0 inb_S2048x256_S128x256_768_0) (ld2 arg5 harg5 x4 0 0 inb_S256x512_S256x512_0_0) inb_S2048x512_S128x128_768_128 x,
  fun x => codes_piece i hi 0 768 (by decide) (by decide) slices_S128x128_o0_0_S128x1 slices_S128x512_o0_0_S128x128 xs1 xs0 x4
    (ld2 arg12 harg12 xs1 768 0 inb_S2048x128_S128x128_768_0) (ld2 arg11 harg11 xs0 768 0 inb_S2048x256_S128x256_768_0) (ld2 arg5 harg5 x4 0 0 inb_S256x512_S256x512_0_0) inb_S2048x512_S128x128_768_0 x,
  fun x => codes_piece i hi 3 640 (by decide) (by decide) slices_S128x128_o0_3_S128x1 slices_S128x512_o0_384_S128x128 xs1 xs0 x4
    (ld2 arg12 harg12 xs1 640 0 inb_S2048x128_S128x128_640_0) (ld2 arg11 harg11 xs0 640 0 inb_S2048x256_S128x256_640_0) (ld2 arg5 harg5 x4 0 0 inb_S256x512_S256x512_0_0) inb_S2048x512_S128x128_640_384 x,
  fun x => codes_piece i hi 2 640 (by decide) (by decide) slices_S128x128_o0_2_S128x1 slices_S128x512_o0_256_S128x128 xs1 xs0 x4
    (ld2 arg12 harg12 xs1 640 0 inb_S2048x128_S128x128_640_0) (ld2 arg11 harg11 xs0 640 0 inb_S2048x256_S128x256_640_0) (ld2 arg5 harg5 x4 0 0 inb_S256x512_S256x512_0_0) inb_S2048x512_S128x128_640_256 x,
  fun x => codes_piece i hi 1 640 (by decide) (by decide) slices_S128x128_o0_1_S128x1 slices_S128x512_o0_128_S128x128 xs1 xs0 x4
    (ld2 arg12 harg12 xs1 640 0 inb_S2048x128_S128x128_640_0) (ld2 arg11 harg11 xs0 640 0 inb_S2048x256_S128x256_640_0) (ld2 arg5 harg5 x4 0 0 inb_S256x512_S256x512_0_0) inb_S2048x512_S128x128_640_128 x,
  fun x => codes_piece i hi 0 640 (by decide) (by decide) slices_S128x128_o0_0_S128x1 slices_S128x512_o0_0_S128x128 xs1 xs0 x4
    (ld2 arg12 harg12 xs1 640 0 inb_S2048x128_S128x128_640_0) (ld2 arg11 harg11 xs0 640 0 inb_S2048x256_S128x256_640_0) (ld2 arg5 harg5 x4 0 0 inb_S256x512_S256x512_0_0) inb_S2048x512_S128x128_640_0 x,
  fun x => codes_piece i hi 3 512 (by decide) (by decide) slices_S128x128_o0_3_S128x1 slices_S128x512_o0_384_S128x128 xs1 xs0 x4
    (ld2 arg12 harg12 xs1 512 0 inb_S2048x128_S128x128_512_0) (ld2 arg11 harg11 xs0 512 0 inb_S2048x256_S128x256_512_0) (ld2 arg5 harg5 x4 0 0 inb_S256x512_S256x512_0_0) inb_S2048x512_S128x128_512_384 x,
  fun x => codes_piece i hi 2 512 (by decide) (by decide) slices_S128x128_o0_2_S128x1 slices_S128x512_o0_256_S128x128 xs1 xs0 x4
    (ld2 arg12 harg12 xs1 512 0 inb_S2048x128_S128x128_512_0) (ld2 arg11 harg11 xs0 512 0 inb_S2048x256_S128x256_512_0) (ld2 arg5 harg5 x4 0 0 inb_S256x512_S256x512_0_0) inb_S2048x512_S128x128_512_256 x,
  fun x => codes_piece i hi 1 512 (by decide) (by decide) slices_S128x128_o0_1_S128x1 slices_S128x512_o0_128_S128x128 xs1 xs0 x4
    (ld2 arg12 harg12 xs1 512 0 inb_S2048x128_S128x128_512_0) (ld2 arg11 harg11 xs0 512 0 inb_S2048x256_S128x256_512_0) (ld2 arg5 harg5 x4 0 0 inb_S256x512_S256x512_0_0) inb_S2048x512_S128x128_512_128 x,
  fun x => codes_piece i hi 0 512 (by decide) (by decide) slices_S128x128_o0_0_S128x1 slices_S128x512_o0_0_S128x128 xs1 xs0 x4
    (ld2 arg12 harg12 xs1 512 0 inb_S2048x128_S128x128_512_0) (ld2 arg11 harg11 xs0 512 0 inb_S2048x256_S128x256_512_0) (ld2 arg5 harg5 x4 0 0 inb_S256x512_S256x512_0_0) inb_S2048x512_S128x128_512_0 x,
  fun x => codes_piece i hi 3 384 (by decide) (by decide) slices_S128x128_o0_3_S128x1 slices_S128x512_o0_384_S128x128 xs1 xs0 x4
    (ld2 arg12 harg12 xs1 384 0 inb_S2048x128_S128x128_384_0) (ld2 arg11 harg11 xs0 384 0 inb_S2048x256_S128x256_384_0) (ld2 arg5 harg5 x4 0 0 inb_S256x512_S256x512_0_0) inb_S2048x512_S128x128_384_384 x,
  fun x => codes_piece i hi 2 384 (by decide) (by decide) slices_S128x128_o0_2_S128x1 slices_S128x512_o0_256_S128x128 xs1 xs0 x4
    (ld2 arg12 harg12 xs1 384 0 inb_S2048x128_S128x128_384_0) (ld2 arg11 harg11 xs0 384 0 inb_S2048x256_S128x256_384_0) (ld2 arg5 harg5 x4 0 0 inb_S256x512_S256x512_0_0) inb_S2048x512_S128x128_384_256 x,
  fun x => codes_piece i hi 1 384 (by decide) (by decide) slices_S128x128_o0_1_S128x1 slices_S128x512_o0_128_S128x128 xs1 xs0 x4
    (ld2 arg12 harg12 xs1 384 0 inb_S2048x128_S128x128_384_0) (ld2 arg11 harg11 xs0 384 0 inb_S2048x256_S128x256_384_0) (ld2 arg5 harg5 x4 0 0 inb_S256x512_S256x512_0_0) inb_S2048x512_S128x128_384_128 x,
  fun x => codes_piece i hi 0 384 (by decide) (by decide) slices_S128x128_o0_0_S128x1 slices_S128x512_o0_0_S128x128 xs1 xs0 x4
    (ld2 arg12 harg12 xs1 384 0 inb_S2048x128_S128x128_384_0) (ld2 arg11 harg11 xs0 384 0 inb_S2048x256_S128x256_384_0) (ld2 arg5 harg5 x4 0 0 inb_S256x512_S256x512_0_0) inb_S2048x512_S128x128_384_0 x,
  fun x => codes_piece i hi 3 256 (by decide) (by decide) slices_S128x128_o0_3_S128x1 slices_S128x512_o0_384_S128x128 xs1 xs0 x4
    (ld2 arg12 harg12 xs1 256 0 inb_S2048x128_S128x128_256_0) (ld2 arg11 harg11 xs0 256 0 inb_S2048x256_S128x256_256_0) (ld2 arg5 harg5 x4 0 0 inb_S256x512_S256x512_0_0) inb_S2048x512_S128x128_256_384 x,
  fun x => codes_piece i hi 2 256 (by decide) (by decide) slices_S128x128_o0_2_S128x1 slices_S128x512_o0_256_S128x128 xs1 xs0 x4
    (ld2 arg12 harg12 xs1 256 0 inb_S2048x128_S128x128_256_0) (ld2 arg11 harg11 xs0 256 0 inb_S2048x256_S128x256_256_0) (ld2 arg5 harg5 x4 0 0 inb_S256x512_S256x512_0_0) inb_S2048x512_S128x128_256_256 x,
  fun x => codes_piece i hi 1 256 (by decide) (by decide) slices_S128x128_o0_1_S128x1 slices_S128x512_o0_128_S128x128 xs1 xs0 x4
    (ld2 arg12 harg12 xs1 256 0 inb_S2048x128_S128x128_256_0) (ld2 arg11 harg11 xs0 256 0 inb_S2048x256_S128x256_256_0) (ld2 arg5 harg5 x4 0 0 inb_S256x512_S256x512_0_0) inb_S2048x512_S128x128_256_128 x,
  fun x => codes_piece i hi 0 256 (by decide) (by decide) slices_S128x128_o0_0_S128x1 slices_S128x512_o0_0_S128x128 xs1 xs0 x4
    (ld2 arg12 harg12 xs1 256 0 inb_S2048x128_S128x128_256_0) (ld2 arg11 harg11 xs0 256 0 inb_S2048x256_S128x256_256_0) (ld2 arg5 harg5 x4 0 0 inb_S256x512_S256x512_0_0) inb_S2048x512_S128x128_256_0 x,
  fun x => codes_piece i hi 3 128 (by decide) (by decide) slices_S128x128_o0_3_S128x1 slices_S128x512_o0_384_S128x128 xs1 xs0 x4
    (ld2 arg12 harg12 xs1 128 0 inb_S2048x128_S128x128_128_0) (ld2 arg11 harg11 xs0 128 0 inb_S2048x256_S128x256_128_0) (ld2 arg5 harg5 x4 0 0 inb_S256x512_S256x512_0_0) inb_S2048x512_S128x128_128_384 x,
  fun x => codes_piece i hi 2 128 (by decide) (by decide) slices_S128x128_o0_2_S128x1 slices_S128x512_o0_256_S128x128 xs1 xs0 x4
    (ld2 arg12 harg12 xs1 128 0 inb_S2048x128_S128x128_128_0) (ld2 arg11 harg11 xs0 128 0 inb_S2048x256_S128x256_128_0) (ld2 arg5 harg5 x4 0 0 inb_S256x512_S256x512_0_0) inb_S2048x512_S128x128_128_256 x,
  fun x => codes_piece i hi 1 128 (by decide) (by decide) slices_S128x128_o0_1_S128x1 slices_S128x512_o0_128_S128x128 xs1 xs0 x4
    (ld2 arg12 harg12 xs1 128 0 inb_S2048x128_S128x128_128_0) (ld2 arg11 harg11 xs0 128 0 inb_S2048x256_S128x256_128_0) (ld2 arg5 harg5 x4 0 0 inb_S256x512_S256x512_0_0) inb_S2048x512_S128x128_128_128 x,
  fun x => codes_piece i hi 0 128 (by decide) (by decide) slices_S128x128_o0_0_S128x1 slices_S128x512_o0_0_S128x128 xs1 xs0 x4
    (ld2 arg12 harg12 xs1 128 0 inb_S2048x128_S128x128_128_0) (ld2 arg11 harg11 xs0 128 0 inb_S2048x256_S128x256_128_0) (ld2 arg5 harg5 x4 0 0 inb_S256x512_S256x512_0_0) inb_S2048x512_S128x128_128_0 x,
  fun x => codes_piece i hi 3 0 (by decide) (by decide) slices_S128x128_o0_3_S128x1 slices_S128x512_o0_384_S128x128 xs1 xs0 x4
    (ld2 arg12 harg12 xs1 0 0 inb_S2048x128_S128x128_0_0) (ld2 arg11 harg11 xs0 0 0 inb_S2048x256_S128x256_0_0) (ld2 arg5 harg5 x4 0 0 inb_S256x512_S256x512_0_0) inb_S2048x512_S128x128_0_384 x,
  fun x => codes_piece i hi 2 0 (by decide) (by decide) slices_S128x128_o0_2_S128x1 slices_S128x512_o0_256_S128x128 xs1 xs0 x4
    (ld2 arg12 harg12 xs1 0 0 inb_S2048x128_S128x128_0_0) (ld2 arg11 harg11 xs0 0 0 inb_S2048x256_S128x256_0_0) (ld2 arg5 harg5 x4 0 0 inb_S256x512_S256x512_0_0) inb_S2048x512_S128x128_0_256 x,
  fun x => codes_piece i hi 1 0 (by decide) (by decide) slices_S128x128_o0_1_S128x1 slices_S128x512_o0_128_S128x128 xs1 xs0 x4
    (ld2 arg12 harg12 xs1 0 0 inb_S2048x128_S128x128_0_0) (ld2 arg11 harg11 xs0 0 0 inb_S2048x256_S128x256_0_0) (ld2 arg5 harg5 x4 0 0 inb_S256x512_S256x512_0_0) inb_S2048x512_S128x128_0_128 x,
  fun x => codes_piece i hi 0 0 (by decide) (by decide) slices_S128x128_o0_0_S128x1 slices_S128x512_o0_0_S128x128 xs1 xs0 x4
    (ld2 arg12 harg12 xs1 0 0 inb_S2048x128_S128x128_0_0) (ld2 arg11 harg11 xs0 0 0 inb_S2048x256_S128x256_0_0) (ld2 arg5 harg5 x4 0 0 inb_S256x512_S256x512_0_0) inb_S2048x512_S128x128_0_0 x,
  trivial⟩

set_option maxHeartbeats 4000000 in
theorem runC_acc (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (hi : (i 0).val < 10) :
    View.PiecesOf (accOf (i 0).val hi xs2 xs0 x4 x6 xs3) (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.2.val :=
  ⟨fun x => acc_piece i hi 1920 (by decide) xs2 xs0 x4 x6 xs3
    (ld2 arg13 harg13 xs2 1920 0 inb_S2048x128_S128x128_1920_0) (ld2 arg11 harg11 xs0 1920 0 inb_S2048x256_S128x256_1920_0) (ld2 arg5 harg5 x4 0 0 inb_S256x512_S256x512_0_0)
    (ld2 arg7 harg7 x6 1920 0 inb_S2048x512_S128x128_1920_0) (ld2 arg7 harg7 x6 1920 128 inb_S2048x512_S128x128_1920_128) (ld2 arg7 harg7 x6 1920 256 inb_S2048x512_S128x128_1920_256)
    (ld2 arg7 harg7 x6 1920 384 inb_S2048x512_S128x128_1920_384) (ld2 arg14 harg14 xs3 1920 0 inb_S2048x128_S128x128_1920_0) inb_S2048x128_S128x128_1920_0 x,
  fun x => acc_piece i hi 1792 (by decide) xs2 xs0 x4 x6 xs3
    (ld2 arg13 harg13 xs2 1792 0 inb_S2048x128_S128x128_1792_0) (ld2 arg11 harg11 xs0 1792 0 inb_S2048x256_S128x256_1792_0) (ld2 arg5 harg5 x4 0 0 inb_S256x512_S256x512_0_0)
    (ld2 arg7 harg7 x6 1792 0 inb_S2048x512_S128x128_1792_0) (ld2 arg7 harg7 x6 1792 128 inb_S2048x512_S128x128_1792_128) (ld2 arg7 harg7 x6 1792 256 inb_S2048x512_S128x128_1792_256)
    (ld2 arg7 harg7 x6 1792 384 inb_S2048x512_S128x128_1792_384) (ld2 arg14 harg14 xs3 1792 0 inb_S2048x128_S128x128_1792_0) inb_S2048x128_S128x128_1792_0 x,
  fun x => acc_piece i hi 1664 (by decide) xs2 xs0 x4 x6 xs3
    (ld2 arg13 harg13 xs2 1664 0 inb_S2048x128_S128x128_1664_0) (ld2 arg11 harg11 xs0 1664 0 inb_S2048x256_S128x256_1664_0) (ld2 arg5 harg5 x4 0 0 inb_S256x512_S256x512_0_0)
    (ld2 arg7 harg7 x6 1664 0 inb_S2048x512_S128x128_1664_0) (ld2 arg7 harg7 x6 1664 128 inb_S2048x512_S128x128_1664_128) (ld2 arg7 harg7 x6 1664 256 inb_S2048x512_S128x128_1664_256)
    (ld2 arg7 harg7 x6 1664 384 inb_S2048x512_S128x128_1664_384) (ld2 arg14 harg14 xs3 1664 0 inb_S2048x128_S128x128_1664_0) inb_S2048x128_S128x128_1664_0 x,
  fun x => acc_piece i hi 1536 (by decide) xs2 xs0 x4 x6 xs3
    (ld2 arg13 harg13 xs2 1536 0 inb_S2048x128_S128x128_1536_0) (ld2 arg11 harg11 xs0 1536 0 inb_S2048x256_S128x256_1536_0) (ld2 arg5 harg5 x4 0 0 inb_S256x512_S256x512_0_0)
    (ld2 arg7 harg7 x6 1536 0 inb_S2048x512_S128x128_1536_0) (ld2 arg7 harg7 x6 1536 128 inb_S2048x512_S128x128_1536_128) (ld2 arg7 harg7 x6 1536 256 inb_S2048x512_S128x128_1536_256)
    (ld2 arg7 harg7 x6 1536 384 inb_S2048x512_S128x128_1536_384) (ld2 arg14 harg14 xs3 1536 0 inb_S2048x128_S128x128_1536_0) inb_S2048x128_S128x128_1536_0 x,
  fun x => acc_piece i hi 1408 (by decide) xs2 xs0 x4 x6 xs3
    (ld2 arg13 harg13 xs2 1408 0 inb_S2048x128_S128x128_1408_0) (ld2 arg11 harg11 xs0 1408 0 inb_S2048x256_S128x256_1408_0) (ld2 arg5 harg5 x4 0 0 inb_S256x512_S256x512_0_0)
    (ld2 arg7 harg7 x6 1408 0 inb_S2048x512_S128x128_1408_0) (ld2 arg7 harg7 x6 1408 128 inb_S2048x512_S128x128_1408_128) (ld2 arg7 harg7 x6 1408 256 inb_S2048x512_S128x128_1408_256)
    (ld2 arg7 harg7 x6 1408 384 inb_S2048x512_S128x128_1408_384) (ld2 arg14 harg14 xs3 1408 0 inb_S2048x128_S128x128_1408_0) inb_S2048x128_S128x128_1408_0 x,
  fun x => acc_piece i hi 1280 (by decide) xs2 xs0 x4 x6 xs3
    (ld2 arg13 harg13 xs2 1280 0 inb_S2048x128_S128x128_1280_0) (ld2 arg11 harg11 xs0 1280 0 inb_S2048x256_S128x256_1280_0) (ld2 arg5 harg5 x4 0 0 inb_S256x512_S256x512_0_0)
    (ld2 arg7 harg7 x6 1280 0 inb_S2048x512_S128x128_1280_0) (ld2 arg7 harg7 x6 1280 128 inb_S2048x512_S128x128_1280_128) (ld2 arg7 harg7 x6 1280 256 inb_S2048x512_S128x128_1280_256)
    (ld2 arg7 harg7 x6 1280 384 inb_S2048x512_S128x128_1280_384) (ld2 arg14 harg14 xs3 1280 0 inb_S2048x128_S128x128_1280_0) inb_S2048x128_S128x128_1280_0 x,
  fun x => acc_piece i hi 1152 (by decide) xs2 xs0 x4 x6 xs3
    (ld2 arg13 harg13 xs2 1152 0 inb_S2048x128_S128x128_1152_0) (ld2 arg11 harg11 xs0 1152 0 inb_S2048x256_S128x256_1152_0) (ld2 arg5 harg5 x4 0 0 inb_S256x512_S256x512_0_0)
    (ld2 arg7 harg7 x6 1152 0 inb_S2048x512_S128x128_1152_0) (ld2 arg7 harg7 x6 1152 128 inb_S2048x512_S128x128_1152_128) (ld2 arg7 harg7 x6 1152 256 inb_S2048x512_S128x128_1152_256)
    (ld2 arg7 harg7 x6 1152 384 inb_S2048x512_S128x128_1152_384) (ld2 arg14 harg14 xs3 1152 0 inb_S2048x128_S128x128_1152_0) inb_S2048x128_S128x128_1152_0 x,
  fun x => acc_piece i hi 1024 (by decide) xs2 xs0 x4 x6 xs3
    (ld2 arg13 harg13 xs2 1024 0 inb_S2048x128_S128x128_1024_0) (ld2 arg11 harg11 xs0 1024 0 inb_S2048x256_S128x256_1024_0) (ld2 arg5 harg5 x4 0 0 inb_S256x512_S256x512_0_0)
    (ld2 arg7 harg7 x6 1024 0 inb_S2048x512_S128x128_1024_0) (ld2 arg7 harg7 x6 1024 128 inb_S2048x512_S128x128_1024_128) (ld2 arg7 harg7 x6 1024 256 inb_S2048x512_S128x128_1024_256)
    (ld2 arg7 harg7 x6 1024 384 inb_S2048x512_S128x128_1024_384) (ld2 arg14 harg14 xs3 1024 0 inb_S2048x128_S128x128_1024_0) inb_S2048x128_S128x128_1024_0 x,
  fun x => acc_piece i hi 896 (by decide) xs2 xs0 x4 x6 xs3
    (ld2 arg13 harg13 xs2 896 0 inb_S2048x128_S128x128_896_0) (ld2 arg11 harg11 xs0 896 0 inb_S2048x256_S128x256_896_0) (ld2 arg5 harg5 x4 0 0 inb_S256x512_S256x512_0_0)
    (ld2 arg7 harg7 x6 896 0 inb_S2048x512_S128x128_896_0) (ld2 arg7 harg7 x6 896 128 inb_S2048x512_S128x128_896_128) (ld2 arg7 harg7 x6 896 256 inb_S2048x512_S128x128_896_256)
    (ld2 arg7 harg7 x6 896 384 inb_S2048x512_S128x128_896_384) (ld2 arg14 harg14 xs3 896 0 inb_S2048x128_S128x128_896_0) inb_S2048x128_S128x128_896_0 x,
  fun x => acc_piece i hi 768 (by decide) xs2 xs0 x4 x6 xs3
    (ld2 arg13 harg13 xs2 768 0 inb_S2048x128_S128x128_768_0) (ld2 arg11 harg11 xs0 768 0 inb_S2048x256_S128x256_768_0) (ld2 arg5 harg5 x4 0 0 inb_S256x512_S256x512_0_0)
    (ld2 arg7 harg7 x6 768 0 inb_S2048x512_S128x128_768_0) (ld2 arg7 harg7 x6 768 128 inb_S2048x512_S128x128_768_128) (ld2 arg7 harg7 x6 768 256 inb_S2048x512_S128x128_768_256)
    (ld2 arg7 harg7 x6 768 384 inb_S2048x512_S128x128_768_384) (ld2 arg14 harg14 xs3 768 0 inb_S2048x128_S128x128_768_0) inb_S2048x128_S128x128_768_0 x,
  fun x => acc_piece i hi 640 (by decide) xs2 xs0 x4 x6 xs3
    (ld2 arg13 harg13 xs2 640 0 inb_S2048x128_S128x128_640_0) (ld2 arg11 harg11 xs0 640 0 inb_S2048x256_S128x256_640_0) (ld2 arg5 harg5 x4 0 0 inb_S256x512_S256x512_0_0)
    (ld2 arg7 harg7 x6 640 0 inb_S2048x512_S128x128_640_0) (ld2 arg7 harg7 x6 640 128 inb_S2048x512_S128x128_640_128) (ld2 arg7 harg7 x6 640 256 inb_S2048x512_S128x128_640_256)
    (ld2 arg7 harg7 x6 640 384 inb_S2048x512_S128x128_640_384) (ld2 arg14 harg14 xs3 640 0 inb_S2048x128_S128x128_640_0) inb_S2048x128_S128x128_640_0 x,
  fun x => acc_piece i hi 512 (by decide) xs2 xs0 x4 x6 xs3
    (ld2 arg13 harg13 xs2 512 0 inb_S2048x128_S128x128_512_0) (ld2 arg11 harg11 xs0 512 0 inb_S2048x256_S128x256_512_0) (ld2 arg5 harg5 x4 0 0 inb_S256x512_S256x512_0_0)
    (ld2 arg7 harg7 x6 512 0 inb_S2048x512_S128x128_512_0) (ld2 arg7 harg7 x6 512 128 inb_S2048x512_S128x128_512_128) (ld2 arg7 harg7 x6 512 256 inb_S2048x512_S128x128_512_256)
    (ld2 arg7 harg7 x6 512 384 inb_S2048x512_S128x128_512_384) (ld2 arg14 harg14 xs3 512 0 inb_S2048x128_S128x128_512_0) inb_S2048x128_S128x128_512_0 x,
  fun x => acc_piece i hi 384 (by decide) xs2 xs0 x4 x6 xs3
    (ld2 arg13 harg13 xs2 384 0 inb_S2048x128_S128x128_384_0) (ld2 arg11 harg11 xs0 384 0 inb_S2048x256_S128x256_384_0) (ld2 arg5 harg5 x4 0 0 inb_S256x512_S256x512_0_0)
    (ld2 arg7 harg7 x6 384 0 inb_S2048x512_S128x128_384_0) (ld2 arg7 harg7 x6 384 128 inb_S2048x512_S128x128_384_128) (ld2 arg7 harg7 x6 384 256 inb_S2048x512_S128x128_384_256)
    (ld2 arg7 harg7 x6 384 384 inb_S2048x512_S128x128_384_384) (ld2 arg14 harg14 xs3 384 0 inb_S2048x128_S128x128_384_0) inb_S2048x128_S128x128_384_0 x,
  fun x => acc_piece i hi 256 (by decide) xs2 xs0 x4 x6 xs3
    (ld2 arg13 harg13 xs2 256 0 inb_S2048x128_S128x128_256_0) (ld2 arg11 harg11 xs0 256 0 inb_S2048x256_S128x256_256_0) (ld2 arg5 harg5 x4 0 0 inb_S256x512_S256x512_0_0)
    (ld2 arg7 harg7 x6 256 0 inb_S2048x512_S128x128_256_0) (ld2 arg7 harg7 x6 256 128 inb_S2048x512_S128x128_256_128) (ld2 arg7 harg7 x6 256 256 inb_S2048x512_S128x128_256_256)
    (ld2 arg7 harg7 x6 256 384 inb_S2048x512_S128x128_256_384) (ld2 arg14 harg14 xs3 256 0 inb_S2048x128_S128x128_256_0) inb_S2048x128_S128x128_256_0 x,
  fun x => acc_piece i hi 128 (by decide) xs2 xs0 x4 x6 xs3
    (ld2 arg13 harg13 xs2 128 0 inb_S2048x128_S128x128_128_0) (ld2 arg11 harg11 xs0 128 0 inb_S2048x256_S128x256_128_0) (ld2 arg5 harg5 x4 0 0 inb_S256x512_S256x512_0_0)
    (ld2 arg7 harg7 x6 128 0 inb_S2048x512_S128x128_128_0) (ld2 arg7 harg7 x6 128 128 inb_S2048x512_S128x128_128_128) (ld2 arg7 harg7 x6 128 256 inb_S2048x512_S128x128_128_256)
    (ld2 arg7 harg7 x6 128 384 inb_S2048x512_S128x128_128_384) (ld2 arg14 harg14 xs3 128 0 inb_S2048x128_S128x128_128_0) inb_S2048x128_S128x128_128_0 x,
  fun x => acc_piece i hi 0 (by decide) xs2 xs0 x4 x6 xs3
    (ld2 arg13 harg13 xs2 0 0 inb_S2048x128_S128x128_0_0) (ld2 arg11 harg11 xs0 0 0 inb_S2048x256_S128x256_0_0) (ld2 arg5 harg5 x4 0 0 inb_S256x512_S256x512_0_0)
    (ld2 arg7 harg7 x6 0 0 inb_S2048x512_S128x128_0_0) (ld2 arg7 harg7 x6 0 128 inb_S2048x512_S128x128_0_128) (ld2 arg7 harg7 x6 0 256 inb_S2048x512_S128x128_0_256)
    (ld2 arg7 harg7 x6 0 384 inb_S2048x512_S128x128_0_384) (ld2 arg14 harg14 xs3 0 0 inb_S2048x128_S128x128_0_0) inb_S2048x128_S128x128_0_0 x,
  trivial⟩

theorem runC_codes_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (y : S2048x512.Idx) :
    ∃ pc ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).1, y ∈ pc.1.set :=
  View.cover_of_tiledL (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).1 S128x128.size (by sl_kernel_rfl) y

theorem runC_acc_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (y : S2048x128.Idx) :
    ∃ pc ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.2.val, y ∈ pc.1.set :=
  View.cover_of_tiledL (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.2.val S128x128.size (by sl_kernel_rfl) y

theorem runC_acc_canon (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (hi : (i 0).val < 10) :
    View.canon (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.2.val = accOf (i 0).val hi xs2 xs0 x4 x6 xs3 :=
  funext fun y => View.canon_apply_of_pieces (accOf (i 0).val hi xs2 xs0 x4 x6 xs3) _ (runC_acc c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8 hi).mem y (runC_acc_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8 y)

set_option maxHeartbeats 4000000 in
theorem runC_dg (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (hi : (i 0).val < 10) (hN : ∀ s, ordN x0 s < 2048) :
    View.PiecesOf (dgOf x0 x2 xs0 (accOf (i 0).val hi xs2 xs0 x4 x6 xs3)) (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.1 := by
  have hL := runC_acc_canon c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8 hi
  have hc := runC_acc_cover c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8
  have h0 := dgAt_zero x0 xs0 (accOf (i 0).val hi xs2 xs0 x4 x6 xs3)
  have h1 := DgAt.step (n := 0) h0 (by decide) hN (ord_col x0 0 (by decide) slices_S128x16_o0_0_S128x1 (ld2 arg1 harg1 x0 0 0 inb_S16x128_S16x128_0_0))
    (cov2 arg14.view _ _ hL hc 0 0 inb_S2048x128_S128x128_0_0) (ld2 arg11 harg11 xs0 0 0 inb_S2048x256_S128x256_0_0)
  have h2 := DgAt.step (n := 1) h1 (by decide) hN (ord_col x0 1 (by decide) slices_S128x16_o0_1_S128x1 (ld2 arg1 harg1 x0 0 0 inb_S16x128_S16x128_0_0))
    (cov2 arg14.view _ _ hL hc 128 0 inb_S2048x128_S128x128_128_0) (ld2 arg11 harg11 xs0 128 0 inb_S2048x256_S128x256_128_0)
  have h3 := DgAt.step (n := 2) h2 (by decide) hN (ord_col x0 2 (by decide) slices_S128x16_o0_2_S128x1 (ld2 arg1 harg1 x0 0 0 inb_S16x128_S16x128_0_0))
    (cov2 arg14.view _ _ hL hc 256 0 inb_S2048x128_S128x128_256_0) (ld2 arg11 harg11 xs0 256 0 inb_S2048x256_S128x256_256_0)
  have h4 := DgAt.step (n := 3) h3 (by decide) hN (ord_col x0 3 (by decide) slices_S128x16_o0_3_S128x1 (ld2 arg1 harg1 x0 0 0 inb_S16x128_S16x128_0_0))
    (cov2 arg14.view _ _ hL hc 384 0 inb_S2048x128_S128x128_384_0) (ld2 arg11 harg11 xs0 384 0 inb_S2048x256_S128x256_384_0)
  have h5 := DgAt.step (n := 4) h4 (by decide) hN (ord_col x0 4 (by decide) slices_S128x16_o0_4_S128x1 (ld2 arg1 harg1 x0 0 0 inb_S16x128_S16x128_0_0))
    (cov2 arg14.view _ _ hL hc 512 0 inb_S2048x128_S128x128_512_0) (ld2 arg11 harg11 xs0 512 0 inb_S2048x256_S128x256_512_0)
  have h6 := DgAt.step (n := 5) h5 (by decide) hN (ord_col x0 5 (by decide) slices_S128x16_o0_5_S128x1 (ld2 arg1 harg1 x0 0 0 inb_S16x128_S16x128_0_0))
    (cov2 arg14.view _ _ hL hc 640 0 inb_S2048x128_S128x128_640_0) (ld2 arg11 harg11 xs0 640 0 inb_S2048x256_S128x256_640_0)
  have h7 := DgAt.step (n := 6) h6 (by decide) hN (ord_col x0 6 (by decide) slices_S128x16_o0_6_S128x1 (ld2 arg1 harg1 x0 0 0 inb_S16x128_S16x128_0_0))
    (cov2 arg14.view _ _ hL hc 768 0 inb_S2048x128_S128x128_768_0) (ld2 arg11 harg11 xs0 768 0 inb_S2048x256_S128x256_768_0)
  have h8 := DgAt.step (n := 7) h7 (by decide) hN (ord_col x0 7 (by decide) slices_S128x16_o0_7_S128x1 (ld2 arg1 harg1 x0 0 0 inb_S16x128_S16x128_0_0))
    (cov2 arg14.view _ _ hL hc 896 0 inb_S2048x128_S128x128_896_0) (ld2 arg11 harg11 xs0 896 0 inb_S2048x256_S128x256_896_0)
  have h9 := DgAt.step (n := 8) h8 (by decide) hN (ord_col x0 8 (by decide) slices_S128x16_o0_8_S128x1 (ld2 arg1 harg1 x0 0 0 inb_S16x128_S16x128_0_0))
    (cov2 arg14.view _ _ hL hc 1024 0 inb_S2048x128_S128x128_1024_0) (ld2 arg11 harg11 xs0 1024 0 inb_S2048x256_S128x256_1024_0)
  have h10 := DgAt.step (n := 9) h9 (by decide) hN (ord_col x0 9 (by decide) slices_S128x16_o0_9_S128x1 (ld2 arg1 harg1 x0 0 0 inb_S16x128_S16x128_0_0))
    (cov2 arg14.view _ _ hL hc 1152 0 inb_S2048x128_S128x128_1152_0) (ld2 arg11 harg11 xs0 1152 0 inb_S2048x256_S128x256_1152_0)
  have h11 := DgAt.step (n := 10) h10 (by decide) hN (ord_col x0 10 (by decide) slices_S128x16_o0_10_S128x1 (ld2 arg1 harg1 x0 0 0 inb_S16x128_S16x128_0_0))
    (cov2 arg14.view _ _ hL hc 1280 0 inb_S2048x128_S128x128_1280_0) (ld2 arg11 harg11 xs0 1280 0 inb_S2048x256_S128x256_1280_0)
  have h12 := DgAt.step (n := 11) h11 (by decide) hN (ord_col x0 11 (by decide) slices_S128x16_o0_11_S128x1 (ld2 arg1 harg1 x0 0 0 inb_S16x128_S16x128_0_0))
    (cov2 arg14.view _ _ hL hc 1408 0 inb_S2048x128_S128x128_1408_0) (ld2 arg11 harg11 xs0 1408 0 inb_S2048x256_S128x256_1408_0)
  have h13 := DgAt.step (n := 12) h12 (by decide) hN (ord_col x0 12 (by decide) slices_S128x16_o0_12_S128x1 (ld2 arg1 harg1 x0 0 0 inb_S16x128_S16x128_0_0))
    (cov2 arg14.view _ _ hL hc 1536 0 inb_S2048x128_S128x128_1536_0) (ld2 arg11 harg11 xs0 1536 0 inb_S2048x256_S128x256_1536_0)
  have h14 := DgAt.step (n := 13) h13 (by decide) hN (ord_col x0 13 (by decide) slices_S128x16_o0_13_S128x1 (ld2 arg1 harg1 x0 0 0 inb_S16x128_S16x128_0_0))
    (cov2 arg14.view _ _ hL hc 1664 0 inb_S2048x128_S128x128_1664_0) (ld2 arg11 harg11 xs0 1664 0 inb_S2048x256_S128x256_1664_0)
  have h15 := DgAt.step (n := 14) h14 (by decide) hN (ord_col x0 14 (by decide) slices_S128x16_o0_14_S128x1 (ld2 arg1 harg1 x0 0 0 inb_S16x128_S16x128_0_0))
    (cov2 arg14.view _ _ hL hc 1792 0 inb_S2048x128_S128x128_1792_0) (ld2 arg11 harg11 xs0 1792 0 inb_S2048x256_S128x256_1792_0)
  have h16 := DgAt.step (n := 15) h15 (by decide) hN (ord_col x0 15 (by decide) slices_S128x16_o0_15_S128x1 (ld2 arg1 harg1 x0 0 0 inb_S16x128_S16x128_0_0))
    (cov2 arg14.view _ _ hL hc 1920 0 inb_S2048x128_S128x128_1920_0) (ld2 arg11 harg11 xs0 1920 0 inb_S2048x256_S128x256_1920_0)
  exact ⟨fun x => dg_piece h16 x2 (ld2 arg3 harg3 x2 0 0 inb_S256x1_S256x1_0_0) inb_S256x8_S256x8_0_0 x, trivial⟩

theorem runC_dg_cover (c : Dev nD) (i : grid0.Coords) (arg1 : Memref sig .tc .vmem S16x128 .i32) (harg1 : arg1.IsWhole) (arg2 : Memref sig .tc .vmem S256x8 .f32) (harg2 : arg2.IsWhole) (arg3 : Memref sig .tc .vmem S256x1 .f32) (harg3 : arg3.IsWhole) (arg4 : Memref sig .tc .vmem S256x5120 .fp8e5m2) (harg4 : arg4.IsWhole) (arg5 : Memref sig .tc .vmem S256x512 .fp8e5m2) (harg5 : arg5.IsWhole) (arg6 : Memref sig .tc .vmem S2048x40 .f32) (harg6 : arg6.IsWhole) (arg7 : Memref sig .tc .vmem S2048x512 .fp8e4m3) (harg7 : arg7.IsWhole) (arg8 : Memref sig .tc .vmem S2048x512 .fp8e5m2) (harg8 : arg8.IsWhole) (arg9 : Memref sig .tc .vmem S2048x40 .f32) (harg9 : arg9.IsWhole) (arg10 : Memref sig .tc .vmem S256x8 .f32) (harg10 : arg10.IsWhole) (arg11 : Memref sig .tc .vmem S2048x256 .fp8e5m2) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (hc0 : ¬cond0_0 i) (hc1 : cond0_1 i)
    (x0 : Vec Ideal S16x128 .i32) (x1 : Vec Ideal S256x8 .f32) (x2 : Vec Ideal S256x1 .f32) (x3 : Vec Ideal S256x5120 .fp8e5m2) (x4 : Vec Ideal S256x512 .fp8e5m2) (x5 : Vec Ideal S2048x40 .f32) (x6 : Vec Ideal S2048x512 .fp8e4m3) (xs0 : Vec Ideal S2048x256 .fp8e5m2) (xs1 : Vec Ideal S2048x128 .f32) (xs2 : Vec Ideal S2048x128 .f32) (xs3 : Vec Ideal S2048x128 .f32) (y8 : Vec Ideal S2048x40 .f32) (y : S256x8.Idx) :
    ∃ pc ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.1, y ∈ pc.1.set :=
  View.cover_of_tiledL (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 y8).2.1 S256x8.size (by sl_kernel_rfl) y

end Cert.KernelIdeal.Gen

end
-- ==== Proof.KI.Run.lean ====
/- The kernel's run: what each point leaves in its buffers, the body's triple at a generic point, and the launch. -/
module

public import proofs.«01_k».proof.Proof.KI.ValA
public import proofs.«01_k».proof.Proof.KI.ValB
public import proofs.«01_k».proof.Proof.KI.ValC
public import Idealize.ShloMosaic.Lib.Pipeline.DatRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.KernelIdeal.Tile

local notation "𝕄" => MT nD τ sig Unit (Elt Ideal) ℕ (UR sig nD τ) ℕ

variable (m : (ℓ : Loc nD τ sig) → Buf (Elt Ideal) ℓ) (ρ : Dev nD → PrngReg)

/-! ## What the buffers hold -/

/-- The first point. -/
abbrev pt0 : Fin cfg0.N := ⟨0, by rw [show cfg0.N = 10 from N_0]; decide⟩

/-- The order, the gates, the token scales, the gradient rows and the expert scales, as the region finds them. -/
def odA (c : Dev nD) : Vec Ideal S16x128 .i32 := iblk m c 0 pt0
def gtA (c : Dev nD) : FVec Ideal S256x8 .f32 := iblk m c 1 pt0
def scA (c : Dev nD) : FVec Ideal S256x1 .f32 := iblk m c 2 pt0
def dyA (c : Dev nD) : FVec Ideal S256x5120 .fp8e5m2 := iblk m c 3 pt0
def esA (c : Dev nD) : FVec Ideal S2048x40 .f32 := iblk m c 5 pt0

theorem blk0 (c : Dev nD) (t : Fin cfg0.N) : iblk m c 0 t = odA m c := rfl
theorem blk1 (c : Dev nD) (t : Fin cfg0.N) : iblk m c 1 t = gtA m c := rfl
theorem blk2 (c : Dev nD) (t : Fin cfg0.N) : iblk m c 2 t = scA m c := rfl
theorem blk3 (c : Dev nD) (t : Fin cfg0.N) : iblk m c 3 t = dyA m c := rfl
theorem blk5 (c : Dev nD) (t : Fin cfg0.N) : iblk m c 5 t = esA m c := rfl

/-- The slots number the `2048` rows, and each gate times its token's scale is a real number. -/
def Good (c : Dev nD) : Prop :=
  (∀ s, ordN (odA m c) s < 2048) ∧ ∀ (t : Fin 256) (p : Fin 8), ∃ x : ℝ, gtA m c (ix2 t p) * scA m c (ix2 t 0) = (x : EReal)

/-- The accumulator before point `n`. -/
def accA (c : Dev nD) : ℕ → FVec Ideal S2048x128 .f32
  | 0 => fun _ => 0
  | n + 1 => if h : n < 10 then
      accOf n h (esOf (esA m c)) (ohOf (odA m c)) (iblk m c 4 ⟨n, lt_of_lt_of_eq h N_0.symm⟩) (iblk m c 6 ⟨n, lt_of_lt_of_eq h N_0.symm⟩) (accA c n)
    else accA c n

/-- The multipliers the first point stores. -/
def mA (c : Dev nD) : FVec Ideal S2048x128 .f32 := mOf (odA m c) (gtA m c) (scA m c) (dyA m c)
/-- The codes point `t` stores. -/
def codesA (c : Dev nD) (t : Fin cfg0.N) : FVec Ideal S2048x512 .fp8e5m2 := codesOf t.val (ohOf (odA m c)) (mA m c) (iblk m c 4 t)
/-- The block scales. -/
def scaleA (c : Dev nD) : FVec Ideal S2048x40 .f32 := scaleOf (odA m c) (gtA m c) (scA m c) (dyA m c)
/-- The gates' gradients. -/
def dgA (c : Dev nD) : FVec Ideal S256x8 .f32 := dgOf (odA m c) (scA m c) (ohOf (odA m c)) (accA m c 10)

theorem coord0 (t : Fin cfg0.N) : (grid0.coords t 0).val = t.val := by
  have h : t.val < 10 := lt_of_lt_of_eq t.isLt (show cfg0.N = 10 from N_0)
  have e0 : (grid0.coords t 0).val = t.val / 1 % 10 := Pipeline.Grid.coords_val (G := grid0) t 0 (by decide) rfl
  omega

theorem coord0_lt (t : Fin cfg0.N) : (grid0.coords t 0).val < 10 := by
  have h : t.val < 10 := lt_of_lt_of_eq t.isLt (show cfg0.N = 10 from N_0)
  rw [coord0]; exact h

theorem accA_succ (c : Dev nD) (t : Fin cfg0.N) :
    accOf (grid0.coords t 0).val (coord0_lt t) (esOf (esA m c)) (ohOf (odA m c)) (iblk m c 4 t) (iblk m c 6 t) (accA m c t.val) = accA m c (t.val + 1) := by
  have h : t.val < 10 := lt_of_lt_of_eq t.isLt (show cfg0.N = 10 from N_0)
  have e := coord0 t
  rw [accA, dif_pos h]
  have key : ∀ (i j : ℕ) (hi : i < 10) (hj : j < 10) (_ : i = j) (A B C D E), accOf i hi A B C D E = accOf j hj A B C D E := by
    intro i j hi hj e A B C D E; subst e; rfl
  exact key _ _ _ _ e _ _ _ _ _

theorem codesA_eq (c : Dev nD) (t : Fin cfg0.N) :
    codesOf (grid0.coords t 0).val (ohOf (odA m c)) (mA m c) (iblk m c 4 t) = codesA m c t := by
  rw [coord0]; rfl

/-! ## The pipeline's proof data -/

/-- What the scratch buffers hold before point `n`: nothing is said of them before the first. -/
def Inv (c : Dev nD) (n : ℕ) (s0 : Vec Ideal S2048x256 .fp8e5m2) (s1 s2 s3 : Vec Ideal S2048x128 .f32) : Prop :=
  n ≠ 0 → Good m c → s0 = ohOf (odA m c) ∧ s1 = mA m c ∧ s2 = esOf (esA m c) ∧ s3 = accA m c n

/-- The region's invariant before point `n`: the scratch buffers at contents that `Inv` allows, and the generator register. -/
def PhiN (c : Dev nD) (n : ℕ) : sProp 𝕄 :=
  iprop((∃ s0 s1 s2 s3, ⌜Inv m c n s0 s1 s2 s3⌝ ∗ owns (c : Thread nD τ) scM0_0 fullShare s0 ∗ owns (c : Thread nD τ) scM0_1 fullShare s1 ∗ owns (c : Thread nD τ) scM0_2 fullShare s2 ∗ owns (c : Thread nD τ) scM0_3 fullShare s3) ∗ (∃ r, prngReg c r))

/-- The windows held to a relation: the three results. -/
def marked : Fin 10 → Bool := fun w => w.val == 7 || w.val == 8 || w.val == 9

/-- What a point may leave in a result's buffer. -/
def Rl (c : Dev nD) (w : Fin cfg0.W) (t : Fin cfg0.N) (X : (cfg0.win w).block.Idx → Elt Ideal (cfg0.win w).elt) : Prop :=
  match w, X with
  | ⟨7, _⟩, X => Good m c → X = codesA m c t
  | ⟨8, _⟩, X => Good m c → X = scaleA m c
  | ⟨9, _⟩, X => t.val = 9 → Good m c → X = dgA m c
  | _, _ => True

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiN m c t.val
  q w := Pipeline.shareOf spec0 w
  owed _ := 0

/-- The same, relationally: the results held to `Rl`. -/
abbrev rdat (c : Dev nD) : RDat τ (Elt Ideal) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- After the first point the body finds in the scales' buffer what the point before may have left there. -/
theorem finds8 (c : Dev nD) (t : Fin cfg0.N) (ht : t.val ≠ 0) (Y : Vec Ideal S2048x40 .f32) (h : (rdat m c).Finds 8 t Y) (hG : Good m c) : Y = scaleA m c := by
  have hN : t.val < 10 := lt_of_lt_of_eq t.isLt (show cfg0.N = 10 from N_0)
  rw [RDat.finds_of_pos _ rfl ht] at h
  rcases h with h | h
  · exfalso
    have := (flush0_8 _).mp h
    dsimp only at this
    omega
  · exact (dats m 0 c).toRRel_leaves (fgt := marked) (Rl := Rl m c) (w := 8) rfl h hG

/-- A buffer after covering stores is owned at the stores' contents. -/
theorem owns_writes (c : Dev nD) {s : Shape} {e : EltTy} (a : Memref sig .tc .vmem s e) (f : a.view.ty.Contents (Elt Ideal)) (L : List (View.Piece (Elt Ideal) s e))
    (X : Vec Ideal s e) (h : View.canon L = X) (hc : ∀ y, ∃ p ∈ L, y ∈ p.1.set) :
    (a.view.loc (c : Thread nD τ) ↦[a.view.set]{fullShare} a.view.writes (Elt Ideal) f L : sProp 𝕄) ⊢ owns (c : Thread nD τ) a fullShare X := by
  rw [← h, ← View.read_writes_eq_canon a.view f L hc]
  exact owns_intro _ _ _ _

/-! ## The body's triple -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X))

set_option maxHeartbeats 14400000 in
/-- The body at any point: the first, the last or another; each input's buffer holds its block, and what the body stores is what the
    block-level lemmas say. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, after0_0, after0_1, after0_2, after0_3, after0_4, after0_5, after0_6]
  rw [show (dats m 0 c).owesAt () t.succ = (dats m 0 c).owesAt () t.castSucc from rfl,
    show (dats m 0 c).Φ t.succ = PhiN m c (t.val + 1) from rfl, show (dats m 0 c).Φ t.castSucc = PhiN m c t.val from rfl]
  have hN : t.val < 10 := lt_of_lt_of_eq t.isLt (show cfg0.N = 10 from N_0)
  have hi := coord0_lt t
  unfold PhiN
  iintro ⟨⟨⟨%s0, %s1, %s2, %s3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩⟩
  by_cases h0 : t.val % 10 = 0
  · have h1 : ¬t.val % 10 = 9 := by omega
    iapply ((runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.property Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, ⟨%f7, H7⟩, ⟨%f8, H8⟩, ⟨%d9, H9⟩, ⟨%g0, HS0⟩, ⟨%g1, HS1⟩, ⟨%g2, HS2⟩, ⟨%g3, HS3⟩⟩
    have hz : t.val = 0 := by omega
    have e7 : Good m c → View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).1 = codesA m c t := fun hG => (funext fun y => View.canon_apply_of_pieces _ _ (runA_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) hi hG.1 hG.2).mem y (runA_codes_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) y)).trans (codesA_eq m c t)
    have e8 : Good m c → View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.1 = scaleA m c := fun hG => funext fun y => View.canon_apply_of_pieces _ _ (runA_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) hG.1 hG.2).mem y (runA_scale_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) y)
    have eI : Inv m c (t.val + 1) (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.1) (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.1) (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.1) (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.val) := fun _ hG =>
      ⟨runA_oh_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) hG.1, runA_m_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) hG.1 hG.2, runA_es_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), (runA_acc_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) hi hG.1).trans (by rw [← accA_succ, hz]; rfl)⟩
    isplitl [HS0 HS1 HS2 HS3 Hg]
    · isplitl [HS0 HS1 HS2 HS3]
      · iexists (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.1)
        iexists (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.1)
        iexists (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.1)
        iexists (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.val)
        isplitr; · ipureintro; exact eI
        isplitl [HS0]; · iapply (owns_writes c _ _ _ _ rfl (runA_oh_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))); iexact HS0
        isplitl [HS1]; · iapply (owns_writes c _ _ _ _ rfl (runA_m_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))); iexact HS1
        isplitl [HS2]; · iapply (owns_writes c _ _ _ _ rfl (runA_es_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))); iexact HS2
        iapply (owns_writes c _ _ _ _ rfl (runA_accs_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))); iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).1)
      isplitr; · ipureintro; exact e7
      iapply (owns_writes c _ _ _ _ rfl (runA_codes_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))); iexact H7
    isplitl [H8]
    · iexists (View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.1)
      isplitr; · ipureintro; exact e8
      iapply (owns_writes c _ _ _ _ rfl (runA_scale_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))); iexact H8
    iexists d9
    isplitr; · ipureintro; exact fun h9 => absurd h9 (by omega)
    iexact H9
  · have hz : t.val ≠ 0 := by omega
    by_cases h1 : t.val % 10 = 9
    · iapply ((runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8).2.2.property Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, ⟨%f7, H7⟩, H8, ⟨%f9, H9⟩, HS0, HS1, HS2, ⟨%g3, HS3⟩⟩
      have e7 : Good m c → View.canon (runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8).1 = codesA m c t := fun hG => by
        obtain ⟨i0, i1, i2, i3⟩ := hI hz hG
        rw [← codesA_eq m c t, ← i0, ← i1]
        exact funext fun y => View.canon_apply_of_pieces _ _ (runC_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8 hi).mem y (runC_codes_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8 y)
      have eI : Inv m c (t.val + 1) s0 s1 s2 (View.canon (runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8).2.2.val) := fun _ hG => by
        obtain ⟨i0, i1, i2, i3⟩ := hI hz hG
        refine ⟨i0, i1, i2, ?_⟩
        rw [← accA_succ, ← i3, ← i2, ← i0]
        exact funext fun y => View.canon_apply_of_pieces _ _ (runC_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8 hi).mem y (runC_acc_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8 y)
      have e9 : t.val = 9 → Good m c → View.canon (runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8).2.1 = dgA m c := fun h9 hG => by
        obtain ⟨i0, i1, i2, i3⟩ := hI hz hG
        have ea := accA_succ m c t
        rw [← i3, ← i2, ← i0] at ea
        rw [show dgA m c = dgOf (odA m c) (scA m c) (ohOf (odA m c)) (accA m c (t.val + 1)) by unfold dgA; rw [show (10 : ℕ) = t.val + 1 by omega], ← ea, ← i0]
        exact funext fun y => View.canon_apply_of_pieces _ _ (runC_dg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8 hi hG.1).mem y (runC_dg_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8 y)
      isplitl [HS0 HS1 HS2 HS3 Hg]
      · isplitl [HS0 HS1 HS2 HS3]
        · iexists s0
          iexists s1
          iexists s2
          iexists (View.canon (runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8).2.2.val)
          isplitr; · ipureintro; exact eI
          isplitl [HS0]; · iexact HS0
          isplitl [HS1]; · iexact HS1
          isplitl [HS2]; · iexact HS2
          iapply (owns_writes c _ _ _ _ rfl (runC_acc_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8)); iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists (View.canon (runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8).1)
        isplitr; · ipureintro; exact e7
        iapply (owns_writes c _ _ _ _ rfl (runC_codes_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8)); iexact H7
      isplitl [H8]
      · iexists Y8
        isplitr; · ipureintro; exact fun hG => finds8 m c t hz Y8 hY8 hG
        iexact H8
      iexists (View.canon (runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8).2.1)
      isplitr; · ipureintro; exact e9
      iapply (owns_writes c _ _ _ _ rfl (runC_dg_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) s0 s1 s2 s3 Y8)); iexact H9
    · iapply ((runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8).2.property Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, ⟨%f7, H7⟩, H8, ⟨%d9, H9⟩, HS0, HS1, HS2, ⟨%g3, HS3⟩⟩
      have e7 : Good m c → View.canon (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8).1 = codesA m c t := fun hG => by
        obtain ⟨i0, i1, i2, i3⟩ := hI hz hG
        rw [← codesA_eq m c t, ← i0, ← i1]
        exact funext fun y => View.canon_apply_of_pieces _ _ (runB_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8 hi).mem y (runB_codes_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8 y)
      have eI : Inv m c (t.val + 1) s0 s1 s2 (View.canon (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8).2.val) := fun _ hG => by
        obtain ⟨i0, i1, i2, i3⟩ := hI hz hG
        refine ⟨i0, i1, i2, ?_⟩
        rw [← accA_succ, ← i3, ← i2, ← i0]
        exact funext fun y => View.canon_apply_of_pieces _ _ (runB_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8 hi).mem y (runB_acc_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8 y)
      isplitl [HS0 HS1 HS2 HS3 Hg]
      · isplitl [HS0 HS1 HS2 HS3]
        · iexists s0
          iexists s1
          iexists s2
          iexists (View.canon (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8).2.val)
          isplitr; · ipureintro; exact eI
          isplitl [HS0]; · iexact HS0
          isplitl [HS1]; · iexact HS1
          isplitl [HS2]; · iexact HS2
          iapply (owns_writes c _ _ _ _ rfl (runB_acc_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8)); iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists (View.canon (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8).1)
        isplitr; · ipureintro; exact e7
        iapply (owns_writes c _ _ _ _ rfl (runB_codes_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s0 s1 s2 s3 Y8)); iexact H7
      isplitl [H8]
      · iexists Y8
        isplitr; · ipureintro; exact fun hG => finds8 m c t hz Y8 hY8 hG
        iexact H8
      iexists d9
      isplitr; · ipureintro; exact fun h9 => absurd h9 (by omega)
      iexact H9

theorem defs₀_row (t : Fin cfg0.N) :
    defs₀ (F := Ideal) .tc cfg0.body (cfg0.bodyArgs t (cfg0.slots t)) = bodyAt0 t := by
  unfold defs₀; rw [Defs.onTc_tc]

/-- The pipeline's body obligation, at every point. -/
theorem body_obligation (c : Dev nD) : BodyObligationRel (dats m 0 c) (defs₀ (F := Ideal)) Variants.none () Set.univ marked (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (rdat m c).Φ 0 := by
  rw [show (rdat m c).Φ 0 = PhiN m c 0 from rfl, PhiA0_eq]
  unfold PhiN
  iintro ⟨⟨⟨%s0, HS0⟩, ⟨%s1, HS1⟩, ⟨%s2, HS2⟩, ⟨%s3, HS3⟩⟩, Hg⟩
  isplitl [HS0 HS1 HS2 HS3]
  · iexists s0; iexists s1; iexists s2; iexists s3
    isplitr; · ipureintro; exact fun h => absurd rfl h
    isplitl [HS0]; · iexact HS0
    isplitl [HS1]; · iexact HS1
    isplitl [HS2]; · iexact HS2
    iexact HS3
  iexact Hg

/-- The invariant after the last point gives the launch its scratch buffers back. -/
theorem hout (c : Dev nD) : (rdat m c).Φ (Fin.last cfg0.N) ⊢ Pipeline.ΦA spec0 c := by
  rw [show (rdat m c).Φ (Fin.last cfg0.N) = PhiN m c cfg0.N from rfl, PhiA0_eq]
  unfold PhiN
  iintro ⟨⟨%s0, %s1, %s2, %s3, -, HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The launch -/

set_option backward.isDefEq.respectTransparency.types false in
/-- Every fair execution ends, with every array at contents the write-backs may have left, and every counter at zero. -/
theorem run_main_quiescent : θ_run defs (onTc (τ := τ) (main (F := Ideal))) (s₀ m ρ) (fun r => RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

end Cert.KernelIdeal.Gen

end
-- ==== Proof.KI.Final.lean ====
/- What the kernel's run leaves: the arguments unchanged, and the three results as functions of the region's arrays. -/
module

public import proofs.«01_k».proof.Proof.KI.Run
public import Idealize.ShloMosaic.Lib.Pipeline.ArrRel
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat RDat Cfg Window)
open Cert.KernelIdeal.Tile

variable (m : (ℓ : Loc nD τ sig) → Buf (Elt Ideal) ℓ) (ρ : Dev nD → PrngReg)

/-- The codes of the whole array. -/
def codesF (c : Dev nD) : FVec Ideal S2048x5120 .fp8e5m2 := fun y =>
  clip ((∑ k : Fin 256, ohOf (odA m c) (ix2 (y 0) k) * dyA m c (ix2 k (y 1)))
    * mA m c (ix2 (y 0) ⟨((y 1).val / 128) % 128, Nat.mod_lt _ (by decide)⟩))

theorem N10 (t : Fin cfg0.N) : t.val < 10 := lt_of_lt_of_eq t.isLt (show cfg0.N = 10 from N_0)

theorem index4 (t : Fin cfg0.N) : win0_4.index t 0 = 0 ∧ win0_4.index t 1 = t.val := by
  have h := N10 t
  refine ⟨rfl, ?_⟩
  show (BitVec.ofNat 32 (grid0.coords t 0).val).toNat = t.val
  rw [coord0, BitVec.toNat_ofNat, Nat.mod_eq_of_lt (by omega)]

theorem index6 (t : Fin cfg0.N) : win0_6.index t 0 = 0 ∧ win0_6.index t 1 = t.val := index4 t
theorem index7 (t : Fin cfg0.N) : win0_7.index t 0 = 0 ∧ win0_7.index t 1 = t.val := index4 t

theorem index0 (t : Fin cfg0.N) : win0_0.index t 0 = 0 ∧ win0_0.index t 1 = 0 := ⟨rfl, rfl⟩
theorem index1 (t : Fin cfg0.N) : win0_1.index t 0 = 0 ∧ win0_1.index t 1 = 0 := ⟨rfl, rfl⟩
theorem index2 (t : Fin cfg0.N) : win0_2.index t 0 = 0 ∧ win0_2.index t 1 = 0 := ⟨rfl, rfl⟩
theorem index3 (t : Fin cfg0.N) : win0_3.index t 0 = 0 ∧ win0_3.index t 1 = 0 := ⟨rfl, rfl⟩
theorem index5 (t : Fin cfg0.N) : win0_5.index t 0 = 0 ∧ win0_5.index t 1 = 0 := ⟨rfl, rfl⟩

/-- A token's gradient, as launched. -/
theorem dyA_eq (c : Dev nD) (k : Fin 256) (l : Fin 5120) : dyA m c (ix2 k l) = (m ((c : Thread nD τ).loc main_arg0) : S256x5120.Idx → Ideal .fp8e5m2) (ix2 k l) := by
  obtain ⟨e0, e1⟩ := index3 pt0
  rw [← V_main_arg0 m c]
  unfold dyA
  blk_simp [iblk]
  congr 1
  funext a
  match a with
  | ⟨0, _⟩ => ext; blk_simp [e0]
  | ⟨1, _⟩ => ext; blk_simp [e1]

/-- The gates, as launched. -/
theorem gtA_eq (c : Dev nD) (k : Fin 256) (l : Fin 8) : gtA m c (ix2 k l) = (m ((c : Thread nD τ).loc main_arg4) : S256x8.Idx → Ideal .f32) (ix2 k l) := by
  obtain ⟨e0, e1⟩ := index1 pt0
  rw [← V_main_arg4 m c]
  unfold gtA
  blk_simp [iblk]
  congr 1
  funext a
  match a with
  | ⟨0, _⟩ => ext; blk_simp [e0]
  | ⟨1, _⟩ => ext; blk_simp [e1]

/-- The expert scales, as launched. -/
theorem esA_eq (c : Dev nD) (k : Fin 2048) (l : Fin 40) : esA m c (ix2 k l) = (m ((c : Thread nD τ).loc main_arg3) : S2048x40.Idx → Ideal .f32) (ix2 k l) := by
  obtain ⟨e0, e1⟩ := index5 pt0
  rw [← V_main_arg3 m c]
  unfold esA
  blk_simp [iblk]
  congr 1
  funext a
  match a with
  | ⟨0, _⟩ => ext; blk_simp [e0]
  | ⟨1, _⟩ => ext; blk_simp [e1]

/-- The order, laid out in rows of 128. -/
theorem odA_eq (c : Dev nD) (k : Fin 16) (l : Fin 128) : odA m c (ix2 k l) = (m ((c : Thread nD τ).loc main_arg5) : S2048.Idx → BitVec 32) (ix1 ⟨128 * k.val + l.val, by omega⟩) := by
  obtain ⟨e0, e1⟩ := index0 pt0
  have hV : V m c main_v0 = shapeCast S16x128 (m ((c : Thread nD τ).loc main_arg5) : S2048.Idx → BitVec 32) shapeCasts_S2048_S16x128 := by
    show StableHlo.after hostOps0 (fun b => m (c, b)) _ = _
    unfold hostOps0
    after_results; try rfl
  have h : odA m c (ix2 k l) = (V m c main_v0 : S16x128.Idx → BitVec 32) (ix2 k l) := by
    unfold odA
    blk_simp [iblk]
    congr 1
    funext a
    match a with
    | ⟨0, _⟩ => ext; blk_simp [e0]
    | ⟨1, _⟩ => ext; blk_simp [e1]
  rw [h, hV]
  pointwise
  congr 2; ext; simp only []; omega

/-- The token scales, laid out in a column. -/
theorem scA_eq (c : Dev nD) (k : Fin 256) (l : Fin 1) : scA m c (ix2 k l) = (m ((c : Thread nD τ).loc main_arg1) : S256.Idx → Ideal .f32) (ix1 k) := by
  obtain ⟨e0, e1⟩ := index2 pt0
  have hV : V m c main_v1 = shapeCast S256x1 (m ((c : Thread nD τ).loc main_arg1) : S256.Idx → Ideal .f32) shapeCasts_S256_S256x1 := by
    show StableHlo.after hostOps0 (fun b => m (c, b)) _ = _
    unfold hostOps0
    after_results; try rfl
  have h : scA m c (ix2 k l) = (V m c main_v1 : S256x1.Idx → Ideal .f32) (ix2 k l) := by
    unfold scA
    blk_simp [iblk]
    congr 1
    funext a
    match a with
    | ⟨0, _⟩ => ext; blk_simp [e0]
    | ⟨1, _⟩ => ext; blk_simp [e1]
  rw [h, hV]
  pointwise

/-- A point's block of gradient columns. -/
theorem blk4 (c : Dev nD) (t : Fin cfg0.N) (k : Fin 256) (l : Fin 512) :
    (iblk m c 4 t : S256x512.Idx → Ideal .fp8e5m2) (ix2 k l) = (m ((c : Thread nD τ).loc main_arg0) : S256x5120.Idx → Ideal .fp8e5m2) (ix2 k ⟨512 * t.val + l.val, by have := N10 t; omega⟩) := by
  have h := N10 t
  obtain ⟨e0, e1⟩ := index4 t
  rw [← V_main_arg0 m c]
  blk_simp [iblk]
  congr 1
  funext a
  match a with
  | ⟨0, _⟩ => ext; blk_simp [e0]
  | ⟨1, _⟩ => ext; blk_simp [e1]; show _ = 512 * t.val + l.val; omega

/-- A point's block of expert columns. -/
theorem blk6 (c : Dev nD) (t : Fin cfg0.N) (k : Fin 2048) (l : Fin 512) :
    (iblk m c 6 t : S2048x512.Idx → Ideal .fp8e4m3) (ix2 k l) = (m ((c : Thread nD τ).loc main_arg2) : S2048x5120.Idx → Ideal .fp8e4m3) (ix2 k ⟨512 * t.val + l.val, by have := N10 t; omega⟩) := by
  have h := N10 t
  obtain ⟨e0, e1⟩ := index6 t
  rw [← V_main_arg2 m c]
  blk_simp [iblk]
  congr 1
  funext a
  match a with
  | ⟨0, _⟩ => ext; blk_simp [e0]
  | ⟨1, _⟩ => ext; blk_simp [e1]; show _ = 512 * t.val + l.val; omega

/-- The arrays the run leaves: the arguments as launched, and the results where the arguments are well posed. -/
theorem run_value : θ_run defs (onTc (τ := τ) (main (F := Ideal))) ⟨m, fun _ => 0, ρ⟩ (fun r => ∀ c : Dev nD,
      (Good m c → r.2.mem ((c.tc : Thread nD τ).loc main_v2_0) = codesF m c ∧ r.2.mem ((c.tc : Thread nD τ).loc main_v2_1) = scaleA m c
        ∧ r.2.mem ((c.tc : Thread nD τ).loc main_v2_2) = dgA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main_quiescent m ρ)
  have hF := h.1
  obtain ⟨after, hL, hA⟩ := RDat.FramePost.exists_exact hF c
  have hin : ∀ w : Fin cfg0.W, (cfg0.win w).isOut = false → r.2.mem ((cfg0.spec w).arr.view.loc (c.tc : Thread nD τ)) = V m c (Pipeline.arrRef spec0 w) :=
    fun w hw => (hA w).trans ((((rdat m c).withAfter after).arrAt_in w hw _).trans (A_eq m c w))
  refine ⟨fun hG => ⟨?_, ?_, ?_⟩, (hin 4 rfl).trans (V_main_arg0 m c),
    ((hF c).2 main_arg1 (Pipeline.mem_restRefs_of main_arg1 (by decide) (by decide))).trans (V_main_arg1 m c),
    (hin 6 rfl).trans (V_main_arg2 m c), (hin 5 rfl).trans (V_main_arg3 m c), (hin 1 rfl).trans (V_main_arg4 m c),
    ((hF c).2 main_arg5 (Pipeline.mem_restRefs_of main_arg5 (by decide) (by decide))).trans (V_main_arg5 m c)⟩
  · refine (hA 7).trans (Dat.arrAt_eq_of_covers ((rdat m c).withAfter after) 7 (codesF m c) (by decide +kernel) fun t hf y => ?_)
    have e := Dat.toRRel_leaves (dats m 0 c) (Rl := Rl m c) (fgt := marked) (w := 7) rfl (hL 7 t hf) hG
    obtain ⟨e0, e1⟩ := index7 t
    have hN := N10 t
    have e' : after 7 t = codesA m c t := e
    blk_simp
    refine (congrFun e' y).trans ?_
    idx_vars y
    have ey : ((cfg0.win 7).blk t).view.emb (ix2 y0 y1) = (ix2 y0 ⟨512 * t.val + y1.val, by have : y1.val < 512 := y1.isLt; omega⟩ : S2048x5120.Idx) := by
      funext a
      match a with
      | ⟨0, _⟩ => ext; blk_simp [e0]
      | ⟨1, _⟩ => ext; blk_simp [e1]; show _ = 512 * t.val + y1.val; omega
    refine Eq.trans ?_ (congrArg (codesF m c) ey.symm)
    unfold codesA codesOf codesF
    have e2 : (4 * t.val + y1.val / 128) % 128 = (512 * t.val + y1.val) / 128 % 128 := by omega
    simp only [ix2_0, ix2_1, blk4, dyA_eq, e2]
  · refine (hA 8).trans (Dat.arrAt_eq_of_after_last ((rdat m c).withAfter after) 8 ⟨9, by rw [show cfg0.N = 10 from N_0]; decide⟩ (by decide +kernel) (scaleA m c) fun j => ?_)
    have e := Dat.toRRel_leaves (dats m 0 c) (Rl := Rl m c) (fgt := marked) (w := 8) rfl (hL 8 ⟨9, by rw [show cfg0.N = 10 from N_0]; decide⟩ ((flush0_8 _).2 rfl)) hG
    have e' : after 8 ⟨9, by rw [show cfg0.N = 10 from N_0]; decide⟩ = scaleA m c := e
    blk_simp
    exact congrFun e' j
  · refine (hA 9).trans (Dat.arrAt_eq_of_after_last ((rdat m c).withAfter after) 9 ⟨9, by rw [show cfg0.N = 10 from N_0]; decide⟩ (by decide +kernel) (dgA m c) fun j => ?_)
    have e := Dat.toRRel_leaves (dats m 0 c) (Rl := Rl m c) (fgt := marked) (w := 9) rfl (hL 9 ⟨9, by rw [show cfg0.N = 10 from N_0]; decide⟩ ((flush0_9 _).2 rfl)) rfl hG
    have e' : after 9 ⟨9, by rw [show cfg0.N = 10 from N_0]; decide⟩ = dgA m c := e
    blk_simp
    exact congrFun e' j

/-- The frame: the arguments as launched, and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).2) (run_value m ρ)) ((θ_run defs _ _).mono (fun _ h => h.2) (run_main_quiescent m ρ))

end Cert.KernelIdeal.Gen

end
-- ==== Proof.Eq.Exponent.lean ====
/- The quantiser's exponent: the kernel's search over bit patterns finds the exponent the reference computes by a logarithm. -/
module

public import proofs.«01_k».proof.Proof.KI.Pt

@[expose] public section

set_option maxRecDepth 16384

noncomputable section

namespace Cert.KernelIdeal.Tile

open Idealize.ShloMosaic Idealize.SL.Sem

/-! ## Powers of two -/

/-- The float32 value whose bits are the biased exponent `n` alone. -/
def T (n : ℕ) : EReal := Tw (BitVec.ofNat 32 n)

theorem shl_bits : ∀ n : Fin 256, ((IntOp.shli ArithUnit.vector (BitVec.ofNat 32 n.val) 23#32).extractLsb' 23 8).toNat = n.val
    ∧ ((IntOp.shli ArithUnit.vector (BitVec.ofNat 32 n.val) 23#32).extractLsb' 0 23).toNat = 0
    ∧ ((IntOp.shli ArithUnit.vector (BitVec.ofNat 32 n.val) 23#32).extractLsb' 31 1 == 1#1) = false := by decide +kernel

/-- A float32 word's value, from its three fields. -/
theorem ieee_f32 (w : BitVec 32) (s : Bool) (E f : ℕ) (h1 : (w.extractLsb' 23 8).toNat = E) (h2 : (w.extractLsb' 0 23).toNat = f) (h3 : (w.extractLsb' 31 1 == 1#1) = s) :
    Ideal.ofBits .f32 w = if E = 2 ^ 8 - 1 then (if f = 0 then (if s then ⊥ else ⊤) else ⊥)
      else if E = 0 then (((if s then (-1 : ℝ) else 1) * f * (2 : ℝ) ^ (1 - (2 ^ (8 - 1) - 1) - (23 : ℕ) : ℤ) : ℝ) : EReal)
      else (((if s then (-1 : ℝ) else 1) * (2 ^ 23 + f : ℕ) * (2 : ℝ) ^ ((E : ℤ) - (2 ^ (8 - 1) - 1) - (23 : ℕ)) : ℝ) : EReal) := by
  subst h1 h2 h3
  rfl

theorem T_ieee (n : ℕ) (h : n < 256) : T n = if n = 255 then ⊤ else if n = 0 then 0 else (((2 : ℝ) ^ ((n : ℤ) - 127) : ℝ) : EReal) := by
  obtain ⟨h1, h2, h3⟩ := shl_bits ⟨n, h⟩
  unfold T Tw
  rw [ieee_f32 _ _ _ _ h1 h2 h3]
  by_cases e : n = 255
  · subst e; norm_num
  by_cases e0 : n = 0
  · subst e0; norm_num
  rw [if_neg (by norm_num; exact e), if_neg e0, if_neg e, if_neg e0]
  refine congrArg _ ?_
  have : ((n : ℤ) - 127) = 23 + ((n : ℤ) - (2 ^ (8 - 1) - 1) - (23 : ℕ)) := by push_cast; ring
  rw [this, zpow_add₀ (by norm_num : (2 : ℝ) ≠ 0)]
  norm_num

theorem T_zero : T 0 = 0 := by rw [T_ieee 0 (by decide)]; simp
theorem T_top : T 255 = ⊤ := by rw [T_ieee 255 (by decide)]; simp
theorem T_mid (n : ℕ) (h1 : 1 ≤ n) (h2 : n ≤ 254) : T n = (((2 : ℝ) ^ ((n : ℤ) - 127) : ℝ) : EReal) := by
  rw [T_ieee n (by omega), if_neg (by omega), if_neg (by omega)]

theorem T_least : Ideal.ofBits .f32 0x00800000#32 = T 1 := rfl
theorem T_inf : Ideal.ofBits .f32 0x7F800000#32 = ⊤ := T_top
theorem T_two : Ideal.ofBits .f32 0x40000000#32 = ((2 : ℝ) : EReal) := (T_mid 128 (by decide) (by decide)).trans (by norm_num)
theorem f32_127 : Ideal.ofBits .f32 0x42FE0000#32 = ((127 : ℝ) : EReal) := by
  rw [ieee_f32 0x42FE0000#32 false 133 0x7E0000 (by decide) (by decide) (by decide), if_neg (by decide), if_neg (by decide)]
  refine congrArg _ ?_
  norm_num [zpow_neg]
theorem f32_m126 : Ideal.ofBits .f32 0xC2FC0000#32 = ((-126 : ℝ) : EReal) := by
  rw [ieee_f32 0xC2FC0000#32 true 133 0x7C0000 (by decide) (by decide) (by decide), if_neg (by decide), if_neg (by decide)]
  refine congrArg _ ?_
  norm_num [zpow_neg]

/-! ## The search -/

theorem ebW1_nat (u : EReal) (s n : ℕ) (h : n + s < 256) :
    ebW1 u (BitVec.ofNat 32 s) (BitVec.ofNat 32 n) = BitVec.ofNat 32 (if T (n + s) ≤ u then n + s else n) := by
  have e : IntOp.addi (BitVec.ofNat 32 n) (BitVec.ofNat 32 s) = BitVec.ofNat 32 (n + s) := by
    unfold IntOp.addi; exact (BitVec.ofNat_add n s).symm
  unfold ebW1
  rw [e]
  by_cases hT : T (n + s) ≤ u
  · rw [if_pos hT]; exact if_pos hT
  · rw [if_neg hT]; exact if_neg hT

/-- `n` is at most the biased exponent of `u`, which is below `n + s`. -/
def Brk (u : EReal) (n s : ℕ) : Prop := n + s ≤ 256 ∧ (n = 0 ∨ T n ≤ u) ∧ (n + s = 256 ∨ u < T (n + s))

theorem Brk.step {u : EReal} {n s : ℕ} (h : Brk u n (s + s)) (hs : 0 < s) : ∃ n', ebW1 u (BitVec.ofNat 32 s) (BitVec.ofNat 32 n) = BitVec.ofNat 32 n' ∧ Brk u n' s := by
  obtain ⟨h1, h2, h3⟩ := h
  refine ⟨_, ebW1_nat u s n (by omega), ?_⟩
  by_cases hT : T (n + s) ≤ u
  · rw [if_pos hT]
    exact ⟨by omega, .inr hT, by rw [Nat.add_assoc]; exact h3⟩
  · rw [if_neg hT]
    exact ⟨by omega, h2, .inr (not_le.mp hT)⟩

/-- The search ends at the biased exponent. -/
theorem ebW_brk (u : EReal) : ∃ n, ebW u = BitVec.ofNat 32 n ∧ Brk u n 1 := by
  have h0 : Brk u 0 (128 + 128) := ⟨by decide, .inl rfl, .inl rfl⟩
  obtain ⟨n1, e1, h1⟩ := h0.step (by decide)
  obtain ⟨n2, e2, h2⟩ := Brk.step (s := 64) h1 (by decide)
  obtain ⟨n3, e3, h3⟩ := Brk.step (s := 32) h2 (by decide)
  obtain ⟨n4, e4, h4⟩ := Brk.step (s := 16) h3 (by decide)
  obtain ⟨n5, e5, h5⟩ := Brk.step (s := 8) h4 (by decide)
  obtain ⟨n6, e6, h6⟩ := Brk.step (s := 4) h5 (by decide)
  obtain ⟨n7, e7, h7⟩ := Brk.step (s := 2) h6 (by decide)
  obtain ⟨n8, e8, h8⟩ := Brk.step (s := 1) h7 (by decide)
  refine ⟨n8, ?_, h8⟩
  unfold ebW
  rw [e1, e2, e3, e4, e5, e6, e7, e8]

/-! ## The kernel's powers of two, from the biased exponent -/

/-- The exponent from the biased exponent, as a word. -/
def exE (w : BitVec 32) : BitVec 32 :=
  Scalar.select (IntOp.ori (IntOp.cmpi .eq w 0#32) (IntOp.cmpi .eq w 255#32)) 0#32 (IntOp.subi w 126#32)

theorem pow_words : ∀ n : Fin 256,
    IntOp.minsi 255#32 (IntOp.maxsi 0#32 (IntOp.addi (exE (BitVec.ofNat 32 n.val)) 127#32))
        = BitVec.ofNat 32 (if n.val = 0 ∨ n.val = 255 then 127 else n.val + 1)
    ∧ IntOp.minsi 255#32 (IntOp.maxsi 0#32 (IntOp.addi (IntOp.subi 0#32 (exE (BitVec.ofNat 32 n.val))) 127#32))
        = BitVec.ofNat 32 (if n.val = 0 ∨ n.val = 255 then 127 else 253 - n.val) := by decide +kernel

theorem scale_T (u : EReal) (n : ℕ) (hn : n < 256) (h : ebW u = BitVec.ofNat 32 n) : pow2W (exW u) = T (if n = 0 ∨ n = 255 then 127 else n + 1) := by
  unfold pow2W T
  rw [show exW u = exE (BitVec.ofNat 32 n) by unfold exW exE; rw [h], (pow_words ⟨n, hn⟩).1]

theorem mult_T (u : EReal) (n : ℕ) (hn : n < 256) (h : ebW u = BitVec.ofNat 32 n) :
    pow2W (IntOp.subi 0#32 (exW u)) = T (if n = 0 ∨ n = 255 then 127 else 253 - n) := by
  unfold pow2W T
  rw [show exW u = exE (BitVec.ofNat 32 n) by unfold exW exE; rw [h], (pow_words ⟨n, hn⟩).2]

/-! ## The reference's exponent -/

/-- The exponent of `u` by a logarithm, zero outside the normal range. -/
def refEx (u : EReal) : EReal :=
  if Ideal.ofBits .f32 0x00800000#32 ≤ u ∧ u < Ideal.ofBits .f32 0x7F800000#32 then
    Ideal.liftRound Int.floor (Ideal.div (Ideal.log u) (Ideal.log (Ideal.ofBits .f32 0x40000000#32))) + Ideal.ofBits .f32 0x3F800000#32
  else 0

/-- A power of two with float32's range. -/
def ldexp1 (x : EReal) : EReal :=
  if Ideal.ofBits .f32 0x42FE0000#32 < x then Ideal.ofBits .f32 0x7F800000#32
  else if x < Ideal.ofBits .f32 0xC2FC0000#32 then 0 else Ideal.exp2 x

theorem ldexp1_int (k : ℤ) : ldexp1 ((k : ℝ) : EReal) = if 127 < k then ⊤ else if k < -126 then 0 else (((2 : ℝ) ^ k : ℝ) : EReal) := by
  unfold ldexp1
  rw [f32_127, f32_m126, T_inf]
  simp only [EReal.coe_lt_coe_iff]
  refine if_congr (by exact_mod_cast Iff.rfl) rfl (if_congr (by exact_mod_cast Iff.rfl) rfl ?_)
  show ((Real.rpow 2 (k : ℝ) : ℝ) : EReal) = _
  congr 1
  exact Real.rpow_intCast 2 k

theorem refEx_floor (r : ℝ) (hr : 0 < r) (hl : T 1 ≤ (r : EReal)) :
    refEx (r : EReal) = ((⌊Real.log r / Real.log 2⌋ + 1 : ℤ) : ℝ) := by
  have hlog2 : (0 : ℝ) < Real.log 2 := Real.log_pos (by norm_num)
  unfold refEx
  rw [T_least, T_inf, if_pos ⟨hl, EReal.coe_lt_top r⟩, T_two, Ideal.ofBits_one_f32]
  have e1 : Ideal.log (r : EReal) = ((Real.log r : ℝ) : EReal) := if_neg (not_le.mpr hr)
  have e2 : Ideal.log ((2 : ℝ) : EReal) = ((Real.log 2 : ℝ) : EReal) := if_neg (by norm_num)
  rw [e1, e2]
  unfold Ideal.div
  rw [if_neg (by exact_mod_cast hlog2.ne'), ← EReal.coe_inv, ← EReal.coe_mul, ← div_eq_mul_inv]
  show ((⌊Real.log r / Real.log 2⌋ : ℝ) : EReal) + 1 = _
  push_cast
  rfl

/-- In a binade the logarithm's floor is the exponent. -/
theorem refEx_binade (n : ℕ) (h1 : 1 ≤ n) (h2 : n ≤ 254) (u : EReal) (hl : T n ≤ u) (hu : u < T (n + 1)) :
    ∃ k : ℤ, refEx u = ((k : ℝ) : EReal) ∧ (n < 254 → k = (n : ℤ) - 126) ∧ (n = 254 → 128 ≤ k) := by
  have hlt : u < ⊤ := lt_of_lt_of_le hu le_top
  have hT := T_mid n h1 h2
  have hp : (0 : ℝ) < (2 : ℝ) ^ ((n : ℤ) - 127) := by positivity
  have hbot : u ≠ ⊥ := by
    rintro rfl
    rw [hT] at hl
    exact absurd hl (by simp)
  lift u to ℝ using ⟨hlt.ne, hbot⟩ with r
  have hl1 : T 1 ≤ (r : EReal) := by
    refine le_trans ?_ hl
    rw [hT, T_mid 1 (by decide) (by decide), EReal.coe_le_coe_iff]
    exact zpow_le_zpow_right₀ (by norm_num) (by omega)
  rw [hT, EReal.coe_le_coe_iff] at hl
  have hr : 0 < r := lt_of_lt_of_le hp hl
  have hlog2 : (0 : ℝ) < Real.log 2 := Real.log_pos (by norm_num)
  have hlo : (n : ℤ) - 127 ≤ ⌊Real.log r / Real.log 2⌋ := by
    rw [Int.le_floor, le_div_iff₀ hlog2, ← Real.log_zpow]
    exact Real.log_le_log hp hl
  refine ⟨_, refEx_floor r hr hl1, fun hn => ?_, fun hn => by omega⟩
  have hhi : ⌊Real.log r / Real.log 2⌋ < (n : ℤ) - 126 := by
    rw [T_mid (n + 1) (by omega) (by omega), EReal.coe_lt_coe_iff] at hu
    rw [Int.floor_lt, div_lt_iff₀ hlog2]
    have := Real.log_lt_log hr hu
    rw [Real.log_zpow] at this
    push_cast at this ⊢
    linarith
  omega

/-! ## The two agree -/

theorem ldexp1_zero : ldexp1 0 = T 127 := by
  have := ldexp1_int 0
  rw [if_neg (by decide), if_neg (by decide)] at this
  rw [T_mid 127 (by decide) (by decide)]
  simpa using this

/-- The kernel's block scale and multiplier powers are the reference's. -/
theorem pow_eq (u : EReal) : pow2W (exW u) = ldexp1 (refEx u) ∧ pow2W (IntOp.subi 0#32 (exW u)) = ldexp1 (0 - refEx u) := by
  obtain ⟨n, he, hn, hl, hu⟩ := ebW_brk u
  rw [scale_T u n (by omega) he, mult_T u n (by omega) he]
  by_cases hc : n = 0 ∨ n = 255
  · have h0 : refEx u = 0 := by
      unfold refEx
      rw [T_least, T_inf]
      rcases hc with rfl | rfl
      · rcases hu with hu | hu
        · exact absurd hu (by decide)
        · exact if_neg fun h => absurd h.1 (not_le.mpr hu)
      · rcases hl with hl | hl
        · exact absurd hl (by decide)
        · rw [T_top] at hl
          exact if_neg fun h => absurd h.2 (not_lt.mpr hl)
    rw [if_pos hc, if_pos hc, h0, sub_zero, ldexp1_zero]
    exact ⟨rfl, rfl⟩
  · rw [if_neg hc, if_neg hc]
    obtain ⟨k, hk, h1, h2⟩ := refEx_binade n (by omega) (by omega) u (hl.resolve_left (by omega)) (hu.resolve_left (by omega))
    have hneg : (0 : EReal) - ((k : ℝ) : EReal) = (((-k : ℤ) : ℝ) : EReal) := by
      rw [zero_sub, ← EReal.coe_neg]; push_cast; rfl
    rw [hk, hneg, ldexp1_int, ldexp1_int]
    by_cases hn : n = 254
    · have := h2 hn
      subst hn
      rw [if_pos (by omega), if_neg (by omega), if_pos (by omega)]
      exact ⟨T_top, T_zero⟩
    · have := h1 (by omega)
      subst this
      constructor
      · rw [if_neg (by omega), if_neg (by omega), T_mid (n + 1) (by omega) (by omega)]
        congr 2; push_cast; ring
      · rw [if_neg (by omega)]
        by_cases h3 : n = 253
        · subst h3
          rw [if_pos (by decide)]; exact T_zero
        · rw [if_neg (by omega), T_mid (253 - n) (by omega) (by omega)]
          congr 2; rw [Nat.cast_sub (by omega)]; push_cast; ring

end Cert.KernelIdeal.Tile

end
-- ==== Proof.Ref.Host.lean ====
/- The arrays the reference's host operations prepare: every slot's token row, token scale and gate, gathered by the order. -/
module

public import proofs.«01_k».proof.Proof.Gen.ReferenceIdeal.Frame
public import Idealize.ShloMosaic.Lib.Routing.Ops
public import Idealize.ShloMosaic.Lib.Routing.OpsSet
public import Idealize.ShloMosaic.Lib.Routing.OpsPair
public import Idealize.ShloMosaic.Lib.Routing.WordFacts
public import Idealize.ShloMosaic.Lib.Routing.Words
public import Idealize.ShloMosaic.Lib.Routing.Model
public import Idealize.ShloMosaic.Lib.WordCmp
public import Idealize.ShloMosaic.Lib.Pipeline.ValueKit
public import proofs.«01_k».proof.Proof.Eq.Exponent

@[expose] public section

set_option maxRecDepth 16384

noncomputable section

namespace Cert.ReferenceIdeal.Gen

open Idealize.ShloMosaic Idealize.ShloMosaic.TcCoe Idealize.ShloMosaic.Tactic Idealize.SL.Sem
open Idealize.ShloMosaic.Routing

variable (m : (ℓ : Loc nD τ sig) → Buf (Elt Ideal) ℓ) (ρ : Dev nD → PrngReg)

/-- An index that may count from the end, brought to count from the start. -/
def wrapOf (x : IVec S2048 32) (n : BitVec 32) : IVec S2048 32 :=
  select (cmpi .slt x (broadcastInDim S2048 ![] bcast_S_S2048 (constantI S_ 32 0#32))) (addi x (broadcastInDim S2048 ![] bcast_S_S2048 (constantI S_ 32 n))) x

/-- The order as launched. -/
def ordM (c : Dev nD) : IVec S2048 32 := (m ((c : Thread nD τ).loc main_arg5) : S2048.Idx → BitVec 32)

/-- The token of every slot. -/
def tokM (c : Dev nD) : IVec S2048 32 := pyDiv bcast_S_S2048 (ordM m c) (constantI S_ 32 8#32)

/-- The buffers once the tokens are computed. -/
def midM (c : Dev nD) : Valuation τ sig (Elt Ideal) := StableHlo.after (hostOps0 ++ hostOps0_1) (fun b => m (c, b))

theorem V_mid (c : Dev nD) : V0 m c = StableHlo.after hostOps0_2 (midM m c) := by
  unfold midM
  rw [← StableHlo.after_append]
  rfl

theorem mid_v0 (c : Dev nD) : (midM m c (Proc.devRef .tc main_v0) : S2048.Idx → BitVec 32) = tokM m c := by
  unfold midM
  simp only [hostOps0, hostOps0_1, List.cons_append, List.nil_append]
  after_results
  try rfl

theorem mid_arg5 (c : Dev nD) : (midM m c (Proc.devRef .tc main_arg5) : S2048.Idx → BitVec 32) = ordM m c := by
  unfold midM
  simp only [hostOps0, hostOps0_1, List.cons_append, List.nil_append]
  after_results
  try rfl

theorem mid_arg0 (c : Dev nD) : (midM m c (Proc.devRef .tc main_arg0) : S256x5120.Idx → Ideal .fp8e5m2) = m ((c : Thread nD τ).loc main_arg0) := by
  unfold midM
  simp only [hostOps0, hostOps0_1, List.cons_append, List.nil_append]
  after_results
  try rfl

theorem mid_arg1 (c : Dev nD) : (midM m c (Proc.devRef .tc main_arg1) : S256.Idx → Ideal .f32) = m ((c : Thread nD τ).loc main_arg1) := by
  unfold midM
  simp only [hostOps0, hostOps0_1, List.cons_append, List.nil_append]
  after_results
  try rfl

theorem mid_arg4 (c : Dev nD) : (midM m c (Proc.devRef .tc main_arg4) : S256x8.Idx → Ideal .f32) = m ((c : Thread nD τ).loc main_arg4) := by
  unfold midM
  simp only [hostOps0, hostOps0_1, List.cons_append, List.nil_append]
  after_results
  try rfl

theorem V_v15 (c : Dev nD) : (V m c main_v15 : S2048x5120.Idx → Ideal .fp8e5m2)
    = Host.gather gather_S256x5120_S2048x1_S2048x5120_1_0_n_n_0_1_15120 (m ((c : Thread nD τ).loc main_arg0) : S256x5120.Idx → Ideal .fp8e5m2)
        (broadcastInDim S2048x1 ![0] bcast_S2048_S2048x1_0 (wrapOf (tokM m c) 256#32)) := by
  rw [← mid_v0 m c, ← mid_arg0 m c]
  show V0 m c _ = _
  rw [V_mid]
  generalize midM m c = U
  unfold hostOps0_2
  after_results
  try rfl

theorem V_v23 (c : Dev nD) : (V m c main_v23 : S2048x1.Idx → Ideal .f32)
    = broadcastInDim S2048x1 ![0] bcast_S2048_S2048x1_0 (Host.gather gather_S256_S2048x1_S2048_n_0_n_n_0_1_1 (m ((c : Thread nD τ).loc main_arg1) : S256.Idx → Ideal .f32)
        (broadcastInDim S2048x1 ![0] bcast_S2048_S2048x1_0 (wrapOf (tokM m c) 256#32))) := by
  rw [← mid_v0 m c, ← mid_arg1 m c]
  show V0 m c _ = _
  rw [V_mid]
  generalize midM m c = U
  unfold hostOps0_2
  after_results
  try rfl

theorem V_v24 (c : Dev nD) : (V m c main_v24 : S2048x1.Idx → Ideal .f32)
    = broadcastInDim S2048x1 ![0] bcast_S2048_S2048x1_0 (Host.gather gather_S2048_S2048x1_S2048_n_0_n_n_0_1_1
        (shapeCast S2048 (m ((c : Thread nD τ).loc main_arg4) : S256x8.Idx → Ideal .f32) shapeCasts_S256x8_S2048)
        (broadcastInDim S2048x1 ![0] bcast_S2048_S2048x1_0 (wrapOf (ordM m c) 2048#32))) := by
  rw [← mid_arg5 m c, ← mid_arg4 m c]
  show V0 m c _ = _
  rw [V_mid]
  generalize midM m c = U
  unfold hostOps0_2
  after_results
  try rfl

/-! ## Read at an index -/

variable {m} {c : Dev nD} {n : Fin 2048 → Fin 2048}

/-- A number of a 32-bit word below its sign is left as it is. -/
theorem wrapOf_ap (x : IVec S2048 32) (w : BitVec 32) (s : Fin 2048) (a : ℕ) (ha : a < 2 ^ 31) (hx : x (ix1 s) = BitVec.ofNat 32 a) :
    wrapOf x w (ix1 s) = BitVec.ofNat 32 a := by
  unfold wrapOf
  rw [WordCmp.select_at, WordCmp.cmpi_at, bc0 bcast_S_S2048, WordCmp.constantI_at, hx]
  exact wrap_of_lt _ _ (by rw [BitVec.toNat_ofNat, Nat.mod_eq_of_lt (by omega)]; exact ha)

theorem tok_ap' (hn : ∀ s, ordM m c (ix1 s) = BitVec.ofNat 32 (n s).val) (s : Fin 2048) : tokM m c (ix1 s) = BitVec.ofNat 32 ((n s).val / 8) :=
  pyDiv_ap bcast_S_S2048 _ _ _ (hn s) rfl (by omega) (by decide) (by decide)

theorem col_ap {α : Type} (x : S2048.Idx → α) (s : Fin 2048) (z : Fin 1) : broadcastInDim S2048x1 ![0] bcast_S2048_S2048x1_0 x (ix2 s z) = x (ix1 s) := by
  pointwise

/-- A slot's gradient row is its token's. -/
theorem v15_ap (hn : ∀ s, ordM m c (ix1 s) = BitVec.ofNat 32 (n s).val) (s : Fin 2048) (j : Fin 5120) :
    (V m c main_v15 : S2048x5120.Idx → Ideal .fp8e5m2) (ix2 s j) = (m ((c : Thread nD τ).loc main_arg0) : S256x5120.Idx → Ideal .fp8e5m2) (ix2 ⟨(n s).val / 8, by omega⟩ j) := by
  rw [V_v15]
  exact gather_row _ rfl rfl rfl rfl rfl _ _ s j ⟨(n s).val / 8, by omega⟩ ((col_ap _ s 0).trans (wrapOf_ap _ _ s _ (by omega) (tok_ap' hn s))) (by decide)

/-- A slot's scale is its token's. -/
theorem v23_ap (hn : ∀ s, ordM m c (ix1 s) = BitVec.ofNat 32 (n s).val) (s : Fin 2048) (z : Fin 1) :
    (V m c main_v23 : S2048x1.Idx → Ideal .f32) (ix2 s z) = (m ((c : Thread nD τ).loc main_arg1) : S256.Idx → Ideal .f32) (ix1 ⟨(n s).val / 8, by omega⟩) := by
  rw [V_v23, col_ap]
  exact gather_take1 _ rfl rfl rfl rfl _ _ s ⟨(n s).val / 8, by omega⟩ ((col_ap _ s 0).trans (wrapOf_ap _ _ s _ (by omega) (tok_ap' hn s))) (by decide)

/-- A slot's gate is the one the order names. -/
theorem v24_ap (hn : ∀ s, ordM m c (ix1 s) = BitVec.ofNat 32 (n s).val) (s : Fin 2048) (z : Fin 1) :
    (V m c main_v24 : S2048x1.Idx → Ideal .f32) (ix2 s z) = (m ((c : Thread nD τ).loc main_arg4) : S256x8.Idx → Ideal .f32) (ix2 ⟨(n s).val / 8, by omega⟩ ⟨(n s).val % 8, by omega⟩) := by
  rw [V_v24, col_ap]
  refine (gather_take1 _ rfl rfl rfl rfl _ _ s (n s) ((col_ap _ s 0).trans (wrapOf_ap _ _ s _ (by omega) (hn s))) (by decide)).trans ?_
  exact cast21 _ _ _ _ _ (by show (n s).val = (n s).val / 8 * 8 + (n s).val % 8; omega)

end Cert.ReferenceIdeal.Gen

end
-- ==== Proof.Ref.Block.lean ====
/- What the reference's region computes, entry by entry, from a slot's gradient row, scale, gate and expert row. -/
module

public import proofs.«01_k».proof.Proof.Gen.ReferenceIdeal.Frame
public import proofs.«01_k».proof.Proof.Eq.Exponent

@[expose] public section

set_option maxRecDepth 16384

noncomputable section

namespace Cert.ReferenceIdeal.Gen

open Idealize.ShloMosaic Idealize.ShloMosaic.TcCoe Idealize.ShloMosaic.Tactic Idealize.SL.Sem
open Cert.KernelIdeal.Tile (refEx ldexp1 clip)

variable (x0 : Vec Ideal S2048x5120 .fp8e5m2) (x1 x2 : Vec Ideal S2048x1 .f32) (x3 : Vec Ideal S2048x5120 .fp8e4m3) (x4 : Vec Ideal S2048x40 .f32)

/-- A slot's gated gradient. -/
def vR (s : Fin 2048) (j : Fin 5120) : EReal := x2 (ix2 s 0) * ((x0 : S2048x5120.Idx → EReal) (ix2 s j) * x1 (ix2 s 0))

/-- The value that fixes a block's exponent. -/
def uR (s : Fin 2048) (l : Fin 40) : EReal :=
  (Finset.univ.fold max (Ideal.ofBits .f32 0xFF800000#32)
    fun k : Fin 128 => max (vR x0 x1 x2 s ⟨128 * l.val + k.val, by omega⟩) (-vR x0 x1 x2 s ⟨128 * l.val + k.val, by omega⟩))
    * Ideal.ofBits .f32 0x37924925#32

/-- The dot product of a slot's gradient and its dequantised expert row. -/
def dotR (s : Fin 2048) : EReal := ∑ j : Fin 5120, (x0 : S2048x5120.Idx → EReal) (ix2 s j) * (x3 (ix2 s j) * x4 (ix2 s ⟨j.val / 128, by omega⟩))

theorem pay3_pt (s : Fin 2048) (l : Fin 40) (k : Fin 128) : k0_pay3 (F := Ideal) x0 x1 x2 (ix3 s l k) = vR x0 x1 x2 s ⟨128 * l.val + k.val, by omega⟩ := by
  pointwise [k0_pay3, k0_pay2]
  unfold vR
  have e : (⟨l.val * 128 + k.val, by omega⟩ : Fin 5120) = ⟨128 * l.val + k.val, by omega⟩ := Fin.ext (by simp only; omega)
  rw [e]

/-- The largest magnitude of every block. -/
def redOf (v : FVec Ideal S2048x40x128 .f32) : FVec Ideal S2048x40 .f32 :=
  multiReduction (F := Ideal) .maximumf [2] S2048x40 (absf v) 0xFF800000#32 reduces_S2048x40x128_S2048x40 (.inl rfl) rfl

theorem redOf_pt (v : FVec Ideal S2048x40x128 .f32) (s : Fin 2048) (l : Fin 40) :
    redOf v (ix2 s l) = Finset.univ.fold max (Ideal.ofBits .f32 0xFF800000#32) fun k : Fin 128 => max (v (ix3 s l k)) (-(v (ix3 s l k))) := by
  pointwise [redOf]
  rfl

/-- The exponent of every block. -/
def exOf (v13 : FVec Ideal S2048x40 .f32) : FVec Ideal S2048x40 .f32 :=
  have cst_5 : Ideal .f32 := Scalar.ofBits (F := Ideal) .f32 0x37924925#32
  have v14 : FVec Ideal S2048x40 .f32 := broadcast S2048x40 cst_5
  have v15 : FVec Ideal S2048x40 .f32 := mulf v13 v14
  have v16 : FVec Ideal S2048x40 .f32 := log v15
  have cst_6 : Ideal .f32 := Scalar.ofBits (F := Ideal) .f32 0x40000000#32
  have v17 : Ideal .f32 := Scalar.log cst_6
  have v18 : FVec Ideal S2048x40 .f32 := broadcast S2048x40 v17
  have v19 : FVec Ideal S2048x40 .f32 := divf v16 v18
  have v20 : FVec Ideal S2048x40 .f32 := floor v19
  have cst_7 : Ideal .f32 := Scalar.ofBits (F := Ideal) .f32 0x3F800000#32
  have v21 : FVec Ideal S2048x40 .f32 := broadcast S2048x40 cst_7
  have v22 : FVec Ideal S2048x40 .f32 := addf v20 v21
  have cst_8 : Ideal .f32 := Scalar.ofBits (F := Ideal) .f32 0x00800000#32
  have v23 : FVec Ideal S2048x40 .f32 := broadcast S2048x40 cst_8
  have v24 : IVec S2048x40 1 := cmpf .oge v15 v23
  have cst_9 : Ideal .f32 := Scalar.ofBits (F := Ideal) .f32 0x7F800000#32
  have v25 : FVec Ideal S2048x40 .f32 := broadcast S2048x40 cst_9
  have v26 : IVec S2048x40 1 := cmpf .olt v15 v25
  have v27 : IVec S2048x40 1 := andi v24 v26
  have cst_10 : Ideal .f32 := Scalar.ofBits (F := Ideal) .f32 0x00000000#32
  have v28 : FVec Ideal S2048x40 .f32 := broadcast S2048x40 cst_10
  have v29 : FVec Ideal S2048x40 .f32 := select v27 v22 v28
  have cst_11 : Ideal .f32 := Scalar.ofBits (F := Ideal) .f32 0x00000000#32
  have v30 : FVec Ideal S2048x40 .f32 := broadcast S2048x40 cst_11
  have v31 : IVec S2048x40 1 := cmpf .oeq v13 v30
  have cst_12 : Ideal .f32 := Scalar.ofBits (F := Ideal) .f32 0x00000000#32
  have v32 : FVec Ideal S2048x40 .f32 := broadcast S2048x40 cst_12
  have v33 : FVec Ideal S2048x40 .f32 := select v31 v32 v29
  v33

theorem pay4_eq (x0 : Vec Ideal S2048x5120 .fp8e5m2) (x1 x2 : Vec Ideal S2048x1 .f32) : k0_pay4 (F := Ideal) x0 x1 x2 = exOf (redOf (k0_pay3 x0 x1 x2)) := rfl

/-- The exponent of one block. -/
theorem exOf_pt (a : FVec Ideal S2048x40 .f32) (s : Fin 2048) (l : Fin 40) : exOf a (ix2 s l) = refEx (a (ix2 s l) * Ideal.ofBits .f32 0x37924925#32) := by
  pointwise [exOf]
  unfold refEx
  by_cases h : a (ix2 s l) = 0
  · rw [if_pos h, h, zero_mul, if_neg]
    rintro ⟨h1, _⟩
    rw [Cert.KernelIdeal.Tile.T_least, Cert.KernelIdeal.Tile.T_mid 1 (by decide) (by decide)] at h1
    have h2 := EReal.coe_le_coe_iff.1 h1
    have h3 : (0 : ℝ) < 2 ^ (((1 : ℕ) : ℤ) - 127) := by positivity
    exact absurd h2 (not_le.2 h3)
  · rw [if_neg h, Ideal.ofBits_one_f32]
    generalize a (ix2 s l) * Ideal.ofBits .f32 0x37924925#32 = u
    by_cases c1 : Ideal.ofBits .f32 0x00800000#32 ≤ u
    · by_cases c2 : u < Ideal.ofBits .f32 0x7F800000#32
      · rw [decide_eq_true c1, decide_eq_true c2, if_pos ⟨c1, c2⟩]; rfl
      · rw [decide_eq_true c1, decide_eq_false c2, if_neg (fun h => c2 h.2)]; rfl
    · rw [decide_eq_false c1, if_neg (fun h => c1 h.1)]
      by_cases c2 : u < Ideal.ofBits .f32 0x7F800000#32
      · rw [decide_eq_true c2]; rfl
      · rw [decide_eq_false c2]; rfl

theorem pay4_pt (s : Fin 2048) (l : Fin 40) : k0_pay4 (F := Ideal) x0 x1 x2 (ix2 s l) = refEx (uR x0 x1 x2 s l) := by
  rw [pay4_eq, exOf_pt, redOf_pt]
  simp only [pay3_pt]
  rfl

theorem ld_pt (x : FVec Ideal S2048x40 .f32) (s : Fin 2048) (l : Fin 40) :
    k0_pay7 (F := Ideal) (cmpf .ogt x (broadcast S2048x40 (Scalar.ofBits .f32 0x42FE0000#32)))
      (select (cmpf .olt x (broadcast S2048x40 (Scalar.ofBits .f32 0xC2FC0000#32))) (broadcast S2048x40 (Scalar.ofBits .f32 0x00000000#32)) (exp2 x)) (Scalar.ofBits .f32 0x7F800000#32) (ix2 s l)
     = ldexp1 (x (ix2 s l)) := by
  pointwise [k0_pay7]
  rfl

theorem pay7_pt (s : Fin 2048) (l : Fin 40) :
    k0_pay7 (F := Ideal) (k0_pay5 x0 x1 x2) (k0_pay6 x0 x1 x2) (Scalar.ofBits .f32 0x7F800000#32) (ix2 s l) = ldexp1 (refEx (uR x0 x1 x2 s l)) :=
  (ld_pt (k0_pay4 (F := Ideal) x0 x1 x2) s l).trans (congrArg ldexp1 (pay4_pt x0 x1 x2 s l))

theorem pay8_gen (v : FVec Ideal S2048x40x128 .f32) (ex : FVec Ideal S2048x40 .f32) (s : Fin 2048) (j : Fin 5120) :
    k0_pay8 (F := Ideal) v ex (ix2 s j) = clip (v (ix3 s ⟨j.val / 128, by omega⟩ ⟨j.val % 128, by omega⟩) * ldexp1 (0 - ex (ix2 s ⟨j.val / 128, by omega⟩))) := by
  pointwise [k0_pay8]
  rfl

theorem pay8_pt (s : Fin 2048) (j : Fin 5120) :
    k0_pay8 (F := Ideal) (k0_pay3 x0 x1 x2) (k0_pay4 x0 x1 x2) (ix2 s j) = clip (vR x0 x1 x2 s j * ldexp1 (0 - refEx (uR x0 x1 x2 s ⟨j.val / 128, by omega⟩))) := by
  rw [pay8_gen, pay3_pt, pay4_pt]
  have e : (⟨128 * (j.val / 128) + j.val % 128, by omega⟩ : Fin 5120) = j := Fin.ext (by simp only; omega)
  rw [e]

theorem pay9_pt (s : Fin 2048) : k0_pay9 (F := Ideal) x3 x4 x0 (ix1 s) = dotR x0 x3 x4 s := by
  pointwise [k0_pay9]
  rfl

theorem ofBits_nan : Ideal.ofBits .f32 0x7FC00000#32 = ⊥ := by
  simp [Ideal.ofBits, Ideal.ieee]

theorem pay1_gen (x1 : FVec Ideal S2048x1 .f32) (d : FVec Ideal S2048 .f32) (s : Fin 2048) (z : Fin 1) :
    k0_pay1 (F := Ideal) x1 d (ix2 s z) = (if max (d (ix1 s)) (-d (ix1 s)) < ⊤ then d (ix1 s) else ⊥) * x1 (ix2 s z) := by
  pointwise [k0_pay1]
  rw [Cert.KernelIdeal.Tile.T_inf, ofBits_nan]
  rfl

theorem pay1_pt (s : Fin 2048) (z : Fin 1) :
    k0_pay1 (F := Ideal) (k0_pay2 x1) (k0_pay9 x3 x4 x0) (ix2 s z)
      = (if max (dotR x0 x3 x4 s) (-dotR x0 x3 x4 s) < ⊤ then dotR x0 x3 x4 s else ⊥) * x1 (ix2 s 0) := by
  have e2 : k0_pay2 (F := Ideal) x1 (ix2 s z) = x1 (ix2 s 0) := by
    have hz : z = 0 := Subsingleton.elim _ _
    subst hz
    pointwise [k0_pay2]
  refine (pay1_gen (k0_pay2 x1) (k0_pay9 (F := Ideal) x3 x4 x0) s z).trans ?_
  rw [pay9_pt, e2]

end Cert.ReferenceIdeal.Gen

end
-- ==== Proof.Ref.Run.lean ====
/- What the reference's run leaves: the arguments unchanged, and the three results by slot. -/
module

public import proofs.«01_k».proof.Proof.Ref.Host
public import proofs.«01_k».proof.Proof.Ref.Block
public import Idealize.ShloMosaic.Lib.Pipeline.ArrRel
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic Idealize.SL.Sem
open Idealize.ShloMosaic.Pipeline (Dat Cfg Window)
open Idealize.ShloMosaic.Routing
open Cert.KernelIdeal.Tile (refEx ldexp1 clip)

variable (m : (ℓ : Loc nD τ sig) → Buf (Elt Ideal) ℓ) (ρ : Dev nD → PrngReg)

theorem zz : (![0, 0] : Fin 2 → ℕ) = fun _ => 0 := by decide

theorem out5_eq (x0 : Vec Ideal S2048x5120 .fp8e5m2) (x1 x2 : Vec Ideal S2048x1 .f32) (x3 : Vec Ideal S2048x5120 .fp8e4m3) (x4 : Vec Ideal S2048x40 .f32) :
    out0_5 x0 x1 x2 x3 x4 = k0_pay8 (k0_pay3 x0 x1 x2) (k0_pay4 x0 x1 x2) := by
  unfold out0_5
  rw [View.canon_unit_zero zz, View.ld_unit_zero zz, View.ld_unit_zero zz, View.ld_unit_zero zz]

theorem out6_eq (x0 : Vec Ideal S2048x5120 .fp8e5m2) (x1 x2 : Vec Ideal S2048x1 .f32) (x3 : Vec Ideal S2048x5120 .fp8e4m3) (x4 : Vec Ideal S2048x40 .f32) :
    out0_6 x0 x1 x2 x3 x4 = k0_pay7 (k0_pay5 x0 x1 x2) (k0_pay6 x0 x1 x2) (Scalar.ofBits .f32 0x7F800000#32) := by
  unfold out0_6
  rw [View.canon_unit_zero zz, View.ld_unit_zero zz, View.ld_unit_zero zz, View.ld_unit_zero zz]

theorem out7_eq (x0 : Vec Ideal S2048x5120 .fp8e5m2) (x1 x2 : Vec Ideal S2048x1 .f32) (x3 : Vec Ideal S2048x5120 .fp8e4m3) (x4 : Vec Ideal S2048x40 .f32) :
    out0_7 x0 x1 x2 x3 x4 = k0_pay1 (k0_pay2 x1) (k0_pay9 x3 x4 x0) := by
  unfold out0_7
  rw [View.canon_unit_zero zz, View.ld_unit_zero zz, View.ld_unit_zero zz, View.ld_unit_zero zz, View.ld_unit_zero zz]

/-! ## The region's blocks are the whole arrays -/

/-- The slots' gradient rows. -/
def dR (c : Dev nD) : Vec Ideal S2048x5120 .fp8e5m2 := iblk m c 0 t0_0
/-- The slots' token scales. -/
def sR (c : Dev nD) : Vec Ideal S2048x1 .f32 := iblk m c 1 t0_0
/-- The slots' gates. -/
def gR (c : Dev nD) : Vec Ideal S2048x1 .f32 := iblk m c 2 t0_0
/-- The expert rows. -/
def eR (c : Dev nD) : Vec Ideal S2048x5120 .fp8e4m3 := iblk m c 3 t0_0
/-- The expert scales. -/
def esR (c : Dev nD) : Vec Ideal S2048x40 .f32 := iblk m c 4 t0_0

theorem dR_eq (c : Dev nD) (s : Fin 2048) (j : Fin 5120) : dR m c (ix2 s j) = (V m c main_v15 : S2048x5120.Idx → Ideal .fp8e5m2) (ix2 s j) := by
  obtain ⟨e0, e1⟩ : win0_0.index t0_0 0 = 0 ∧ win0_0.index t0_0 1 = 0 := ⟨rfl, rfl⟩
  unfold dR
  blk_simp [iblk]
  congr 1
  funext a
  match a with
  | ⟨0, _⟩ => ext; blk_simp [e0]
  | ⟨1, _⟩ => ext; blk_simp [e1]

theorem sR_eq (c : Dev nD) (s : Fin 2048) (j : Fin 1) : sR m c (ix2 s j) = (V m c main_v23 : S2048x1.Idx → Ideal .f32) (ix2 s j) := by
  obtain ⟨e0, e1⟩ : win0_1.index t0_0 0 = 0 ∧ win0_1.index t0_0 1 = 0 := ⟨rfl, rfl⟩
  unfold sR
  blk_simp [iblk]
  congr 1
  funext a
  match a with
  | ⟨0, _⟩ => ext; blk_simp [e0]
  | ⟨1, _⟩ => ext; blk_simp [e1]

theorem gR_eq (c : Dev nD) (s : Fin 2048) (j : Fin 1) : gR m c (ix2 s j) = (V m c main_v24 : S2048x1.Idx → Ideal .f32) (ix2 s j) := by
  obtain ⟨e0, e1⟩ : win0_2.index t0_0 0 = 0 ∧ win0_2.index t0_0 1 = 0 := ⟨rfl, rfl⟩
  unfold gR
  blk_simp [iblk]
  congr 1
  funext a
  match a with
  | ⟨0, _⟩ => ext; blk_simp [e0]
  | ⟨1, _⟩ => ext; blk_simp [e1]

theorem eR_eq (c : Dev nD) (s : Fin 2048) (j : Fin 5120) : eR m c (ix2 s j) = (m ((c : Thread nD τ).loc main_arg2) : S2048x5120.Idx → Ideal .fp8e4m3) (ix2 s j) := by
  rw [← V_main_arg2 m c]
  obtain ⟨e0, e1⟩ : win0_3.index t0_0 0 = 0 ∧ win0_3.index t0_0 1 = 0 := ⟨rfl, rfl⟩
  unfold eR
  blk_simp [iblk]
  congr 1
  funext a
  match a with
  | ⟨0, _⟩ => ext; blk_simp [e0]
  | ⟨1, _⟩ => ext; blk_simp [e1]

theorem esR_eq (c : Dev nD) (s : Fin 2048) (j : Fin 40) : esR m c (ix2 s j) = (m ((c : Thread nD τ).loc main_arg3) : S2048x40.Idx → Ideal .f32) (ix2 s j) := by
  rw [← V_main_arg3 m c]
  obtain ⟨e0, e1⟩ : win0_4.index t0_0 0 = 0 ∧ win0_4.index t0_0 1 = 0 := ⟨rfl, rfl⟩
  unfold esR
  blk_simp [iblk]
  congr 1
  funext a
  match a with
  | ⟨0, _⟩ => ext; blk_simp [e0]
  | ⟨1, _⟩ => ext; blk_simp [e1]

/-! ## The results -/

/-- The codes. -/
def codesR (c : Dev nD) : FVec Ideal S2048x5120 .fp8e5m2 := k0_pay8 (k0_pay3 (dR m c) (sR m c) (gR m c)) (k0_pay4 (dR m c) (sR m c) (gR m c))
/-- The block scales. -/
def scaleR (c : Dev nD) : FVec Ideal S2048x40 .f32 :=
  k0_pay7 (k0_pay5 (dR m c) (sR m c) (gR m c)) (k0_pay6 (dR m c) (sR m c) (gR m c)) (Scalar.ofBits .f32 0x7F800000#32)
/-- The gate gradient of every slot. -/
def colR (c : Dev nD) : FVec Ideal S2048x1 .f32 :=
  k0_pay1 (k0_pay2 (sR m c)) (k0_pay9 (eR m c) (esR m c) (dR m c))
/-- The gate gradients, every slot's put at the place the order names. -/
def dgR (c : Dev nD) : FVec Ideal S256x8 .f32 :=
  shapeCast S256x8 (Host.scatter scatter_S2048_S2048x1_S2048_n_0_0_1 (fun _ b => b)
    (broadcastInDim S2048 ![] bcast_S_S2048 (constant (F := Ideal) S_ .f32 0x00000000#32))
    (broadcastInDim S2048x1 ![0] bcast_S2048_S2048x1_0 (wrapOf (ordM m c) 2048#32))
    (shapeCast S2048 (colR m c) shapeCasts_S2048x1_S2048)) shapeCasts_S2048_S256x8

theorem arr5 (c : Dev nD) : (dats m 0 c).arrAt 5 cfg0.N = codesR m c := by
  refine Dat.arrAt_eq_of_after_last (dats m 0 c) 5 t0_0 (by decide +kernel) (codesR m c) fun j => ?_
  blk_simp
  refine (congrFun ((after0_5 m c t0_0).trans (out5_eq _ _ _ _ _)) j).trans ?_
  rfl

theorem arr6 (c : Dev nD) : (dats m 0 c).arrAt 6 cfg0.N = scaleR m c := by
  refine Dat.arrAt_eq_of_after_last (dats m 0 c) 6 t0_0 (by decide +kernel) (scaleR m c) fun j => ?_
  blk_simp
  refine (congrFun ((after0_6 m c t0_0).trans (out6_eq _ _ _ _ _)) j).trans ?_
  rfl

theorem arr7 (c : Dev nD) : (dats m 0 c).arrAt 7 cfg0.N = colR m c := by
  refine Dat.arrAt_eq_of_after_last (dats m 0 c) 7 t0_0 (by decide +kernel) (colR m c) fun j => ?_
  blk_simp
  refine (congrFun ((after0_7 m c t0_0).trans (out7_eq _ _ _ _ _)) j).trans ?_
  rfl

/-- What the operations after the region leave in the last result. -/
theorem tail35 (c : Dev nD) : Pipeline.afterTail₀ cfgs (dats m) 0 (V0 m) [hostOps1] c main_v35 = dgR m c := by
  unfold Pipeline.afterTail₀ dgR
  have e5 : Pipeline.withArrays (cfgs 0).spec c (V0 m c) (fun w => (dats m 0 c).arrAt w (cfgs 0).N) (Proc.devRef .tc main_arg5) = ordM m c :=
    (Pipeline.withArrays_of_ne _ c (V0 m c) _ main_arg5 (by exact (by decide : ∀ w, Pipeline.arrRef spec0 w ≠ main_arg5))).trans (V_main_arg5 m c)
  have e7 : Pipeline.withArrays (cfgs 0).spec c (V0 m c) (fun w => (dats m 0 c).arrAt w (cfgs 0).N) (Proc.devRef .tc main_v25_2) = colR m c :=
    (Pipeline.withArrays_arr _ launch0.win.arr_inj c (V0 m c) _ 7).trans (arr7 m c)
  rw [← e5, ← e7]
  generalize Pipeline.withArrays (cfgs 0).spec c (V0 m c) (fun w => (dats m 0 c).arrAt w (cfgs 0).N) = U
  simp only [List.flatten_cons, List.flatten_nil, List.append_nil]
  unfold hostOps1
  after_results
  try rfl

/-- The arrays the run leaves. -/
theorem run_value : θ_run defs (onTc (τ := τ) (main (F := Ideal))) ⟨m, fun _ => 0, ρ⟩ (fun r => ∀ c : Dev nD,
      (r.2.mem ((c.tc : Thread nD τ).loc main_v25_0) = codesR m c ∧ r.2.mem ((c.tc : Thread nD τ).loc main_v25_1) = scaleR m c
        ∧ r.2.mem ((c.tc : Thread nD τ).loc main_v35) = dgR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨⟨((h.1 c).1 5).trans (arr5 m c), ((h.1 c).1 6).trans (arr6 m c),
    ((h.1 c).2 main_v35 (Pipeline.mem_restRefs_of main_v35 (by decide) (by decide))).trans (tail35 m c)⟩, h.2 c⟩)
    (θ_run_and (run_main m ρ) (unchanged m ρ))

/-! ## The results at an index -/

variable {m} {c : Dev nD} {n : Fin 2048 → Fin 2048}

/-- A token's place in the gates, and the slot that the order put there. -/
theorem dgR_ap (hn : ∀ s, ordM m c (ix1 s) = BitVec.ofNat 32 (n s).val) (s : Fin 2048) (hi : Function.Injective n) :
    dgR m c (ix2 ⟨(n s).val / 8, by omega⟩ ⟨(n s).val % 8, by omega⟩) = colR m c (ix2 s 0) := by
  unfold dgR
  refine (cast12 _ shapeCasts_S2048_S256x8 _ _ (n s) (by show (n s).val = (n s).val / 8 * 8 + (n s).val % 8; omega)).trans ?_
  refine (scatter_set scatter_S2048_S2048x1_S2048_n_0_0_1 rfl rfl rfl _ _ _ (fun i => if h : i < 2048 then (n ⟨i, h⟩).val else 0) (fun i => ?_) (fun i => ?_) (n s) _ (fun i hi' => ?_)).1
    ⟨s, by simp only [dif_pos s.isLt]⟩
  · rw [dif_pos i.isLt]
    exact (col_ap _ i 0).trans (wrapOf_ap _ _ i _ (by omega) (hn i))
  · rw [dif_pos i.isLt]; omega
  · rw [dif_pos i.isLt] at hi'
    have e : i = s := hi (Fin.ext hi')
    subst e
    pointwise

end Cert.ReferenceIdeal.Gen

end
-- ==== Proof.Eq.Pre.lean ====
/- What the precondition says of the arguments: the order names every slot once, and every gate times its token's scale is finite. -/
module

public import proofs.«01_k».proof.Pre_well_posed
public import Idealize.ShloMosaic.Lib.ReduceAll
public import proofs.«01_k».proof.Proof.Eq.Exponent

@[expose] public section

set_option maxRecDepth 16384

noncomputable section

namespace Cert.Pre_well_posed

open Idealize.ShloMosaic Idealize.ShloMosaic.Tactic

/-- The side conditions of the precondition's operations. -/
instance facts : Facts where
  bcast_S2048_S2048x2048_0 := by decide
  bcast_S2048_S2048x2048_1 := by decide
  reducesTo_S2048x2048_S_d0_1 := by decide
  h_S_ := by decide
  bcast_S_S2048 := by decide
  reducesTo_S2048_S_d0 := by decide
  bcast_S256_S256x1_0 := by decide
  bcast_S256x1_S256x8_0_1 := by decide
  bcast_S_S256x8 := by decide
  reducesTo_S256x8_S_d0_1 := by decide

variable {x0 : FVec Ideal S256x5120 .fp8e5m2} {x1 : FVec Ideal S256 .f32} {x2 : FVec Ideal S2048x5120 .fp8e4m3} {x3 : FVec Ideal S2048x40 .f32}
  {x4 : FVec Ideal S256x8 .f32} {x5 : IVec S2048 32}

/-- What the precondition's three reductions say. -/
structure Says (x1 : FVec Ideal S256 .f32) (x4 : FVec Ideal S256x8 .f32) (x5 : IVec S2048 32) : Prop where
  lt : ∀ s : Fin 2048, (x5 (ix1 s)).toNat < 2048
  inj : ∀ s s' : Fin 2048, x5 (ix1 s) = x5 (ix1 s') → s = s'
  fin : ∀ (t : Fin 256) (p : Fin 8), ∃ r : ℝ, x4 (ix2 t p) * x1 (ix1 t) = (r : EReal)

theorem says_of (h : fn (F := Ideal) x0 x1 x2 x3 x4 x5 = fun _ => 1#1) : Says x1 x4 x5 := by
  have h0 := congrFun h (fun a => a.elim0)
  simp only [fn, fn_part1] at h0
  obtain ⟨h12, h3⟩ := IntOp.andi_eq_one.1 h0
  obtain ⟨h1, h2⟩ := IntOp.andi_eq_one.1 h12
  have k2 : ∀ s : Fin 2048, 0 ≤ (x5 (ix1 s)).toInt ∧ (x5 (ix1 s)).toInt < 2048 := by
    intro s
    have e := Host.reduce_andi_all _ _ _ _ _ h2 (ix1 s)
    obtain ⟨e1, e2⟩ := IntOp.andi_eq_one.1 e
    exact ⟨IntOp.cmpi_sge.1 e1, IntOp.cmpi_slt.1 e2⟩
  refine ⟨fun s => ?_, fun s s' e => ?_, fun t p => ?_⟩
  · have := k2 s
    rw [BitVec.toInt_eq_toNat_cond] at this
    have := (x5 (ix1 s)).isLt
    split at * <;> omega
  · have e1 := Host.reduce_andi_all _ _ _ _ _ h1 (ix2 s s')
    have e2 : IntOp.ori (IntOp.cmpi .ne (x5 (ix1 s)) (x5 (ix1 s'))) (IntOp.cmpi .eq (BitVec.ofNat 32 s.val) (BitVec.ofNat 32 s'.val)) = 1#1 := by
      rw [← e1]
      pointwise [Cert.Pre_well_posed.S2048]

    rw [e] at e2
    have h3 : IntOp.cmpi .ne (x5 (ix1 s')) (x5 (ix1 s')) = 0#1 := by simp [IntOp.cmpi]
    rw [h3] at e2
    have h4 : IntOp.cmpi .eq (BitVec.ofNat 32 s.val) (BitVec.ofNat 32 s'.val) = 1#1 := by
      revert e2; generalize IntOp.cmpi .eq (BitVec.ofNat 32 s.val) (BitVec.ofNat 32 s'.val) = b; revert b; decide
    have h5 := IntOp.cmpi_eq.1 h4
    have h6 := congrArg BitVec.toNat h5
    rw [BitVec.toNat_ofNat, BitVec.toNat_ofNat] at h6
    exact Fin.ext (by omega)
  · have e1 := Host.reduce_andi_all _ _ _ _ _ h3 (ix2 t p)
    have e2 : BitVec.ofBool (decide (max (x4 (ix2 t p) * x1 (ix1 t)) (-(x4 (ix2 t p) * x1 (ix1 t))) < Ideal.ofBits .f32 0x7F800000#32)) = 1#1 := by
      rw [← e1]
      pointwise [Cert.Pre_well_posed.S2048]
      rfl

    rw [Cert.KernelIdeal.Tile.T_inf] at e2
    have h3 : max (x4 (ix2 t p) * x1 (ix1 t)) (-(x4 (ix2 t p) * x1 (ix1 t))) < ⊤ := by
      by_contra hc
      rw [decide_eq_false hc] at e2
      exact absurd e2 (by decide)
    have key : ∀ v : EReal, max v (-v) < ⊤ → ∃ r : ℝ, v = (r : EReal) := by
      intro v hv
      induction v using EReal.rec with
      | bot => simp at hv
      | top => simp at hv
      | coe r => exact ⟨r, rfl⟩
    exact key _ h3

end Cert.Pre_well_posed

end
-- ==== Proof.Eq.Math.lean ====
/- Facts of extended reals that the equation of the two programs rests on. -/
module

public import proofs.«01_k».proof.Proof.KI.Pt
public import Idealize.ShloMosaic.Lib.Pipeline.ValueKit

@[expose] public section

set_option maxRecDepth 16384

noncomputable section

namespace Cert.Equation

open Idealize.ShloMosaic Cert.KernelIdeal.Tile

/-- A finite factor comes out of a magnitude. -/
theorem abs_mul (r : ℝ) (d : EReal) : max ((r : EReal) * d) (-((r : EReal) * d)) = max (r : EReal) (-(r : EReal)) * max d (-d) := by
  have key : ∀ q : ℝ, 0 ≤ q → ∀ d : EReal, max ((q : EReal) * d) (-((q : EReal) * d)) = (q : EReal) * max d (-d) := by
    intro q hq d
    have hm : Monotone fun x : EReal => (q : EReal) * x := fun x y h => mul_le_mul_of_nonneg_left h (EReal.coe_nonneg.2 hq)
    have e : -((q : EReal) * d) = (q : EReal) * -d := by rw [mul_neg]
    rw [e]
    exact (hm.map_max (a := d) (b := -d)).symm
  have habs : max (r : EReal) (-(r : EReal)) = ((|r| : ℝ) : EReal) := by
    rw [← EReal.coe_neg]; exact (EReal.coe_strictMono.monotone.map_max (a := r) (b := -r)).symm
  rw [habs, ← key |r| (abs_nonneg r) d]
  rcases abs_choice r with h | h
  · rw [h]
  · rw [h, EReal.coe_neg, neg_mul, neg_neg, max_comm]

/-- A finite factor comes out of a largest magnitude. -/
theorem fold_abs (r : ℝ) (x : Fin 128 → EReal) :
    (Finset.univ.fold max (⊥ : EReal) fun k : Fin 128 => max ((r : EReal) * x k) (-((r : EReal) * x k)))
      = max (r : EReal) (-(r : EReal)) * Finset.univ.fold max (⊥ : EReal) fun k : Fin 128 => max (x k) (-(x k)) := by
  simp only [abs_mul]
  have habs : max (r : EReal) (-(r : EReal)) = ((|r| : ℝ) : EReal) := by
    rw [← EReal.coe_neg]; exact (EReal.coe_strictMono.monotone.map_max (a := r) (b := -r)).symm
  rw [habs]
  have hm : ∀ x y : EReal, ((|r| : ℝ) : EReal) * max x y = max (((|r| : ℝ) : EReal) * x) (((|r| : ℝ) : EReal) * y) := fun x y =>
    (show Monotone fun x : EReal => ((|r| : ℝ) : EReal) * x from fun x y h => mul_le_mul_of_nonneg_left h (EReal.coe_nonneg.2 (abs_nonneg r))).map_max
  rcases (abs_nonneg r).eq_or_lt with h0 | h0
  · rw [← h0]
    simp only [EReal.coe_zero, zero_mul]
    have e : (Finset.univ.fold max (⊥ : EReal) fun _ : Fin 128 => (0 : EReal)) = Finset.univ.sup fun _ : Fin 128 => (0 : EReal) := rfl
    rw [e, Finset.sup_const Finset.univ_nonempty]
  · have hb : ((|r| : ℝ) : EReal) * ⊥ = ⊥ := EReal.coe_mul_bot_of_pos h0
    have e := Finset.fold_hom (op := max) (op' := max) (s := (Finset.univ : Finset (Fin 128))) (b := (⊥ : EReal)) (f := fun k => max (x k) (-(x k)))
      (m := fun y => ((|r| : ℝ) : EReal) * y) hm
    rw [hb] at e
    exact e

/-- The three pieces of a number, added: the number where it is finite. -/
theorem pieces (d : EReal) : (d + (d - d)) + (d - d - (d - d)) = if max d (-d) < ⊤ then d else ⊥ := by
  induction d using EReal.rec with
  | bot =>
    rw [if_neg (by simp)]
    simp
  | top =>
    rw [if_neg (by simp)]
    rw [show (⊤ : EReal) - ⊤ = ⊥ from rfl]
    simp
  | coe r =>
    have h : max (r : EReal) (-(r : EReal)) < ⊤ := by
      rw [← EReal.coe_neg]; exact max_lt (EReal.coe_lt_top _) (EReal.coe_lt_top _)
    rw [if_pos h, ← EReal.coe_sub, sub_self, EReal.coe_zero, sub_zero, add_zero, add_zero]

/-- The sum over all columns, by points, blocks and lanes. -/
theorem sum_cols (F : Fin 5120 → EReal) :
    (∑ l : Fin 128, ∑ t : Fin 10, (((F ⟨512 * t.val + l.val, by omega⟩ + F ⟨512 * t.val + (128 + l.val), by omega⟩) + F ⟨512 * t.val + (256 + l.val), by omega⟩)
      + F ⟨512 * t.val + (384 + l.val), by omega⟩)) = ∑ j : Fin 5120, F j := by
  rw [Finset.sum_comm, ← Fin.sum_mul_add_fin 10 512 F]
  refine Finset.sum_congr rfl fun t _ => ?_
  rw [← Fin.sum_mul_add_fin 4 128 (fun k : Fin 512 => F ⟨t.val * 512 + k.val, by omega⟩), Finset.sum_comm]
  refine Finset.sum_congr rfl fun l _ => ?_
  rw [Fin.sum_univ_four]
  have e : ∀ i j (hi : i < 5120) (hj : j < 5120), i = j → F ⟨i, hi⟩ = F ⟨j, hj⟩ := by intro i j hi hj h; subst h; rfl
  refine congrArg₂ _ (congrArg₂ _ (congrArg₂ _ (e _ _ _ _ ?_) (e _ _ _ _ ?_)) (e _ _ _ _ ?_)) (e _ _ _ _ ?_)
  all_goals first
    | (show _ = t.val * 512 + ((0 : ℕ) * 128 + l.val); omega)
    | (show _ = t.val * 512 + ((1 : ℕ) * 128 + l.val); omega)
    | (show _ = t.val * 512 + ((2 : ℕ) * 128 + l.val); omega)
    | (show _ = t.val * 512 + ((3 : ℕ) * 128 + l.val); omega)

/-- The sum over all slots, chunk by chunk. -/
theorem sum_chunks (G : Fin 2048 → EReal) :
    (∑ c ∈ Finset.range 16, ∑ x : Fin 128, G ⟨(128 * c + x.val) % 2048, Nat.mod_lt _ (by decide)⟩) = ∑ s : Fin 2048, G s := by
  rw [Finset.sum_range, ← Fin.sum_mul_add_fin 16 128 G]
  refine Finset.sum_congr rfl fun c _ => Finset.sum_congr rfl fun x _ => congrArg G (Fin.ext ?_)
  show (128 * c.val + x.val) % 2048 = c.val * 128 + x.val
  omega

/-- A one-hot row picks its entry. -/
theorem sum_oh {n : ℕ} (t : Fin n) (f : Fin n → EReal) : (∑ k : Fin n, (if k.val = t.val then (1 : EReal) else 0) * f k) = f t := by
  rw [Finset.sum_eq_single t]
  · rw [if_pos rfl, one_mul]
  · intro k _ hk
    rw [if_neg fun e => hk (Fin.ext e), zero_mul]
  · intro h; exact absurd (Finset.mem_univ _) h

end Cert.Equation

end
-- ==== Proof.Eq.Spec.lean ====
/- The three results by slot, as functions of the arguments' entries. -/
module

public import proofs.«01_k».proof.Proof.Eq.Exponent

@[expose] public section

noncomputable section

namespace Cert.Equation

open Idealize.ShloMosaic Cert.KernelIdeal.Tile

/-- The arguments' entries: the gradient codes, the token scales, the expert codes, their scales, the gates, and the order. -/
structure Args where
  d : Fin 256 → Fin 5120 → EReal
  sc : Fin 256 → EReal
  e : Fin 2048 → Fin 5120 → EReal
  es : Fin 2048 → Fin 40 → EReal
  g : Fin 256 → Fin 8 → EReal
  n : Fin 2048 → Fin 2048

variable (a : Args) (s : Fin 2048)

/-- A slot's token. -/
def Args.tk : Fin 256 := ⟨(a.n s).val / 8, by omega⟩

/-- A slot's place among its token's gates. -/
def Args.gt : Fin 8 := ⟨(a.n s).val % 8, by omega⟩

/-- A slot's gate times its token's scale. -/
def Args.gs : EReal := a.g (a.tk s) (a.gt s) * a.sc (a.tk s)

/-- The value that fixes the exponent of a slot's block. -/
def Args.u (l : Fin 40) : EReal := uVal (a.gs s) (rowMax fun k : Fin 128 => a.d (a.tk s) ⟨128 * l.val + k.val, by omega⟩)

/-- A slot's code at a column. -/
def Args.code (j : Fin 5120) : EReal := clip (a.d (a.tk s) j * (a.gs s * ldexp1 (0 - refEx (a.u s ⟨j.val / 128, by omega⟩))))

/-- A slot's block scale. -/
def Args.scale (l : Fin 40) : EReal := ldexp1 (refEx (a.u s l))

/-- A term of a slot's dot product. -/
def Args.term (j : Fin 5120) : EReal := a.d (a.tk s) j * (a.e s j * a.es s ⟨j.val / 128, by omega⟩)

/-- A slot's dot product. -/
def Args.dot : EReal := ∑ j : Fin 5120, a.term s j

/-- A slot's gate gradient: the dot product where it is finite, times the token's scale. -/
def Args.dg : EReal := (if max (a.dot s) (-a.dot s) < ⊤ then a.dot s else ⊥) * a.sc (a.tk s)

end Cert.Equation

end
-- ==== Proof.Eq.Ker.lean ====
/- The kernel's three results, read at a slot. -/
module

public import proofs.«01_k».proof.Proof.KI.Final
public import proofs.«01_k».proof.Proof.Eq.Math
public import proofs.«01_k».proof.Proof.Eq.Spec

@[expose] public section

set_option maxRecDepth 16384

noncomputable section

namespace Cert.KernelIdeal.Gen

open Idealize.ShloMosaic Idealize.ShloMosaic.TcCoe Idealize.SL.Sem
open Cert.KernelIdeal.Tile Cert.Equation

variable (m : (ℓ : Loc nD τ sig) → Buf (Elt Ideal) ℓ) (c : Dev nD)

/-- The memory's arguments have these entries. -/
structure Holds (a : Args) : Prop where
  d : ∀ t j, (m ((c : Thread nD τ).loc main_arg0) : S256x5120.Idx → EReal) (ix2 t j) = a.d t j
  sc : ∀ t, (m ((c : Thread nD τ).loc main_arg1) : S256.Idx → EReal) (ix1 t) = a.sc t
  e : ∀ s j, (m ((c : Thread nD τ).loc main_arg2) : S2048x5120.Idx → EReal) (ix2 s j) = a.e s j
  es : ∀ s l, (m ((c : Thread nD τ).loc main_arg3) : S2048x40.Idx → EReal) (ix2 s l) = a.es s l
  g : ∀ t p, (m ((c : Thread nD τ).loc main_arg4) : S256x8.Idx → EReal) (ix2 t p) = a.g t p
  n : ∀ s, ((m ((c : Thread nD τ).loc main_arg5) : S2048.Idx → BitVec 32) (ix1 s)).toNat = (a.n s).val

/-- A point's blocks of expert codes and of gradient codes, as numbers. -/
def eB (t : Fin 10) : S2048x512.Idx → EReal := iblk m c 6 ⟨t.val, lt_of_lt_of_eq t.isLt N_0.symm⟩
def dB (t : Fin 10) : S256x512.Idx → EReal := iblk m c 4 ⟨t.val, lt_of_lt_of_eq t.isLt N_0.symm⟩

variable {m c} {a : Args} (H : Holds m c a)
include H

theorem ordN_at (s : Fin 2048) : ordN (odA m c) s = (a.n s).val := by
  unfold ordN
  rw [odA_eq, ← H.n s]
  have e : (⟨128 * (s.val / 128) + s.val % 128, by omega⟩ : Fin 2048) = s := Fin.ext (by simp only; omega)
  rw [e]

theorem tok_at (s : Fin 2048) : tokOf (odA m c) s = a.tk s := by
  refine Fin.ext ?_
  show ordN (odA m c) s / 8 % 256 = (a.n s).val / 8
  rw [ordN_at H]; omega

theorem gate_at (s : Fin 2048) : gateOf (odA m c) s = a.gt s := by
  refine Fin.ext ?_
  show ordN (odA m c) s % 8 = (a.n s).val % 8
  rw [ordN_at H]

theorem g_at (s : Fin 2048) : gOf (odA m c) (gtA m c) (scA m c) s = a.gs s := by
  unfold gOf Args.gs
  rw [tok_at H, gate_at H, gtA_eq, scA_eq]
  exact congrArg₂ _ (H.g _ _) (H.sc _)

theorem dy_at (t : Fin 256) (j : Fin 5120) : dyA m c (ix2 t j) = a.d t j := (dyA_eq m c t j).trans (H.d t j)

theorem u_at (s : Fin 2048) (l : Fin 40) : uOf (odA m c) (gtA m c) (scA m c) (dyA m c) s l.val = a.u s l := by
  unfold uOf aOf Args.u
  rw [if_pos l.isLt, dif_pos l.isLt, g_at H, tok_at H]
  simp only [dy_at H]

theorem oh_at (s : Fin 2048) (k : Fin 256) : ohOf (odA m c) (ix2 s k) = if k.val = (a.tk s).val then (1 : EReal) else 0 := by
  rw [← tok_at H s]; rfl

theorem row_at (s : Fin 2048) (f : Fin 256 → EReal) : (∑ k : Fin 256, (ohOf (odA m c) (ix2 s k) : EReal) * f k) = f (a.tk s) := by
  simp only [oh_at H]
  exact sum_oh (a.tk s) f

theorem codes_at (s : Fin 2048) (j : Fin 5120) : codesF m c (ix2 s j) = a.code s j := by
  have e1 : (∑ k : Fin 256, (ohOf (odA m c) (ix2 s k) : EReal) * dyA m c (ix2 k j)) = a.d (a.tk s) j :=
    (row_at H s fun k => dyA m c (ix2 k j)).trans (dy_at H _ _)
  have e2 : mA m c (ix2 s ⟨(j.val / 128) % 128, Nat.mod_lt _ (by decide)⟩) = a.gs s * ldexp1 (0 - refEx (a.u s ⟨j.val / 128, by omega⟩)) := by
    have e3 : (⟨(j.val / 128) % 128, Nat.mod_lt _ (by decide)⟩ : Fin 128) = ⟨(⟨j.val / 128, by omega⟩ : Fin 40).val, by show j.val / 128 < 128; omega⟩ :=
      Fin.ext (by show j.val / 128 % 128 = j.val / 128; omega)
    rw [e3]
    show gOf (odA m c) (gtA m c) (scA m c) s * pow2W (IntOp.subi 0#32 (exW (uOf (odA m c) (gtA m c) (scA m c) (dyA m c) s (⟨j.val / 128, by omega⟩ : Fin 40).val))) = _
    rw [g_at H, u_at H, (pow_eq _).2]
  show clip ((∑ k : Fin 256, (ohOf (odA m c) (ix2 s k) : EReal) * dyA m c (ix2 k j)) * mA m c (ix2 s ⟨(j.val / 128) % 128, Nat.mod_lt _ (by decide)⟩)) = _
  rw [e1, e2]
  rfl

theorem scale_at (s : Fin 2048) (l : Fin 40) : scaleA m c (ix2 s l) = a.scale s l := by
  show pow2W (exW (uOf (odA m c) (gtA m c) (scA m c) (dyA m c) s l.val)) = _
  rw [u_at H, (pow_eq _).1]
  rfl

/-! ## The gates' gradients -/

theorem e_at (t : Fin 10) (s : Fin 2048) (l : Fin 512) :
    eB m c t (ix2 s l) = a.e s ⟨512 * t.val + l.val, by omega⟩ :=
  (blk6 m c _ s l).trans (H.e _ _)

theorem d_at (t : Fin 10) (s : Fin 2048) (l : Fin 512) :
    (∑ k : Fin 256, (ohOf (odA m c) (ix2 s k) : EReal) * dB m c t (ix2 k l))
      = a.d (a.tk s) ⟨512 * t.val + l.val, by omega⟩ :=
  (row_at H s fun k => dB m c t (ix2 k l)).trans ((blk4 m c _ _ l).trans (H.d _ _))

theorem es_at (s : Fin 2048) (l : ℕ) (h : l < 40) : esOf (esA m c) (ix2 s ⟨l, by omega⟩) = a.es s ⟨l, h⟩ := by
  show (if h : l < 40 then esA m c (ix2 s ⟨l, h⟩) else 0) = _
  rw [dif_pos h]
  exact (esA_eq m c s _).trans (H.es _ _)

/-- A block's term of a point's products. -/
theorem term_at (t : Fin 10) (s : Fin 2048) (l : Fin 512) (b : ℕ) (hb : b < 40) (h : (512 * t.val + l.val) / 128 = b) :
    (∑ k : Fin 256, (ohOf (odA m c) (ix2 s k) : EReal) * dB m c t (ix2 k l))
      * (eB m c t (ix2 s l) * esOf (esA m c) (ix2 s ⟨b, by omega⟩))
      = a.term s ⟨512 * t.val + l.val, by omega⟩ := by
  rw [d_at H, e_at H, es_at H s b hb]
  subst h
  rfl

theorem prod_at (t : Fin 10) (s : Fin 2048) (l : Fin 128) :
    prodOf t.val t.isLt (esOf (esA m c)) (ohOf (odA m c)) (iblk m c 4 ⟨t.val, lt_of_lt_of_eq t.isLt N_0.symm⟩) (iblk m c 6 ⟨t.val, lt_of_lt_of_eq t.isLt N_0.symm⟩) s l
      = ((a.term s ⟨512 * t.val + l.val, by omega⟩ + a.term s ⟨512 * t.val + (128 + l.val), by omega⟩) + a.term s ⟨512 * t.val + (256 + l.val), by omega⟩)
        + a.term s ⟨512 * t.val + (384 + l.val), by omega⟩ :=
  congrArg₂ (· + ·) (congrArg₂ (· + ·) (congrArg₂ (· + ·)
    (term_at H t s ⟨l.val, by omega⟩ (4 * t.val) (by omega) (by show (512 * t.val + l.val) / 128 = _; omega))
    (term_at H t s ⟨128 + l.val, by omega⟩ (4 * t.val + 1) (by omega) (by show (512 * t.val + (128 + l.val)) / 128 = _; omega)))
    (term_at H t s ⟨256 + l.val, by omega⟩ (4 * t.val + 2) (by omega) (by show (512 * t.val + (256 + l.val)) / 128 = _; omega)))
    (term_at H t s ⟨384 + l.val, by omega⟩ (4 * t.val + 3) (by omega) (by show (512 * t.val + (384 + l.val)) / 128 = _; omega))

/-- The accumulator after some points: the sum of their products. -/
theorem acc_at (N : ℕ) (hN : N ≤ 10) (s : Fin 2048) (l : Fin 128) :
    accA m c N (ix2 s l) = ∑ t : Fin N, (((a.term s ⟨512 * t.val + l.val, by omega⟩ + a.term s ⟨512 * t.val + (128 + l.val), by omega⟩) + a.term s ⟨512 * t.val + (256 + l.val), by omega⟩)
        + a.term s ⟨512 * t.val + (384 + l.val), by omega⟩) := by
  induction N with
  | zero => rfl
  | succ N ih =>
    rw [Fin.sum_univ_castSucc, accA, dif_pos (by omega)]
    exact congrArg₂ (· + ·) (ih (by omega)) (prod_at H ⟨N, by omega⟩ s l)

theorem dot_at (s : Fin 2048) : (∑ l : Fin 128, (accA m c 10 (ix2 s l) : EReal)) = a.dot s := by
  simp only [acc_at H 10 (le_refl _)]
  exact sum_cols (a.term s)

/-- One row of the scatter at a token: the one slot that names the gate and the token. -/
theorem dgSum_at (hi : Function.Injective a.n) (s : Fin 2048) (p : Fin 128) (hp : p.val < 24) (hg : p.val % 8 = (a.gt s).val) :
    dgSum (odA m c) (ohOf (odA m c)) (accA m c 10) 16 p (a.tk s) = pieceVal p (a.dot s) := by
  unfold dgSum
  rw [sum_chunks (dgTerm (odA m c) (ohOf (odA m c)) (accA m c 10) p (a.tk s)), Finset.sum_eq_single s]
  · unfold dgTerm
    rw [gate_at H, if_pos ⟨hp, hg⟩, dot_at H, oh_at H, if_pos rfl, mul_one]
  · intro s' _ hs
    unfold dgTerm
    rw [gate_at H, oh_at H]
    by_cases h : p.val < 24 ∧ p.val % 8 = (a.gt s').val
    · rw [if_pos h, if_neg, mul_zero]
      intro e
      refine hs (hi (Fin.ext ?_))
      have e1 : (a.n s).val / 8 = (a.n s').val / 8 := e
      have e2 : (a.n s).val % 8 = (a.n s').val % 8 := hg.symm.trans h.2
      omega
    · rw [if_neg h]
  · intro h; exact absurd (Finset.mem_univ _) h

theorem dg_at (hi : Function.Injective a.n) (s : Fin 2048) : dgA m c (ix2 (a.tk s) (a.gt s)) = a.dg s := by
  have hg : (a.gt s).val < 8 := (a.gt s).isLt
  have e0 := dgSum_at H hi s ⟨(a.gt s).val, by omega⟩ (by show (a.gt s).val < 24; omega) (by show (a.gt s).val % 8 = _; omega)
  have e1 := dgSum_at H hi s ⟨8 + (a.gt s).val, by omega⟩ (by show 8 + (a.gt s).val < 24; omega) (by show (8 + (a.gt s).val) % 8 = _; omega)
  have e2 := dgSum_at H hi s ⟨16 + (a.gt s).val, by omega⟩ (by show 16 + (a.gt s).val < 24; omega) (by show (16 + (a.gt s).val) % 8 = _; omega)
  have p0 : pieceVal ⟨(a.gt s).val, by omega⟩ (a.dot s) = a.dot s := by unfold pieceVal; rw [if_pos (by show (a.gt s).val < 8; omega)]
  have p1 : pieceVal ⟨8 + (a.gt s).val, by omega⟩ (a.dot s) = a.dot s - a.dot s := by
    unfold pieceVal; rw [if_neg (by show ¬ 8 + (a.gt s).val < 8; omega), if_pos (by show 8 + (a.gt s).val < 16; omega)]
  have p2 : pieceVal ⟨16 + (a.gt s).val, by omega⟩ (a.dot s) = a.dot s - a.dot s - (a.dot s - a.dot s) := by
    unfold pieceVal; rw [if_neg (by show ¬ 16 + (a.gt s).val < 8; omega), if_neg (by show ¬ 16 + (a.gt s).val < 16; omega)]
  have hs : scA m c (ix2 (a.tk s) 0) = a.sc (a.tk s) := (scA_eq m c _ _).trans (H.sc _)
  exact congrArg₂ (· * ·) ((congrArg₂ (· + ·) (congrArg₂ (· + ·) (e0.trans p0) (e1.trans p1)) (e2.trans p2)).trans (pieces (a.dot s))) hs

end Cert.KernelIdeal.Gen

end
-- ==== Proof.Eq.Refs.lean ====
/- The reference's three results, read at a slot. -/
module

public import proofs.«01_k».proof.Proof.Ref.Run
public import proofs.«01_k».proof.Proof.Eq.Math
public import proofs.«01_k».proof.Proof.Eq.Spec

@[expose] public section

set_option maxRecDepth 16384

noncomputable section

namespace Cert.ReferenceIdeal.Gen

open Idealize.ShloMosaic Idealize.ShloMosaic.TcCoe Idealize.SL.Sem
open Cert.KernelIdeal.Tile Cert.Equation

variable (m : (ℓ : Loc nD τ sig) → Buf (Elt Ideal) ℓ) (c : Dev nD)

/-- The memory's arguments have these entries. -/
structure Holds (a : Args) : Prop where
  d : ∀ t j, (m ((c : Thread nD τ).loc main_arg0) : S256x5120.Idx → EReal) (ix2 t j) = a.d t j
  sc : ∀ t, (m ((c : Thread nD τ).loc main_arg1) : S256.Idx → EReal) (ix1 t) = a.sc t
  e : ∀ s j, (m ((c : Thread nD τ).loc main_arg2) : S2048x5120.Idx → EReal) (ix2 s j) = a.e s j
  es : ∀ s l, (m ((c : Thread nD τ).loc main_arg3) : S2048x40.Idx → EReal) (ix2 s l) = a.es s l
  g : ∀ t p, (m ((c : Thread nD τ).loc main_arg4) : S256x8.Idx → EReal) (ix2 t p) = a.g t p
  n : ∀ s, ((m ((c : Thread nD τ).loc main_arg5) : S2048.Idx → BitVec 32) (ix1 s)).toNat = (a.n s).val

variable {m c} {a : Args} (H : Holds m c a)
include H

theorem order_at (s : Fin 2048) : ordM m c (ix1 s) = BitVec.ofNat 32 (a.n s).val := by
  rw [← H.n s]
  exact BitVec.eq_of_toNat_eq (by rw [BitVec.toNat_ofNat, Nat.mod_eq_of_lt (BitVec.isLt _)]; rfl)

theorem dR_at (s : Fin 2048) (j : Fin 5120) : (dR m c : S2048x5120.Idx → EReal) (ix2 s j) = a.d (a.tk s) j :=
  (dR_eq m c s j).trans ((v15_ap (order_at H) s j).trans (H.d _ _))

theorem sR_at (s : Fin 2048) : (sR m c : S2048x1.Idx → EReal) (ix2 s 0) = a.sc (a.tk s) :=
  (sR_eq m c s 0).trans ((v23_ap (order_at H) s 0).trans (H.sc _))

theorem gR_at (s : Fin 2048) : (gR m c : S2048x1.Idx → EReal) (ix2 s 0) = a.g (a.tk s) (a.gt s) :=
  (gR_eq m c s 0).trans ((v24_ap (order_at H) s 0).trans (H.g _ _))

theorem eR_at (s : Fin 2048) (j : Fin 5120) : (eR m c : S2048x5120.Idx → EReal) (ix2 s j) = a.e s j := (eR_eq m c s j).trans (H.e _ _)

theorem esR_at (s : Fin 2048) (l : Fin 40) : (esR m c : S2048x40.Idx → EReal) (ix2 s l) = a.es s l := (esR_eq m c s l).trans (H.es _ _)

/-- A slot's gated gradient: the gate and the scale multiply one code. -/
theorem v_at (s : Fin 2048) (j : Fin 5120) : vR (dR m c) (sR m c) (gR m c) s j = a.gs s * a.d (a.tk s) j := by
  unfold vR Args.gs
  rw [gR_at H, sR_at H, dR_at H, mul_comm (a.d _ _), mul_assoc]

theorem u_at (hf : ∀ t p, ∃ r : ℝ, a.g t p * a.sc t = (r : EReal)) (s : Fin 2048) (l : Fin 40) : uR (dR m c) (sR m c) (gR m c) s l = a.u s l := by
  obtain ⟨r, hr⟩ := hf (a.tk s) (a.gt s)
  have hb : Ideal.ofBits .f32 0xFF800000#32 = (⊥ : EReal) := by simp [Ideal.ofBits, Ideal.ieee]
  unfold uR Args.u uVal rowMax
  simp only [v_at H, hb]
  have hg : a.gs s = (r : EReal) := hr
  rw [hg]
  exact congrArg (· * Ideal.ofBits .f32 0x37924925#32) (fold_abs r fun k : Fin 128 => a.d (a.tk s) ⟨128 * l.val + k.val, by omega⟩)

theorem codes_at (hf : ∀ t p, ∃ r : ℝ, a.g t p * a.sc t = (r : EReal)) (s : Fin 2048) (j : Fin 5120) : codesR m c (ix2 s j) = a.code s j := by
  refine (pay8_pt (dR m c) (sR m c) (gR m c) s j).trans ?_
  rw [v_at H, u_at H hf]
  unfold Args.code
  rw [mul_comm (a.gs s), mul_assoc]

theorem scale_at (hf : ∀ t p, ∃ r : ℝ, a.g t p * a.sc t = (r : EReal)) (s : Fin 2048) (l : Fin 40) : scaleR m c (ix2 s l) = a.scale s l := by
  refine (pay7_pt (dR m c) (sR m c) (gR m c) s l).trans ?_
  rw [u_at H hf]
  rfl

theorem dot_at (s : Fin 2048) : dotR (dR m c) (eR m c) (esR m c) s = a.dot s := by
  unfold dotR Args.dot Args.term
  exact Finset.sum_congr rfl fun j _ => congrArg₂ (· * ·) (dR_at H s j) (congrArg₂ (· * ·) (eR_at H s j) (esR_at H s _))

theorem dg_at (hi : Function.Injective a.n) (s : Fin 2048) : dgR m c (ix2 (a.tk s) (a.gt s)) = a.dg s := by
  refine (dgR_ap (order_at H) s hi).trans ((pay1_pt (dR m c) (sR m c) (eR m c) (esR m c) s 0).trans ?_)
  rw [dot_at H, sR_at H]
  rfl

end Cert.ReferenceIdeal.Gen

end
-- ==== Proof.Eq.Main.lean ====
/- From memories that agree on well-posed arguments the two programs' results are equal. -/
module

public import proofs.«01_k».proof.Proof.Eq.Pre
public import proofs.«01_k».proof.Proof.Eq.Ker
public import proofs.«01_k».proof.Proof.Eq.Refs

@[expose] public section

set_option maxRecDepth 16384

noncomputable section

namespace Cert.Equation

open Idealize.ShloMosaic Idealize.ShloMosaic.TcCoe Idealize.SL.Sem

variable (m : (ℓ : Loc KernelIdeal.nD KernelIdeal.τ KernelIdeal.sig) → Buf (Elt Ideal) ℓ) (c : Dev KernelIdeal.nD)

/-- The arguments' first two kinds of entries, under names that carry their types. -/
def scM : FVec Ideal Pre_well_posed.S256 .f32 := m ((c.tc : Thread KernelIdeal.nD KernelIdeal.τ).loc KernelIdeal.main_arg1)
def gM : FVec Ideal Pre_well_posed.S256x8 .f32 := m ((c.tc : Thread KernelIdeal.nD KernelIdeal.τ).loc KernelIdeal.main_arg4)
def odM : IVec Pre_well_posed.S2048 32 := m ((c.tc : Thread KernelIdeal.nD KernelIdeal.τ).loc KernelIdeal.main_arg5)

variable {m c} (P : Pre_well_posed.Says (scM m c) (gM m c) (odM m c))

/-- A well-posed memory's entries. -/
def argsOf : Args where
  d t j := (m ((c.tc : Thread KernelIdeal.nD KernelIdeal.τ).loc KernelIdeal.main_arg0) : KernelIdeal.S256x5120.Idx → EReal) (ix2 t j)
  sc t := scM m c (ix1 t)
  e s j := (m ((c.tc : Thread KernelIdeal.nD KernelIdeal.τ).loc KernelIdeal.main_arg2) : KernelIdeal.S2048x5120.Idx → EReal) (ix2 s j)
  es s l := (m ((c.tc : Thread KernelIdeal.nD KernelIdeal.τ).loc KernelIdeal.main_arg3) : KernelIdeal.S2048x40.Idx → EReal) (ix2 s l)
  g t p := gM m c (ix2 t p)
  n s := ⟨(odM m c (ix1 s)).toNat, P.lt s⟩

theorem holds : KernelIdeal.Gen.Holds m c (argsOf P) := ⟨fun _ _ => rfl, fun _ => rfl, fun _ _ => rfl, fun _ _ => rfl, fun _ _ => rfl, fun _ => rfl⟩

/-- The order names every slot once. -/
theorem inj : Function.Injective (argsOf P).n := fun s s' h => P.inj s s' (BitVec.eq_of_toNat_eq (show ((argsOf P).n s).val = ((argsOf P).n s').val from congrArg Fin.val h))

theorem surj : Function.Surjective (argsOf P).n := Finite.injective_iff_surjective.1 (inj P)

include P in
theorem good : KernelIdeal.Gen.Good m c := by
  refine ⟨fun s => ?_, fun t p => ?_⟩
  · rw [KernelIdeal.Gen.ordN_at (holds P)]; exact ((argsOf P).n s).isLt
  · rw [KernelIdeal.Gen.gtA_eq, KernelIdeal.Gen.scA_eq]; exact P.fin t p

variable {m' : (ℓ : Loc ReferenceIdeal.nD ReferenceIdeal.τ ReferenceIdeal.sig) → Buf (Elt Ideal) ℓ} {c' : Dev ReferenceIdeal.nD}
  (H : ReferenceIdeal.Gen.Holds m' c' (argsOf P))
include H

theorem codes_eq : (ReferenceIdeal.Gen.codesR m' c' : KernelIdeal.S2048x5120.Idx → EReal) = KernelIdeal.Gen.codesF m c := by
  funext y
  idx_vars y
  exact (ReferenceIdeal.Gen.codes_at H P.fin y0 y1).trans (KernelIdeal.Gen.codes_at (holds P) y0 y1).symm

theorem scale_eq : (ReferenceIdeal.Gen.scaleR m' c' : KernelIdeal.S2048x40.Idx → EReal) = KernelIdeal.Gen.scaleA m c := by
  funext y
  idx_vars y
  exact (ReferenceIdeal.Gen.scale_at H P.fin y0 y1).trans (KernelIdeal.Gen.scale_at (holds P) y0 y1).symm

theorem dg_eq : (ReferenceIdeal.Gen.dgR m' c' : KernelIdeal.S256x8.Idx → EReal) = KernelIdeal.Gen.dgA m c := by
  funext y
  idx_vars y
  obtain ⟨s, hs⟩ := surj P ⟨8 * y0.val + y1.val, by omega⟩
  have e0 : y0 = (argsOf P).tk s := Fin.ext (by show y0.val = ((argsOf P).n s).val / 8; rw [hs]; show _ = (8 * y0.val + y1.val) / 8; omega)
  have e1 : y1 = (argsOf P).gt s := Fin.ext (by show y1.val = ((argsOf P).n s).val % 8; rw [hs]; show _ = (8 * y0.val + y1.val) % 8; omega)
  rw [e0, e1]
  exact (ReferenceIdeal.Gen.dg_at H (inj P) s).trans (KernelIdeal.Gen.dg_at (holds P) (inj P) s).symm

end Cert.Equation

end
-- ==== Proof.lean ====
module

public import proofs.«01_k».proof.Defs
public import proofs.«01_k».proof.Proof.K.Frame
public import proofs.«01_k».proof.Proof.Gen.ReferenceIdeal.Frame
public import proofs.«01_k».proof.Proof.KI.Final
public import proofs.«01_k».proof.Proof.Ref.Run
public import proofs.«01_k».proof.Proof.Eq.Main
public import Idealize.ShloMosaic.Adequacy
public import Idealize.ShloMosaic.Init

@[expose] public section

noncomputable section

namespace Cert.Proof

open Idealize.ShloMosaic Idealize.SL.Sem

/-- From well-posed arguments the two programs leave equal results. -/
theorem algebraic : algebraic_KernelIdeal_ReferenceIdeal_pre_well_posed (hKernelIdeal := Cert.KernelIdeal.Gen.facts)
    (hReferenceIdeal := Cert.ReferenceIdeal.Gen.facts) (hPre_well_posed := Cert.Pre_well_posed.facts) := by
  intro m g m' g' hP hA
  have P : ∀ c, Cert.Pre_well_posed.Says (Cert.Equation.scM m c) (Cert.Equation.gM m c) (Cert.Equation.odM m c) := fun c => Cert.Pre_well_posed.says_of (hP c)
  have H : ∀ c, Cert.ReferenceIdeal.Gen.Holds m' c (Cert.Equation.argsOf (P c)) := fun c =>
    ⟨fun t j => congrFun (hA c).1 (ix2 t j), fun t => congrFun (hA c).2.1 (ix1 t), fun s j => congrFun (hA c).2.2.1 (ix2 s j),
      fun s l => congrFun (hA c).2.2.2.1 (ix2 s l), fun t p => congrFun (hA c).2.2.2.2.1 (ix2 t p),
      fun s => (congrArg (BitVec.toNat (w := 32)) (congrFun (hA c).2.2.2.2.2 (ix1 s))).trans rfl⟩
  refine ⟨fun c => Cert.KernelIdeal.Gen.codesF m c, fun c => Cert.KernelIdeal.Gen.scaleA m c, fun c => Cert.KernelIdeal.Gen.dgA m c, ?_, ?_⟩
  · refine (θ_run _ _ _).mono (fun r h c => ?_) (Cert.KernelIdeal.Gen.run_value m g)
    obtain ⟨e0, e1, e2⟩ := (h c).1 (Cert.Equation.good (P c))
    exact ⟨e0, e1, e2, (h c).2⟩
  · refine (θ_run _ _ _).mono (fun r h c => ?_) (Cert.ReferenceIdeal.Gen.run_value m' g')
    obtain ⟨e0, e1, e2⟩ := (h c).1
    exact ⟨e0.trans (Cert.Equation.codes_eq (P c) (H c)), e1.trans (Cert.Equation.scale_eq (P c) (H c)), e2.trans (Cert.Equation.dg_eq (P c) (H c)), (h c).2⟩

/-- The claim: the frames, each read off its program's run, the idealization's rewrites, and the equality. -/
theorem claim : Cert.Claim := ⟨Cert.Kernel.Gen.facts, Cert.KernelIdeal.Gen.facts, Cert.ReferenceIdeal.Gen.facts, Cert.Pre_well_posed.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  ⟨IdealRules.bf16_pack.statement _, IdealRules.bf16_pack.statement _⟩,
  algebraic⟩

end Cert.Proof

end
